-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = Layout.block ⟨2, ![256, 8192]⟩ ⟨2, ![4096, 8192]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S4096x8192 : Shape := ⟨2, ![4096, 8192]⟩
abbrev S16x16 : Shape := ⟨2, ![16, 16]⟩
abbrev S_ : Shape := ⟨0, ![]⟩
abbrev S1x16 : Shape := ⟨2, ![1, 16]⟩
abbrev S16 : Shape := ⟨1, ![16]⟩
abbrev S256x8192 : Shape := ⟨2, ![256, 8192]⟩
abbrev S16x256x256 : Shape := ⟨3, ![16, 256, 256]⟩
abbrev S3x256x8192 : Shape := ⟨3, ![3, 256, 8192]⟩
abbrev S3 : Shape := ⟨1, ![3]⟩
abbrev S1 : Shape := ⟨1, ![1]⟩
abbrev S1x256x8192 : Shape := ⟨3, ![1, 256, 8192]⟩
abbrev S1x256x256 : Shape := ⟨3, ![1, 256, 256]⟩
abbrev S256x256 : Shape := ⟨2, ![256, 256]⟩

abbrev nBuf : Space → Nat
  | .hbm => 25
  | .vmem => 5
  | .smem => 1
  | _ => 0

abbrev bufTy : (tb : Table) → Fin (tcTables nBuf tb) → BufTy
  | .hbm, ⟨0, _⟩ => ⟨S4096x256, .f32⟩
  | .hbm, ⟨1, _⟩ => ⟨S4096x8192, .f32⟩
  | .hbm, ⟨2, _⟩ => ⟨S16x16, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S1x16, .i32⟩
  | .hbm, ⟨23, _⟩ => ⟨S16, .i32⟩
  | .hbm, ⟨24, _⟩ => ⟨S256x8192, .f32⟩
  | .local _ .vmem, ⟨0, _⟩ => ⟨S4096x256, .f32⟩
  | .local _ .vmem, ⟨1, _⟩ => ⟨S256x8192, .f32⟩
  | .local _ .vmem, ⟨2, _⟩ => ⟨S4096x256, .bf16⟩
  | .local _ .vmem, ⟨3, _⟩ => ⟨S16x256x256, .bf16⟩
  | .local _ .vmem, ⟨4, _⟩ => ⟨S3x256x8192, .f32⟩
  | .local _ .smem, ⟨0, _⟩ => ⟨S16, .i32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_2 : Ref sig .tc := ⟨.hbm, 9, rfl⟩
abbrev main_v5 : Ref sig .tc := ⟨.hbm, 10, rfl⟩
abbrev main_c_3 : Ref sig .tc := ⟨.hbm, 11, rfl⟩
abbrev main_v6 : Ref sig .tc := ⟨.hbm, 12, rfl⟩
abbrev main_v7 : Ref sig .tc := ⟨.hbm, 13, rfl⟩
abbrev main_c_4 : Ref sig .tc := ⟨.hbm, 14, rfl⟩
abbrev main_c_5 : Ref sig .tc := ⟨.hbm, 15, rfl⟩
abbrev main_v8 : Ref sig .tc := ⟨.hbm, 16, rfl⟩
abbrev main_c_6 : Ref sig .tc := ⟨.hbm, 17, rfl⟩
abbrev main_c_7 : Ref sig .tc := ⟨.hbm, 18, rfl⟩
abbrev main_v9 : Ref sig .tc := ⟨.hbm, 19, rfl⟩
abbrev main_c_8 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 : Nat :=
  let c0_i32_2 : BitVec 32 := 0#32
  let c0_i32 : BitVec 32 := 0#32
  let c1_i32_1 : BitVec 32 := 1#32
  let v4 : BitVec 32 := Scalar.muli c0_i32 c1_i32_1
  let v5 : BitVec 32 := Scalar.addi c0_i32_2 v4
  v5.toNat
def k0_dev2 : Nat :=
  let c0_i32_6 : BitVec 32 := 0#32
  let c1_i32_4 : BitVec 32 := 1#32
  let c1_i32_5 : BitVec 32 := 1#32
  let v6 : BitVec 32 := Scalar.muli c1_i32_4 c1_i32_5
  let v7 : BitVec 32 := Scalar.addi c0_i32_6 v6
  v7.toNat
def k0_dev3 : Nat :=
  let c0_i32_9 : BitVec 32 := 0#32
  let c2_i32 : BitVec 32 := 2#32
  let c1_i32_8 : BitVec 32 := 1#32
  let v8 : BitVec 32 := Scalar.muli c2_i32 c1_i32_8
  let v9 : BitVec 32 := Scalar.addi c0_i32_9 v8
  v9.toNat
def k0_dev4 : Nat :=
  let c0_i32_12 : BitVec 32 := 0#32
  let c3_i32 : BitVec 32 := 3#32
  let c1_i32_11 : BitVec 32 := 1#32
  let v10 : BitVec 32 := Scalar.muli c3_i32 c1_i32_11
  let v11 : BitVec 32 := Scalar.addi c0_i32_12 v10
  v11.toNat
def k0_dev5 : Nat :=
  let c0_i32_15 : BitVec 32 := 0#32
  let c4_i32 : BitVec 32 := 4#32
  let c1_i32_14 : BitVec 32 := 1#32
  let v12 : BitVec 32 := Scalar.muli c4_i32 c1_i32_14
  let v13 : BitVec 32 := Scalar.addi c0_i32_15 v12
  v13.toNat
def k0_dev6 : Nat :=
  let c0_i32_18 : BitVec 32 := 0#32
  let c5_i32 : BitVec 32 := 5#32
  let c1_i32_17 : BitVec 32 := 1#32
  let v14 : BitVec 32 := Scalar.muli c5_i32 c1_i32_17
  let v15 : BitVec 32 := Scalar.addi c0_i32_18 v14
  v15.toNat
def k0_dev7 : Nat :=
  let c0_i32_21 : BitVec 32 := 0#32
  let c6_i32 : BitVec 32 := 6#32
  let c1_i32_20 : BitVec 32 := 1#32
  let v16 : BitVec 32 := Scalar.muli c6_i32 c1_i32_20
  let v17 : BitVec 32 := Scalar.addi c0_i32_21 v16
  v17.toNat
def k0_dev8 : Nat :=
  let c0_i32_24 : BitVec 32 := 0#32
  let c7_i32 : BitVec 32 := 7#32
  let c1_i32_23 : BitVec 32 := 1#32
  let v18 : BitVec 32 := Scalar.muli c7_i32 c1_i32_23
  let v19 : BitVec 32 := Scalar.addi c0_i32_24 v18
  v19.toNat
def k0_dev9 : Nat :=
  let c0_i32_27 : BitVec 32 := 0#32
  let c8_i32 : BitVec 32 := 8#32
  let c1_i32_26 : BitVec 32 := 1#32
  let v20 : BitVec 32 := Scalar.muli c8_i32 c1_i32_26
  let v21 : BitVec 32 := Scalar.addi c0_i32_27 v20
  v21.toNat
def k0_dev10 : Nat :=
  let c0_i32_30 : BitVec 32 := 0#32
  let c9_i32 : BitVec 32 := 9#32
  let c1_i32_29 : BitVec 32 := 1#32
  let v22 : BitVec 32 := Scalar.muli c9_i32 c1_i32_29
  let v23 : BitVec 32 := Scalar.addi c0_i32_30 v22
  v23.toNat
def k0_dev11 : Nat :=
  let c0_i32_33 : BitVec 32 := 0#32
  let c10_i32 : BitVec 32 := 10#32
  let c1_i32_32 : BitVec 32 := 1#32
  let v24 : BitVec 32 := Scalar.muli c10_i32 c1_i32_32
  let v25 : BitVec 32 := Scalar.addi c0_i32_33 v24
  v25.toNat
def k0_dev12 : Nat :=
  let c0_i32_36 : BitVec 32 := 0#32
  let c11_i32 : BitVec 32 := 11#32
  let c1_i32_35 : BitVec 32 := 1#32
  let v26 : BitVec 32 := Scalar.muli c11_i32 c1_i32_35
  let v27 : BitVec 32 := Scalar.addi c0_i32_36 v26
  v27.toNat
def k0_dev13 : Nat :=
  let c0_i32_39 : BitVec 32 := 0#32
  let c12_i32 : BitVec 32 := 12#32
  let c1_i32_38 : BitVec 32 := 1#32
  let v28 : BitVec 32 := Scalar.muli c12_i32 c1_i32_38
  let v29 : BitVec 32 := Scalar.addi c0_i32_39 v28
  v29.toNat
def k0_dev14 : Nat :=
  let c0_i32_42 : BitVec 32 := 0#32
  let c13_i32 : BitVec 32 := 13#32
  let c1_i32_41 : BitVec 32 := 1#32
  let v30 : BitVec 32 := Scalar.muli c13_i32 c1_i32_41
  let v31 : BitVec 32 := Scalar.addi c0_i32_42 v30
  v31.toNat
def k0_dev15 : Nat :=
  let c0_i32_45 : BitVec 32 := 0#32
  let c14_i32 : BitVec 32 := 14#32
  let c1_i32_44 : BitVec 32 := 1#32
  let v32 : BitVec 32 := Scalar.muli c14_i32 c1_i32_44
  let v33 : BitVec 32 := Scalar.addi c0_i32_45 v32
  v33.toNat
def k0_dev16 : Nat :=
  let c0_i32_48 : BitVec 32 := 0#32
  let c15_i32 : BitVec 32 := 15#32
  let c1_i32_47 : BitVec 32 := 1#32
  let v34 : BitVec 32 := Scalar.muli c15_i32 c1_i32_47
  let v35 : BitVec 32 := Scalar.addi c0_i32_48 v34
  v35.toNat
def k0_off1 (v36 : BitVec 32) : Fin 2 → Nat :=
  let c256_i32 : BitVec 32 := 256#32
  let v37 : BitVec 32 := Scalar.muli v36 c256_i32
  let c0_i32_54 : BitVec 32 := 0#32
  ![v37.toNat, 0]

def k0_off2 (v43 : BitVec 32) : Fin 2 → Nat :=
  let c256_i32_55 : BitVec 32 := 256#32
  let v44 : BitVec 32 := Scalar.muli v43 c256_i32_55
  let c0_i32_60 : BitVec 32 := 0#32
  ![v44.toNat, 0]

def k0_off3 (v50 : BitVec 32) : Fin 2 → Nat :=
  let c256_i32_61 : BitVec 32 := 256#32
  let v51 : BitVec 32 := Scalar.muli v50 c256_i32_61
  let c0_i32_66 : BitVec 32 := 0#32
  ![v51.toNat, 0]

def k0_off4 (v63 : BitVec 32) : Fin 1 → Nat :=
  ![v63.toNat]

def k0_off5 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_75 : BitVec 32 := 0#32
  let c0_i32_76 : BitVec 32 := 0#32
  ![v2.toNat, 0, 0]
def k0_off7 (v63 : BitVec 32) : Fin 2 → Nat :=
  let c256_i32_72 : BitVec 32 := 256#32
  let v64 : BitVec 32 := Scalar.muli v63 c256_i32_72
  let c0_i32_77 : BitVec 32 := 0#32
  ![v64.toNat, 0]
def k0_dev17 (v63 : BitVec 32) : Nat :=
  let c0_i32_74 : BitVec 32 := 0#32
  let c1_i32_73 : BitVec 32 := 1#32
  let v65 : BitVec 32 := Scalar.muli v63 c1_i32_73
  let v66 : BitVec 32 := Scalar.addi c0_i32_74 v65
  v66.toNat

def k0_chk4 (v63 : BitVec 32) : Prop :=
  (∀ a, (k0_off4 v63) a + S1.size a ≤ S16.size a) ∧
  (∀ a, (k0_off7 v63) a + S256x256.size a ≤ S4096x256.size a) ∧
  (∀ (hinb : ∀ a, (k0_off7 v63) a + S256x256.size a ≤ S4096x256.size a), (Rect.unit (s := S4096x256) (k0_off7 v63) S256x256.size hinb).WholeWords (EltTy.packing .bf16)) ∧
  ((k0_dev17 v63) < nD)
theorem k0_off4_inb : ∀ (v63 : BitVec 32) (k0_hw4 : k0_chk4 v63), ∀ a, (k0_off4 v63) a + S1.size a ≤ S16.size a := fun v63 k0_hw4 => k0_hw4.1
theorem k0_off7_inb : ∀ (v63 : BitVec 32) (k0_hw4 : k0_chk4 v63), ∀ a, (k0_off7 v63) a + S256x256.size a ≤ S4096x256.size a := fun v63 k0_hw4 => k0_hw4.2.1
theorem k0_off7_wordsbf16 : ∀ (v63 : BitVec 32) (k0_hw4 : k0_chk4 v63), (Rect.unit (s := S4096x256) (k0_off7 v63) S256x256.size (k0_off7_inb v63 k0_hw4)).WholeWords (EltTy.packing .bf16) := fun v63 k0_hw4 => k0_hw4.2.2.1 (k0_off7_inb v63 k0_hw4)
theorem k0_dev17_lt : ∀ (v63 : BitVec 32) (k0_hw4 : k0_chk4 v63), (k0_dev17 v63) < nD := fun v63 k0_hw4 => k0_hw4.2.2.2

def k0_off8 (v74 : BitVec 32) : Fin 1 → Nat :=
  ![v74.toNat]

def k0_off9 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_82 : BitVec 32 := 0#32
  let c0_i32_83 : BitVec 32 := 0#32
  ![v2.toNat, 0, 0]
def k0_off11 (v74 : BitVec 32) : Fin 2 → Nat :=
  let c256_i32_79 : BitVec 32 := 256#32
  let v75 : BitVec 32 := Scalar.muli v74 c256_i32_79
  let c0_i32_84 : BitVec 32 := 0#32
  ![v75.toNat, 0]
def k0_dev18 (v74 : BitVec 32) : Nat :=
  let c0_i32_81 : BitVec 32 := 0#32
  let c1_i32_80 : BitVec 32 := 1#32
  let v76 : BitVec 32 := Scalar.muli v74 c1_i32_80
  let v77 : BitVec 32 := Scalar.addi c0_i32_81 v76
  v77.toNat

def k0_chk5 (v74 : BitVec 32) : Prop :=
  (∀ a, (k0_off8 v74) a + S1.size a ≤ S16.size a) ∧
  (∀ a, (k0_off11 v74) a + S256x256.size a ≤ S4096x256.size a) ∧
  (∀ (hinb : ∀ a, (k0_off11 v74) a + S256x256.size a ≤ S4096x256.size a), (Rect.unit (s := S4096x256) (k0_off11 v74) S256x256.size hinb).WholeWords (EltTy.packing .bf16)) ∧
  ((k0_dev18 v74) < nD)
theorem k0_off8_inb : ∀ (v74 : BitVec 32) (k0_hw5 : k0_chk5 v74), ∀ a, (k0_off8 v74) a + S1.size a ≤ S16.size a := fun v74 k0_hw5 => k0_hw5.1
theorem k0_off11_inb : ∀ (v74 : BitVec 32) (k0_hw5 : k0_chk5 v74), ∀ a, (k0_off11 v74) a + S256x256.size a ≤ S4096x256.size a := fun v74 k0_hw5 => k0_hw5.2.1
theorem k0_off11_wordsbf16 : ∀ (v74 : BitVec 32) (k0_hw5 : k0_chk5 v74), (Rect.unit (s := S4096x256) (k0_off11 v74) S256x256.size (k0_off11_inb v74 k0_hw5)).WholeWords (EltTy.packing .bf16) := fun v74 k0_hw5 => k0_hw5.2.2.1 (k0_off11_inb v74 k0_hw5)
theorem k0_dev18_lt : ∀ (v74 : BitVec 32) (k0_hw5 : k0_chk5 v74), (k0_dev18 v74) < nD := fun v74 k0_hw5 => k0_hw5.2.2.2

def k0_off12 (v85 : BitVec 32) : Fin 1 → Nat :=
  ![v85.toNat]

def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_88 : BitVec 32 := 0#32
  let c0_i32_89 : BitVec 32 := 0#32
  ![v2.toNat, 0, 0]
def k0_off15 (v85 : BitVec 32) : Fin 2 → Nat :=
  let c256_i32_85 : BitVec 32 := 256#32
  let v86 : BitVec 32 := Scalar.muli v85 c256_i32_85
  let c0_i32_90 : BitVec 32 := 0#32
  ![v86.toNat, 0]
def k0_dev19 (v85 : BitVec 32) : Nat :=
  let c0_i32_87 : BitVec 32 := 0#32
  let c1_i32_86 : BitVec 32 := 1#32
  let v87 : BitVec 32 := Scalar.muli v85 c1_i32_86
  let v88 : BitVec 32 := Scalar.addi c0_i32_87 v87
  v88.toNat

def k0_chk6 (v85 : BitVec 32) : Prop :=
  (∀ a, (k0_off12 v85) a + S1.size a ≤ S16.size a) ∧
  (∀ a, (k0_off15 v85) a + S256x256.size a ≤ S4096x256.size a) ∧
  (∀ (hinb : ∀ a, (k0_off15 v85) a + S256x256.size a ≤ S4096x256.size a), (Rect.unit (s := S4096x256) (k0_off15 v85) S256x256.size hinb).WholeWords (EltTy.packing .bf16)) ∧
  ((k0_dev19 v85) < nD)
theorem k0_off12_inb : ∀ (v85 : BitVec 32) (k0_hw6 : k0_chk6 v85), ∀ a, (k0_off12 v85) a + S1.size a ≤ S16.size a := fun v85 k0_hw6 => k0_hw6.1
theorem k0_off15_inb : ∀ (v85 : BitVec 32) (k0_hw6 : k0_chk6 v85), ∀ a, (k0_off15 v85) a + S256x256.size a ≤ S4096x256.size a := fun v85 k0_hw6 => k0_hw6.2.1
theorem k0_off15_wordsbf16 : ∀ (v85 : BitVec 32) (k0_hw6 : k0_chk6 v85), (Rect.unit (s := S4096x256) (k0_off15 v85) S256x256.size (k0_off15_inb v85 k0_hw6)).WholeWords (EltTy.packing .bf16) := fun v85 k0_hw6 => k0_hw6.2.2.1 (k0_off15_inb v85 k0_hw6)
theorem k0_dev19_lt : ∀ (v85 : BitVec 32) (k0_hw6 : k0_chk6 v85), (k0_dev19 v85) < nD := fun v85 k0_hw6 => k0_hw6.2.2.2

def k0_off16 (v96 : BitVec 32) : Fin 1 → Nat :=
  ![v96.toNat]

def k0_off17 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_94 : BitVec 32 := 0#32
  let c0_i32_95 : BitVec 32 := 0#32
  ![v2.toNat, 0, 0]
def k0_off19 (v96 : BitVec 32) : Fin 2 → Nat :=
  let c256_i32_91 : BitVec 32 := 256#32
  let v97 : BitVec 32 := Scalar.muli v96 c256_i32_91
  let c0_i32_96 : BitVec 32 := 0#32
  ![v97.toNat, 0]
def k0_dev20 (v96 : BitVec 32) : Nat :=
  let c0_i32_93 : BitVec 32 := 0#32
  let c1_i32_92 : BitVec 32 := 1#32
  let v98 : BitVec 32 := Scalar.muli v96 c1_i32_92
  let v99 : BitVec 32 := Scalar.addi c0_i32_93 v98
  v99.toNat

def k0_chk7 (v96 : BitVec 32) : Prop :=
  (∀ a, (k0_off16 v96) a + S1.size a ≤ S16.size a) ∧
  (∀ a, (k0_off19 v96) a + S256x256.size a ≤ S4096x256.size a) ∧
  (∀ (hinb : ∀ a, (k0_off19 v96) a + S256x256.size a ≤ S4096x256.size a), (Rect.unit (s := S4096x256) (k0_off19 v96) S256x256.size hinb).WholeWords (EltTy.packing .bf16)) ∧
  ((k0_dev20 v96) < nD)
theorem k0_off16_inb : ∀ (v96 : BitVec 32) (k0_hw7 : k0_chk7 v96), ∀ a, (k0_off16 v96) a + S1.size a ≤ S16.size a := fun v96 k0_hw7 => k0_hw7.1
theorem k0_off19_inb : ∀ (v96 : BitVec 32) (k0_hw7 : k0_chk7 v96), ∀ a, (k0_off19 v96) a + S256x256.size a ≤ S4096x256.size a := fun v96 k0_hw7 => k0_hw7.2.1
theorem k0_off19_wordsbf16 : ∀ (v96 : BitVec 32) (k0_hw7 : k0_chk7 v96), (Rect.unit (s := S4096x256) (k0_off19 v96) S256x256.size (k0_off19_inb v96 k0_hw7)).WholeWords (EltTy.packing .bf16) := fun v96 k0_hw7 => k0_hw7.2.2.1 (k0_off19_inb v96 k0_hw7)
theorem k0_dev20_lt : ∀ (v96 : BitVec 32) (k0_hw7 : k0_chk7 v96), (k0_dev20 v96) < nD := fun v96 k0_hw7 => k0_hw7.2.2.2

def k0_off20 (v107 : BitVec 32) : Fin 1 → Nat :=
  ![v107.toNat]

def k0_off21 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_100 : BitVec 32 := 0#32
  let c0_i32_101 : BitVec 32 := 0#32
  ![v2.toNat, 0, 0]
def k0_off23 (v107 : BitVec 32) : Fin 2 → Nat :=
  let c256_i32_97 : BitVec 32 := 256#32
  let v108 : BitVec 32 := Scalar.muli v107 c256_i32_97
  let c0_i32_102 : BitVec 32 := 0#32
  ![v108.toNat, 0]
def k0_dev21 (v107 : BitVec 32) : Nat :=
  let c0_i32_99 : BitVec 32 := 0#32
  let c1_i32_98 : BitVec 32 := 1#32
  let v109 : BitVec 32 := Scalar.muli v107 c1_i32_98
  let v110 : BitVec 32 := Scalar.addi c0_i32_99 v109
  v110.toNat

def k0_chk8 (v107 : BitVec 32) : Prop :=
  (∀ a, (k0_off20 v107) a + S1.size a ≤ S16.size a) ∧
  (∀ a, (k0_off23 v107) a + S256x256.size a ≤ S4096x256.size a) ∧
  (∀ (hinb : ∀ a, (k0_off23 v107) a + S256x256.size a ≤ S4096x256.size a), (Rect.unit (s := S4096x256) (k0_off23 v107) S256x256.size hinb).WholeWords (EltTy.packing .bf16)) ∧
  ((k0_dev21 v107) < nD)
theorem k0_off20_inb : ∀ (v107 : BitVec 32) (k0_hw8 : k0_chk8 v107), ∀ a, (k0_off20 v107) a + S1.size a ≤ S16.size a := fun v107 k0_hw8 => k0_hw8.1
theorem k0_off23_inb : ∀ (v107 : BitVec 32) (k0_hw8 : k0_chk8 v107), ∀ a, (k0_off23 v107) a + S256x256.size a ≤ S4096x256.size a := fun v107 k0_hw8 => k0_hw8.2.1
theorem k0_off23_wordsbf16 : ∀ (v107 : BitVec 32) (k0_hw8 : k0_chk8 v107), (Rect.unit (s := S4096x256) (k0_off23 v107) S256x256.size (k0_off23_inb v107 k0_hw8)).WholeWords (EltTy.packing .bf16) := fun v107 k0_hw8 => k0_hw8.2.2.1 (k0_off23_inb v107 k0_hw8)
theorem k0_dev21_lt : ∀ (v107 : BitVec 32) (k0_hw8 : k0_chk8 v107), (k0_dev21 v107) < nD := fun v107 k0_hw8 => k0_hw8.2.2.2

def k0_off24 (v118 : BitVec 32) : Fin 1 → Nat :=
  ![v118.toNat]

def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_106 : BitVec 32 := 0#32
  let c0_i32_107 : BitVec 32 := 0#32
  ![v2.toNat, 0, 0]
def k0_off27 (v118 : BitVec 32) : Fin 2 → Nat :=
  let c256_i32_103 : BitVec 32 := 256#32
  let v119 : BitVec 32 := Scalar.muli v118 c256_i32_103
  let c0_i32_108 : BitVec 32 := 0#32
  ![v119.toNat, 0]
def k0_dev22 (v118 : BitVec 32) : Nat :=
  let c0_i32_105 : BitVec 32 := 0#32
  let c1_i32_104 : BitVec 32 := 1#32
  let v120 : BitVec 32 := Scalar.muli v118 c1_i32_104
  let v121 : BitVec 32 := Scalar.addi c0_i32_105 v120
  v121.toNat

def k0_chk9 (v118 : BitVec 32) : Prop :=
  (∀ a, (k0_off24 v118) a + S1.size a ≤ S16.size a) ∧
  (∀ a, (k0_off27 v118) a + S256x256.size a ≤ S4096x256.size a) ∧
  (∀ (hinb : ∀ a, (k0_off27 v118) a + S256x256.size a ≤ S4096x256.size a), (Rect.unit (s := S4096x256) (k0_off27 v118) S256x256.size hinb).WholeWords (EltTy.packing .bf16)) ∧
  ((k0_dev22 v118) < nD)
theorem k0_off24_inb : ∀ (v118 : BitVec 32) (k0_hw9 : k0_chk9 v118), ∀ a, (k0_off24 v118) a + S1.size a ≤ S16.size a := fun v118 k0_hw9 => k0_hw9.1
theorem k0_off27_inb : ∀ (v118 : BitVec 32) (k0_hw9 : k0_chk9 v118), ∀ a, (k0_off27 v118) a + S256x256.size a ≤ S4096x256.size a := fun v118 k0_hw9 => k0_hw9.2.1
theorem k0_off27_wordsbf16 : ∀ (v118 : BitVec 32) (k0_hw9 : k0_chk9 v118), (Rect.unit (s := S4096x256) (k0_off27 v118) S256x256.size (k0_off27_inb v118 k0_hw9)).WholeWords (EltTy.packing .bf16) := fun v118 k0_hw9 => k0_hw9.2.2.1 (k0_off27_inb v118 k0_hw9)
theorem k0_dev22_lt : ∀ (v118 : BitVec 32) (k0_hw9 : k0_chk9 v118), (k0_dev22 v118) < nD := fun v118 k0_hw9 => k0_hw9.2.2.2

def k0_off28 (v129 : BitVec 32) : Fin 1 → Nat :=
  ![v129.toNat]

def k0_off29 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_112 : BitVec 32 := 0#32
  let c0_i32_113 : BitVec 32 := 0#32
  ![v2.toNat, 0, 0]
def k0_off31 (v129 : BitVec 32) : Fin 2 → Nat :=
  let c256_i32_109 : BitVec 32 := 256#32
  let v130 : BitVec 32 := Scalar.muli v129 c256_i32_109
  let c0_i32_114 : BitVec 32 := 0#32
  ![v130.toNat, 0]
def k0_dev23 (v129 : BitVec 32) : Nat :=
  let c0_i32_111 : BitVec 32 := 0#32
  let c1_i32_110 : BitVec 32 := 1#32
  let v131 : BitVec 32 := Scalar.muli v129 c1_i32_110
  let v132 : BitVec 32 := Scalar.addi c0_i32_111 v131
  v132.toNat

def k0_chk10 (v129 : BitVec 32) : Prop :=
  (∀ a, (k0_off28 v129) a + S1.size a ≤ S16.size a) ∧
  (∀ a, (k0_off31 v129) a + S256x256.size a ≤ S4096x256.size a) ∧
  (∀ (hinb : ∀ a, (k0_off31 v129) a + S256x256.size a ≤ S4096x256.size a), (Rect.unit (s := S4096x256) (k0_off31 v129) S256x256.size hinb).WholeWords (EltTy.packing .bf16)) ∧
  ((k0_dev23 v129) < nD)
theorem k0_off28_inb : ∀ (v129 : BitVec 32) (k0_hw10 : k0_chk10 v129), ∀ a, (k0_off28 v129) a + S1.size a ≤ S16.size a := fun v129 k0_hw10 => k0_hw10.1
theorem k0_off31_inb : ∀ (v129 : BitVec 32) (k0_hw10 : k0_chk10 v129), ∀ a, (k0_off31 v129) a + S256x256.size a ≤ S4096x256.size a := fun v129 k0_hw10 => k0_hw10.2.1
theorem k0_off31_wordsbf16 : ∀ (v129 : BitVec 32) (k0_hw10 : k0_chk10 v129), (Rect.unit (s := S4096x256) (k0_off31 v129) S256x256.size (k0_off31_inb v129 k0_hw10)).WholeWords (EltTy.packing .bf16) := fun v129 k0_hw10 => k0_hw10.2.2.1 (k0_off31_inb v129 k0_hw10)
theorem k0_dev23_lt : ∀ (v129 : BitVec 32) (k0_hw10 : k0_chk10 v129), (k0_dev23 v129) < nD := fun v129 k0_hw10 => k0_hw10.2.2.2

def k0_off32 (v140 : BitVec 32) : Fin 1 → Nat :=
  ![v140.toNat]

def k0_off33 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off34 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_118 : BitVec 32 := 0#32
  let c0_i32_119 : BitVec 32 := 0#32
  ![v2.toNat, 0, 0]
def k0_off35 (v140 : BitVec 32) : Fin 2 → Nat :=
  let c256_i32_115 : BitVec 32 := 256#32
  let v141 : BitVec 32 := Scalar.muli v140 c256_i32_115
  let c0_i32_120 : BitVec 32 := 0#32
  ![v141.toNat, 0]
def k0_dev24 (v140 : BitVec 32) : Nat :=
  let c0_i32_117 : BitVec 32 := 0#32
  let c1_i32_116 : BitVec 32 := 1#32
  let v142 : BitVec 32 := Scalar.muli v140 c1_i32_116
  let v143 : BitVec 32 := Scalar.addi c0_i32_117 v142
  v143.toNat

def k0_chk11 (v140 : BitVec 32) : Prop :=
  (∀ a, (k0_off32 v140) a + S1.size a ≤ S16.size a) ∧
  (∀ a, (k0_off35 v140) a + S256x256.size a ≤ S4096x256.size a) ∧
  (∀ (hinb : ∀ a, (k0_off35 v140) a + S256x256.size a ≤ S4096x256.size a), (Rect.unit (s := S4096x256) (k0_off35 v140) S256x256.size hinb).WholeWords (EltTy.packing .bf16)) ∧
  ((k0_dev24 v140) < nD)
theorem k0_off32_inb : ∀ (v140 : BitVec 32) (k0_hw11 : k0_chk11 v140), ∀ a, (k0_off32 v140) a + S1.size a ≤ S16.size a := fun v140 k0_hw11 => k0_hw11.1
theorem k0_off35_inb : ∀ (v140 : BitVec 32) (k0_hw11 : k0_chk11 v140), ∀ a, (k0_off35 v140) a + S256x256.size a ≤ S4096x256.size a := fun v140 k0_hw11 => k0_hw11.2.1
theorem k0_off35_wordsbf16 : ∀ (v140 : BitVec 32) (k0_hw11 : k0_chk11 v140), (Rect.unit (s := S4096x256) (k0_off35 v140) S256x256.size (k0_off35_inb v140 k0_hw11)).WholeWords (EltTy.packing .bf16) := fun v140 k0_hw11 => k0_hw11.2.2.1 (k0_off35_inb v140 k0_hw11)
theorem k0_dev24_lt : ∀ (v140 : BitVec 32) (k0_hw11 : k0_chk11 v140), (k0_dev24 v140) < nD := fun v140 k0_hw11 => k0_hw11.2.2.2

def k0_off36 (v151 : BitVec 32) : Fin 1 → Nat :=
  ![v151.toNat]

def k0_off37 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off38 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_124 : BitVec 32 := 0#32
  let c0_i32_125 : BitVec 32 := 0#32
  ![v2.toNat, 0, 0]
def k0_off39 (v151 : BitVec 32) : Fin 2 → Nat :=
  let c256_i32_121 : BitVec 32 := 256#32
  let v152 : BitVec 32 := Scalar.muli v151 c256_i32_121
  let c0_i32_126 : BitVec 32 := 0#32
  ![v152.toNat, 0]
def k0_dev25 (v151 : BitVec 32) : Nat :=
  let c0_i32_123 : BitVec 32 := 0#32
  let c1_i32_122 : BitVec 32 := 1#32
  let v153 : BitVec 32 := Scalar.muli v151 c1_i32_122
  let v154 : BitVec 32 := Scalar.addi c0_i32_123 v153
  v154.toNat

def k0_chk12 (v151 : BitVec 32) : Prop :=
  (∀ a, (k0_off36 v151) a + S1.size a ≤ S16.size a) ∧
  (∀ a, (k0_off39 v151) a + S256x256.size a ≤ S4096x256.size a) ∧
  (∀ (hinb : ∀ a, (k0_off39 v151) a + S256x256.size a ≤ S4096x256.size a), (Rect.unit (s := S4096x256) (k0_off39 v151) S256x256.size hinb).WholeWords (EltTy.packing .bf16)) ∧
  ((k0_dev25 v151) < nD)
theorem k0_off36_inb : ∀ (v151 : BitVec 32) (k0_hw12 : k0_chk12 v151), ∀ a, (k0_off36 v151) a + S1.size a ≤ S16.size a := fun v151 k0_hw12 => k0_hw12.1
theorem k0_off39_inb : ∀ (v151 : BitVec 32) (k0_hw12 : k0_chk12 v151), ∀ a, (k0_off39 v151) a + S256x256.size a ≤ S4096x256.size a := fun v151 k0_hw12 => k0_hw12.2.1
theorem k0_off39_wordsbf16 : ∀ (v151 : BitVec 32) (k0_hw12 : k0_chk12 v151), (Rect.unit (s := S4096x256) (k0_off39 v151) S256x256.size (k0_off39_inb v151 k0_hw12)).WholeWords (EltTy.packing .bf16) := fun v151 k0_hw12 => k0_hw12.2.2.1 (k0_off39_inb v151 k0_hw12)
theorem k0_dev25_lt : ∀ (v151 : BitVec 32) (k0_hw12 : k0_chk12 v151), (k0_dev25 v151) < nD := fun v151 k0_hw12 => k0_hw12.2.2.2

def k0_off40 (v162 : BitVec 32) : Fin 1 → Nat :=
  ![v162.toNat]

def k0_off41 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off42 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_130 : BitVec 32 := 0#32
  let c0_i32_131 : BitVec 32 := 0#32
  ![v2.toNat, 0, 0]
def k0_off43 (v162 : BitVec 32) : Fin 2 → Nat :=
  let c256_i32_127 : BitVec 32 := 256#32
  let v163 : BitVec 32 := Scalar.muli v162 c256_i32_127
  let c0_i32_132 : BitVec 32 := 0#32
  ![v163.toNat, 0]
def k0_dev26 (v162 : BitVec 32) : Nat :=
  let c0_i32_129 : BitVec 32 := 0#32
  let c1_i32_128 : BitVec 32 := 1#32
  let v164 : BitVec 32 := Scalar.muli v162 c1_i32_128
  let v165 : BitVec 32 := Scalar.addi c0_i32_129 v164
  v165.toNat

def k0_chk13 (v162 : BitVec 32) : Prop :=
  (∀ a, (k0_off40 v162) a + S1.size a ≤ S16.size a) ∧
  (∀ a, (k0_off43 v162) a + S256x256.size a ≤ S4096x256.size a) ∧
  (∀ (hinb : ∀ a, (k0_off43 v162) a + S256x256.size a ≤ S4096x256.size a), (Rect.unit (s := S4096x256) (k0_off43 v162) S256x256.size hinb).WholeWords (EltTy.packing .bf16)) ∧
  ((k0_dev26 v162) < nD)
theorem k0_off40_inb : ∀ (v162 : BitVec 32) (k0_hw13 : k0_chk13 v162), ∀ a, (k0_off40 v162) a + S1.size a ≤ S16.size a := fun v162 k0_hw13 => k0_hw13.1
theorem k0_off43_inb : ∀ (v162 : BitVec 32) (k0_hw13 : k0_chk13 v162), ∀ a, (k0_off43 v162) a + S256x256.size a ≤ S4096x256.size a := fun v162 k0_hw13 => k0_hw13.2.1
theorem k0_off43_wordsbf16 : ∀ (v162 : BitVec 32) (k0_hw13 : k0_chk13 v162), (Rect.unit (s := S4096x256) (k0_off43 v162) S256x256.size (k0_off43_inb v162 k0_hw13)).WholeWords (EltTy.packing .bf16) := fun v162 k0_hw13 => k0_hw13.2.2.1 (k0_off43_inb v162 k0_hw13)
theorem k0_dev26_lt : ∀ (v162 : BitVec 32) (k0_hw13 : k0_chk13 v162), (k0_dev26 v162) < nD := fun v162 k0_hw13 => k0_hw13.2.2.2

def k0_off44 (v173 : BitVec 32) : Fin 1 → Nat :=
  ![v173.toNat]

def k0_off45 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off46 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_136 : BitVec 32 := 0#32
  let c0_i32_137 : BitVec 32 := 0#32
  ![v2.toNat, 0, 0]
def k0_off47 (v173 : BitVec 32) : Fin 2 → Nat :=
  let c256_i32_133 : BitVec 32 := 256#32
  let v174 : BitVec 32 := Scalar.muli v173 c256_i32_133
  let c0_i32_138 : BitVec 32 := 0#32
  ![v174.toNat, 0]
def k0_dev27 (v173 : BitVec 32) : Nat :=
  let c0_i32_135 : BitVec 32 := 0#32
  let c1_i32_134 : BitVec 32 := 1#32
  let v175 : BitVec 32 := Scalar.muli v173 c1_i32_134
  let v176 : BitVec 32 := Scalar.addi c0_i32_135 v175
  v176.toNat

def k0_chk14 (v173 : BitVec 32) : Prop :=
  (∀ a, (k0_off44 v173) a + S1.size a ≤ S16.size a) ∧
  (∀ a, (k0_off47 v173) a + S256x256.size a ≤ S4096x256.size a) ∧
  (∀ (hinb : ∀ a, (k0_off47 v173) a + S256x256.size a ≤ S4096x256.size a), (Rect.unit (s := S4096x256) (k0_off47 v173) S256x256.size hinb).WholeWords (EltTy.packing .bf16)) ∧
  ((k0_dev27 v173) < nD)
theorem k0_off44_inb : ∀ (v173 : BitVec 32) (k0_hw14 : k0_chk14 v173), ∀ a, (k0_off44 v173) a + S1.size a ≤ S16.size a := fun v173 k0_hw14 => k0_hw14.1
theorem k0_off47_inb : ∀ (v173 : BitVec 32) (k0_hw14 : k0_chk14 v173), ∀ a, (k0_off47 v173) a + S256x256.size a ≤ S4096x256.size a := fun v173 k0_hw14 => k0_hw14.2.1
theorem k0_off47_wordsbf16 : ∀ (v173 : BitVec 32) (k0_hw14 : k0_chk14 v173), (Rect.unit (s := S4096x256) (k0_off47 v173) S256x256.size (k0_off47_inb v173 k0_hw14)).WholeWords (EltTy.packing .bf16) := fun v173 k0_hw14 => k0_hw14.2.2.1 (k0_off47_inb v173 k0_hw14)
theorem k0_dev27_lt : ∀ (v173 : BitVec 32) (k0_hw14 : k0_chk14 v173), (k0_dev27 v173) < nD := fun v173 k0_hw14 => k0_hw14.2.2.2

def k0_off48 (v184 : BitVec 32) : Fin 1 → Nat :=
  ![v184.toNat]

def k0_off49 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off50 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_142 : BitVec 32 := 0#32
  let c0_i32_143 : BitVec 32 := 0#32
  ![v2.toNat, 0, 0]
def k0_off51 (v184 : BitVec 32) : Fin 2 → Nat :=
  let c256_i32_139 : BitVec 32 := 256#32
  let v185 : BitVec 32 := Scalar.muli v184 c256_i32_139
  let c0_i32_144 : BitVec 32 := 0#32
  ![v185.toNat, 0]
def k0_dev28 (v184 : BitVec 32) : Nat :=
  let c0_i32_141 : BitVec 32 := 0#32
  let c1_i32_140 : BitVec 32 := 1#32
  let v186 : BitVec 32 := Scalar.muli v184 c1_i32_140
  let v187 : BitVec 32 := Scalar.addi c0_i32_141 v186
  v187.toNat

def k0_chk15 (v184 : BitVec 32) : Prop :=
  (∀ a, (k0_off48 v184) a + S1.size a ≤ S16.size a) ∧
  (∀ a, (k0_off51 v184) a + S256x256.size a ≤ S4096x256.size a) ∧
  (∀ (hinb : ∀ a, (k0_off51 v184) a + S256x256.size a ≤ S4096x256.size a), (Rect.unit (s := S4096x256) (k0_off51 v184) S256x256.size hinb).WholeWords (EltTy.packing .bf16)) ∧
  ((k0_dev28 v184) < nD)
theorem k0_off48_inb : ∀ (v184 : BitVec 32) (k0_hw15 : k0_chk15 v184), ∀ a, (k0_off48 v184) a + S1.size a ≤ S16.size a := fun v184 k0_hw15 => k0_hw15.1
theorem k0_off51_inb : ∀ (v184 : BitVec 32) (k0_hw15 : k0_chk15 v184), ∀ a, (k0_off51 v184) a + S256x256.size a ≤ S4096x256.size a := fun v184 k0_hw15 => k0_hw15.2.1
theorem k0_off51_wordsbf16 : ∀ (v184 : BitVec 32) (k0_hw15 : k0_chk15 v184), (Rect.unit (s := S4096x256) (k0_off51 v184) S256x256.size (k0_off51_inb v184 k0_hw15)).WholeWords (EltTy.packing .bf16) := fun v184 k0_hw15 => k0_hw15.2.2.1 (k0_off51_inb v184 k0_hw15)
theorem k0_dev28_lt : ∀ (v184 : BitVec 32) (k0_hw15 : k0_chk15 v184), (k0_dev28 v184) < nD := fun v184 k0_hw15 => k0_hw15.2.2.2

def k0_off52 (v195 : BitVec 32) : Fin 1 → Nat :=
  ![v195.toNat]

def k0_off53 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off54 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_148 : BitVec 32 := 0#32
  let c0_i32_149 : BitVec 32 := 0#32
  ![v2.toNat, 0, 0]
def k0_off55 (v195 : BitVec 32) : Fin 2 → Nat :=
  let c256_i32_145 : BitVec 32 := 256#32
  let v196 : BitVec 32 := Scalar.muli v195 c256_i32_145
  let c0_i32_150 : BitVec 32 := 0#32
  ![v196.toNat, 0]
def k0_dev29 (v195 : BitVec 32) : Nat :=
  let c0_i32_147 : BitVec 32 := 0#32
  let c1_i32_146 : BitVec 32 := 1#32
  let v197 : BitVec 32 := Scalar.muli v195 c1_i32_146
  let v198 : BitVec 32 := Scalar.addi c0_i32_147 v197
  v198.toNat

def k0_chk16 (v195 : BitVec 32) : Prop :=
  (∀ a, (k0_off52 v195) a + S1.size a ≤ S16.size a) ∧
  (∀ a, (k0_off55 v195) a + S256x256.size a ≤ S4096x256.size a) ∧
  (∀ (hinb : ∀ a, (k0_off55 v195) a + S256x256.size a ≤ S4096x256.size a), (Rect.unit (s := S4096x256) (k0_off55 v195) S256x256.size hinb).WholeWords (EltTy.packing .bf16)) ∧
  ((k0_dev29 v195) < nD)
theorem k0_off52_inb : ∀ (v195 : BitVec 32) (k0_hw16 : k0_chk16 v195), ∀ a, (k0_off52 v195) a + S1.size a ≤ S16.size a := fun v195 k0_hw16 => k0_hw16.1
theorem k0_off55_inb : ∀ (v195 : BitVec 32) (k0_hw16 : k0_chk16 v195), ∀ a, (k0_off55 v195) a + S256x256.size a ≤ S4096x256.size a := fun v195 k0_hw16 => k0_hw16.2.1
theorem k0_off55_wordsbf16 : ∀ (v195 : BitVec 32) (k0_hw16 : k0_chk16 v195), (Rect.unit (s := S4096x256) (k0_off55 v195) S256x256.size (k0_off55_inb v195 k0_hw16)).WholeWords (EltTy.packing .bf16) := fun v195 k0_hw16 => k0_hw16.2.2.1 (k0_off55_inb v195 k0_hw16)
theorem k0_dev29_lt : ∀ (v195 : BitVec 32) (k0_hw16 : k0_chk16 v195), (k0_dev29 v195) < nD := fun v195 k0_hw16 => k0_hw16.2.2.2

def k0_off56 (v206 : BitVec 32) : Fin 1 → Nat :=
  ![v206.toNat]

def k0_off57 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off58 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_154 : BitVec 32 := 0#32
  let c0_i32_155 : BitVec 32 := 0#32
  ![v2.toNat, 0, 0]
def k0_off59 (v206 : BitVec 32) : Fin 2 → Nat :=
  let c256_i32_151 : BitVec 32 := 256#32
  let v207 : BitVec 32 := Scalar.muli v206 c256_i32_151
  let c0_i32_156 : BitVec 32 := 0#32
  ![v207.toNat, 0]
def k0_dev30 (v206 : BitVec 32) : Nat :=
  let c0_i32_153 : BitVec 32 := 0#32
  let c1_i32_152 : BitVec 32 := 1#32
  let v208 : BitVec 32 := Scalar.muli v206 c1_i32_152
  let v209 : BitVec 32 := Scalar.addi c0_i32_153 v208
  v209.toNat

def k0_chk17 (v206 : BitVec 32) : Prop :=
  (∀ a, (k0_off56 v206) a + S1.size a ≤ S16.size a) ∧
  (∀ a, (k0_off59 v206) a + S256x256.size a ≤ S4096x256.size a) ∧
  (∀ (hinb : ∀ a, (k0_off59 v206) a + S256x256.size a ≤ S4096x256.size a), (Rect.unit (s := S4096x256) (k0_off59 v206) S256x256.size hinb).WholeWords (EltTy.packing .bf16)) ∧
  ((k0_dev30 v206) < nD)
theorem k0_off56_inb : ∀ (v206 : BitVec 32) (k0_hw17 : k0_chk17 v206), ∀ a, (k0_off56 v206) a + S1.size a ≤ S16.size a := fun v206 k0_hw17 => k0_hw17.1
theorem k0_off59_inb : ∀ (v206 : BitVec 32) (k0_hw17 : k0_chk17 v206), ∀ a, (k0_off59 v206) a + S256x256.size a ≤ S4096x256.size a := fun v206 k0_hw17 => k0_hw17.2.1
theorem k0_off59_wordsbf16 : ∀ (v206 : BitVec 32) (k0_hw17 : k0_chk17 v206), (Rect.unit (s := S4096x256) (k0_off59 v206) S256x256.size (k0_off59_inb v206 k0_hw17)).WholeWords (EltTy.packing .bf16) := fun v206 k0_hw17 => k0_hw17.2.2.1 (k0_off59_inb v206 k0_hw17)
theorem k0_dev30_lt : ∀ (v206 : BitVec 32) (k0_hw17 : k0_chk17 v206), (k0_dev30 v206) < nD := fun v206 k0_hw17 => k0_hw17.2.2.2

def k0_off60 (v217 : BitVec 32) : Fin 1 → Nat :=
  ![v217.toNat]

def k0_off61 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off62 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_160 : BitVec 32 := 0#32
  let c0_i32_161 : BitVec 32 := 0#32
  ![v2.toNat, 0, 0]
def k0_off63 (v217 : BitVec 32) : Fin 2 → Nat :=
  let c256_i32_157 : BitVec 32 := 256#32
  let v218 : BitVec 32 := Scalar.muli v217 c256_i32_157
  let c0_i32_162 : BitVec 32 := 0#32
  ![v218.toNat, 0]
def k0_dev31 (v217 : BitVec 32) : Nat :=
  let c0_i32_159 : BitVec 32 := 0#32
  let c1_i32_158 : BitVec 32 := 1#32
  let v219 : BitVec 32 := Scalar.muli v217 c1_i32_158
  let v220 : BitVec 32 := Scalar.addi c0_i32_159 v219
  v220.toNat

def k0_chk18 (v217 : BitVec 32) : Prop :=
  (∀ a, (k0_off60 v217) a + S1.size a ≤ S16.size a) ∧
  (∀ a, (k0_off63 v217) a + S256x256.size a ≤ S4096x256.size a) ∧
  (∀ (hinb : ∀ a, (k0_off63 v217) a + S256x256.size a ≤ S4096x256.size a), (Rect.unit (s := S4096x256) (k0_off63 v217) S256x256.size hinb).WholeWords (EltTy.packing .bf16)) ∧
  ((k0_dev31 v217) < nD)
theorem k0_off60_inb : ∀ (v217 : BitVec 32) (k0_hw18 : k0_chk18 v217), ∀ a, (k0_off60 v217) a + S1.size a ≤ S16.size a := fun v217 k0_hw18 => k0_hw18.1
theorem k0_off63_inb : ∀ (v217 : BitVec 32) (k0_hw18 : k0_chk18 v217), ∀ a, (k0_off63 v217) a + S256x256.size a ≤ S4096x256.size a := fun v217 k0_hw18 => k0_hw18.2.1
theorem k0_off63_wordsbf16 : ∀ (v217 : BitVec 32) (k0_hw18 : k0_chk18 v217), (Rect.unit (s := S4096x256) (k0_off63 v217) S256x256.size (k0_off63_inb v217 k0_hw18)).WholeWords (EltTy.packing .bf16) := fun v217 k0_hw18 => k0_hw18.2.2.1 (k0_off63_inb v217 k0_hw18)
theorem k0_dev31_lt : ∀ (v217 : BitVec 32) (k0_hw18 : k0_chk18 v217), (k0_dev31 v217) < nD := fun v217 k0_hw18 => k0_hw18.2.2.2

def k0_off64 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_163 : BitVec 32 := 256#32
  let v228 : BitVec 32 := Scalar.muli v2 c256_i32_163
  let v229 : Index := Scalar.indexCast v228
  let c0_164 : Index := 0#32
  ![v229.toNat, 0]
def k0_off65 (v36 : BitVec 32) : Fin 2 → Nat :=
  let c256_i32 : BitVec 32 := 256#32
  let v37 : BitVec 32 := Scalar.muli v36 c256_i32
  let c0_i32_169 : BitVec 32 := 0#32
  ![v37.toNat, 0]

def k0_chk1 (v36 : BitVec 32) : Prop :=
  (∀ a, (k0_off1 v36) a + S256x8192.size a ≤ S4096x8192.size a) ∧
  (∀ a, (k0_off65 v36) a + S256x8192.size a ≤ S4096x8192.size a)
theorem k0_off1_inb : ∀ (v36 : BitVec 32) (k0_hw1 : k0_chk1 v36), ∀ a, (k0_off1 v36) a + S256x8192.size a ≤ S4096x8192.size a := fun v36 k0_hw1 => k0_hw1.1
theorem k0_off65_inb : ∀ (v36 : BitVec 32) (k0_hw1 : k0_chk1 v36), ∀ a, (k0_off65 v36) a + S256x8192.size a ≤ S4096x8192.size a := fun v36 k0_hw1 => k0_hw1.2

def k0_off66 (v241 : BitVec 32) : Fin 2 → Nat :=
  let c256_i32_176 : BitVec 32 := 256#32
  let v242 : BitVec 32 := Scalar.muli v241 c256_i32_176
  let c0_i32_181 : BitVec 32 := 0#32
  ![v242.toNat, 0]

def k0_off67 (v248 : BitVec 32) : Fin 1 → Nat :=
  ![v248.toNat]

def k0_off68 (v248 : BitVec 32) : Fin 3 → Nat :=
  let c0_i32_186 : BitVec 32 := 0#32
  let c0_i32_187 : BitVec 32 := 0#32
  ![v248.toNat, 0, 0]
def k0_off69 (v248 : BitVec 32) : Fin 3 → Nat :=
  let v256 : Index := Scalar.indexCast v248
  let c0_190 : Index := 0#32
  let c0_191 : Index := 0#32
  ![v256.toNat, 0, 0]

def k0_chk20 (v248 : BitVec 32) : Prop :=
  (∀ a, (k0_off67 v248) a + S1.size a ≤ S16.size a) ∧
  (∀ a, (k0_off68 v248) a + S1x256x256.size a ≤ S16x256x256.size a) ∧
  (∀ (hinb : ∀ a, (k0_off68 v248) a + S1x256x256.size a ≤ S16x256x256.size a), (Rect.unit (s := S16x256x256) (k0_off68 v248) S1x256x256.size hinb).WholeWords (EltTy.packing .bf16)) ∧
  (∀ a, (k0_off69 v248) a + S1x256x256.size a ≤ S16x256x256.size a)
theorem k0_off67_inb : ∀ (v248 : BitVec 32) (k0_hw20 : k0_chk20 v248), ∀ a, (k0_off67 v248) a + S1.size a ≤ S16.size a := fun v248 k0_hw20 => k0_hw20.1
theorem k0_off68_inb : ∀ (v248 : BitVec 32) (k0_hw20 : k0_chk20 v248), ∀ a, (k0_off68 v248) a + S1x256x256.size a ≤ S16x256x256.size a := fun v248 k0_hw20 => k0_hw20.2.1
theorem k0_off68_wordsbf16 : ∀ (v248 : BitVec 32) (k0_hw20 : k0_chk20 v248), (Rect.unit (s := S16x256x256) (k0_off68 v248) S1x256x256.size (k0_off68_inb v248 k0_hw20)).WholeWords (EltTy.packing .bf16) := fun v248 k0_hw20 => k0_hw20.2.2.1 (k0_off68_inb v248 k0_hw20)
theorem k0_off69_inb : ∀ (v248 : BitVec 32) (k0_hw20 : k0_chk20 v248), ∀ a, (k0_off69 v248) a + S1x256x256.size a ≤ S16x256x256.size a := fun v248 k0_hw20 => k0_hw20.2.2.2

def k0_off70 (v43 : BitVec 32) : Fin 2 → Nat :=
  let c256_i32_55 : BitVec 32 := 256#32
  let v44 : BitVec 32 := Scalar.muli v43 c256_i32_55
  let c0_i32_196 : BitVec 32 := 0#32
  ![v44.toNat, 0]

def k0_chk2 (v43 : BitVec 32) : Prop :=
  (∀ a, (k0_off2 v43) a + S256x8192.size a ≤ S4096x8192.size a) ∧
  (∀ a, (k0_off70 v43) a + S256x8192.size a ≤ S4096x8192.size a)
theorem k0_off2_inb : ∀ (v43 : BitVec 32) (k0_hw2 : k0_chk2 v43), ∀ a, (k0_off2 v43) a + S256x8192.size a ≤ S4096x8192.size a := fun v43 k0_hw2 => k0_hw2.1
theorem k0_off70_inb : ∀ (v43 : BitVec 32) (k0_hw2 : k0_chk2 v43), ∀ a, (k0_off70 v43) a + S256x8192.size a ≤ S4096x8192.size a := fun v43 k0_hw2 => k0_hw2.2

def k0_off71 (v272 : BitVec 32) : Fin 2 → Nat :=
  let c256_i32_206 : BitVec 32 := 256#32
  let v273 : BitVec 32 := Scalar.muli v272 c256_i32_206
  let c0_i32_211 : BitVec 32 := 0#32
  ![v273.toNat, 0]

def k0_off72 (v279 : BitVec 32) : Fin 1 → Nat :=
  ![v279.toNat]

def k0_off73 (v279 : BitVec 32) : Fin 3 → Nat :=
  let c0_i32_216 : BitVec 32 := 0#32
  let c0_i32_217 : BitVec 32 := 0#32
  ![v279.toNat, 0, 0]
def k0_off74 (v279 : BitVec 32) : Fin 3 → Nat :=
  let v287 : Index := Scalar.indexCast v279
  let c0_220 : Index := 0#32
  let c0_221 : Index := 0#32
  ![v287.toNat, 0, 0]

def k0_chk22 (v279 : BitVec 32) : Prop :=
  (∀ a, (k0_off72 v279) a + S1.size a ≤ S16.size a) ∧
  (∀ a, (k0_off73 v279) a + S1x256x256.size a ≤ S16x256x256.size a) ∧
  (∀ (hinb : ∀ a, (k0_off73 v279) a + S1x256x256.size a ≤ S16x256x256.size a), (Rect.unit (s := S16x256x256) (k0_off73 v279) S1x256x256.size hinb).WholeWords (EltTy.packing .bf16)) ∧
  (∀ a, (k0_off74 v279) a + S1x256x256.size a ≤ S16x256x256.size a)
theorem k0_off72_inb : ∀ (v279 : BitVec 32) (k0_hw22 : k0_chk22 v279), ∀ a, (k0_off72 v279) a + S1.size a ≤ S16.size a := fun v279 k0_hw22 => k0_hw22.1
theorem k0_off73_inb : ∀ (v279 : BitVec 32) (k0_hw22 : k0_chk22 v279), ∀ a, (k0_off73 v279) a + S1x256x256.size a ≤ S16x256x256.size a := fun v279 k0_hw22 => k0_hw22.2.1
theorem k0_off73_wordsbf16 : ∀ (v279 : BitVec 32) (k0_hw22 : k0_chk22 v279), (Rect.unit (s := S16x256x256) (k0_off73 v279) S1x256x256.size (k0_off73_inb v279 k0_hw22)).WholeWords (EltTy.packing .bf16) := fun v279 k0_hw22 => k0_hw22.2.2.1 (k0_off73_inb v279 k0_hw22)
theorem k0_off74_inb : ∀ (v279 : BitVec 32) (k0_hw22 : k0_chk22 v279), ∀ a, (k0_off74 v279) a + S1x256x256.size a ≤ S16x256x256.size a := fun v279 k0_hw22 => k0_hw22.2.2.2

def k0_off75 (v50 : BitVec 32) : Fin 2 → Nat :=
  let c256_i32_61 : BitVec 32 := 256#32
  let v51 : BitVec 32 := Scalar.muli v50 c256_i32_61
  let c0_i32_226 : BitVec 32 := 0#32
  ![v51.toNat, 0]

def k0_chk3 (v50 : BitVec 32) : Prop :=
  (∀ a, (k0_off3 v50) a + S256x8192.size a ≤ S4096x8192.size a) ∧
  (∀ a, (k0_off75 v50) a + S256x8192.size a ≤ S4096x8192.size a)
theorem k0_off3_inb : ∀ (v50 : BitVec 32) (k0_hw3 : k0_chk3 v50), ∀ a, (k0_off3 v50) a + S256x8192.size a ≤ S4096x8192.size a := fun v50 k0_hw3 => k0_hw3.1
theorem k0_off75_inb : ∀ (v50 : BitVec 32) (k0_hw3 : k0_chk3 v50), ∀ a, (k0_off75 v50) a + S256x8192.size a ≤ S4096x8192.size a := fun v50 k0_hw3 => k0_hw3.2

def k0_off76 (v303 : BitVec 32) : Fin 2 → Nat :=
  let c256_i32_236 : BitVec 32 := 256#32
  let v304 : BitVec 32 := Scalar.muli v303 c256_i32_236
  let c0_i32_241 : BitVec 32 := 0#32
  ![v304.toNat, 0]

def k0_off77 (v310 : BitVec 32) : Fin 1 → Nat :=
  ![v310.toNat]

def k0_off78 (v310 : BitVec 32) : Fin 3 → Nat :=
  let c0_i32_246 : BitVec 32 := 0#32
  let c0_i32_247 : BitVec 32 := 0#32
  ![v310.toNat, 0, 0]
def k0_off79 (v310 : BitVec 32) : Fin 3 → Nat :=
  let v318 : Index := Scalar.indexCast v310
  let c0_250 : Index := 0#32
  let c0_251 : Index := 0#32
  ![v318.toNat, 0, 0]

def k0_chk24 (v310 : BitVec 32) : Prop :=
  (∀ a, (k0_off77 v310) a + S1.size a ≤ S16.size a) ∧
  (∀ a, (k0_off78 v310) a + S1x256x256.size a ≤ S16x256x256.size a) ∧
  (∀ (hinb : ∀ a, (k0_off78 v310) a + S1x256x256.size a ≤ S16x256x256.size a), (Rect.unit (s := S16x256x256) (k0_off78 v310) S1x256x256.size hinb).WholeWords (EltTy.packing .bf16)) ∧
  (∀ a, (k0_off79 v310) a + S1x256x256.size a ≤ S16x256x256.size a)
theorem k0_off77_inb : ∀ (v310 : BitVec 32) (k0_hw24 : k0_chk24 v310), ∀ a, (k0_off77 v310) a + S1.size a ≤ S16.size a := fun v310 k0_hw24 => k0_hw24.1
theorem k0_off78_inb : ∀ (v310 : BitVec 32) (k0_hw24 : k0_chk24 v310), ∀ a, (k0_off78 v310) a + S1x256x256.size a ≤ S16x256x256.size a := fun v310 k0_hw24 => k0_hw24.2.1
theorem k0_off78_wordsbf16 : ∀ (v310 : BitVec 32) (k0_hw24 : k0_chk24 v310), (Rect.unit (s := S16x256x256) (k0_off78 v310) S1x256x256.size (k0_off78_inb v310 k0_hw24)).WholeWords (EltTy.packing .bf16) := fun v310 k0_hw24 => k0_hw24.2.2.1 (k0_off78_inb v310 k0_hw24)
theorem k0_off79_inb : ∀ (v310 : BitVec 32) (k0_hw24 : k0_chk24 v310), ∀ a, (k0_off79 v310) a + S1x256x256.size a ≤ S16x256x256.size a := fun v310 k0_hw24 => k0_hw24.2.2.2

def k0_off80 (v241 : BitVec 32) : Fin 2 → Nat :=
  let c256_i32_176 : BitVec 32 := 256#32
  let v242 : BitVec 32 := Scalar.muli v241 c256_i32_176
  let c0_i32_256 : BitVec 32 := 0#32
  ![v242.toNat, 0]

def k0_chk19 (v241 : BitVec 32) : Prop :=
  (∀ a, (k0_off66 v241) a + S256x8192.size a ≤ S4096x8192.size a) ∧
  (∀ a, (k0_off80 v241) a + S256x8192.size a ≤ S4096x8192.size a)
theorem k0_off66_inb : ∀ (v241 : BitVec 32) (k0_hw19 : k0_chk19 v241), ∀ a, (k0_off66 v241) a + S256x8192.size a ≤ S4096x8192.size a := fun v241 k0_hw19 => k0_hw19.1
theorem k0_off80_inb : ∀ (v241 : BitVec 32) (k0_hw19 : k0_chk19 v241), ∀ a, (k0_off80 v241) a + S256x8192.size a ≤ S4096x8192.size a := fun v241 k0_hw19 => k0_hw19.2

def k0_off81 (v334 : BitVec 32) : Fin 2 → Nat :=
  let c256_i32_266 : BitVec 32 := 256#32
  let v335 : BitVec 32 := Scalar.muli v334 c256_i32_266
  let c0_i32_271 : BitVec 32 := 0#32
  ![v335.toNat, 0]

def k0_off82 (v341 : BitVec 32) : Fin 1 → Nat :=
  ![v341.toNat]

def k0_off83 (v341 : BitVec 32) : Fin 3 → Nat :=
  let c0_i32_276 : BitVec 32 := 0#32
  let c0_i32_277 : BitVec 32 := 0#32
  ![v341.toNat, 0, 0]
def k0_off84 (v341 : BitVec 32) : Fin 3 → Nat :=
  let v349 : Index := Scalar.indexCast v341
  let c0_280 : Index := 0#32
  let c0_281 : Index := 0#32
  ![v349.toNat, 0, 0]

def k0_chk26 (v341 : BitVec 32) : Prop :=
  (∀ a, (k0_off82 v341) a + S1.size a ≤ S16.size a) ∧
  (∀ a, (k0_off83 v341) a + S1x256x256.size a ≤ S16x256x256.size a) ∧
  (∀ (hinb : ∀ a, (k0_off83 v341) a + S1x256x256.size a ≤ S16x256x256.size a), (Rect.unit (s := S16x256x256) (k0_off83 v341) S1x256x256.size hinb).WholeWords (EltTy.packing .bf16)) ∧
  (∀ a, (k0_off84 v341) a + S1x256x256.size a ≤ S16x256x256.size a)
theorem k0_off82_inb : ∀ (v341 : BitVec 32) (k0_hw26 : k0_chk26 v341), ∀ a, (k0_off82 v341) a + S1.size a ≤ S16.size a := fun v341 k0_hw26 => k0_hw26.1
theorem k0_off83_inb : ∀ (v341 : BitVec 32) (k0_hw26 : k0_chk26 v341), ∀ a, (k0_off83 v341) a + S1x256x256.size a ≤ S16x256x256.size a := fun v341 k0_hw26 => k0_hw26.2.1
theorem k0_off83_wordsbf16 : ∀ (v341 : BitVec 32) (k0_hw26 : k0_chk26 v341), (Rect.unit (s := S16x256x256) (k0_off83 v341) S1x256x256.size (k0_off83_inb v341 k0_hw26)).WholeWords (EltTy.packing .bf16) := fun v341 k0_hw26 => k0_hw26.2.2.1 (k0_off83_inb v341 k0_hw26)
theorem k0_off84_inb : ∀ (v341 : BitVec 32) (k0_hw26 : k0_chk26 v341), ∀ a, (k0_off84 v341) a + S1x256x256.size a ≤ S16x256x256.size a := fun v341 k0_hw26 => k0_hw26.2.2.2

def k0_off85 (v272 : BitVec 32) : Fin 2 → Nat :=
  let c256_i32_206 : BitVec 32 := 256#32
  let v273 : BitVec 32 := Scalar.muli v272 c256_i32_206
  let c0_i32_286 : BitVec 32 := 0#32
  ![v273.toNat, 0]

def k0_chk21 (v272 : BitVec 32) : Prop :=
  (∀ a, (k0_off71 v272) a + S256x8192.size a ≤ S4096x8192.size a) ∧
  (∀ a, (k0_off85 v272) a + S256x8192.size a ≤ S4096x8192.size a)
theorem k0_off71_inb : ∀ (v272 : BitVec 32) (k0_hw21 : k0_chk21 v272), ∀ a, (k0_off71 v272) a + S256x8192.size a ≤ S4096x8192.size a := fun v272 k0_hw21 => k0_hw21.1
theorem k0_off85_inb : ∀ (v272 : BitVec 32) (k0_hw21 : k0_chk21 v272), ∀ a, (k0_off85 v272) a + S256x8192.size a ≤ S4096x8192.size a := fun v272 k0_hw21 => k0_hw21.2

def k0_off86 (v365 : BitVec 32) : Fin 2 → Nat :=
  let c256_i32_296 : BitVec 32 := 256#32
  let v366 : BitVec 32 := Scalar.muli v365 c256_i32_296
  let c0_i32_301 : BitVec 32 := 0#32
  ![v366.toNat, 0]

def k0_off87 (v372 : BitVec 32) : Fin 1 → Nat :=
  ![v372.toNat]

def k0_off88 (v372 : BitVec 32) : Fin 3 → Nat :=
  let c0_i32_306 : BitVec 32 := 0#32
  let c0_i32_307 : BitVec 32 := 0#32
  ![v372.toNat, 0, 0]
def k0_off89 (v372 : BitVec 32) : Fin 3 → Nat :=
  let v380 : Index := Scalar.indexCast v372
  let c0_310 : Index := 0#32
  let c0_311 : Index := 0#32
  ![v380.toNat, 0, 0]

def k0_chk28 (v372 : BitVec 32) : Prop :=
  (∀ a, (k0_off87 v372) a + S1.size a ≤ S16.size a) ∧
  (∀ a, (k0_off88 v372) a + S1x256x256.size a ≤ S16x256x256.size a) ∧
  (∀ (hinb : ∀ a, (k0_off88 v372) a + S1x256x256.size a ≤ S16x256x256.size a), (Rect.unit (s := S16x256x256) (k0_off88 v372) S1x256x256.size hinb).WholeWords (EltTy.packing .bf16)) ∧
  (∀ a, (k0_off89 v372) a + S1x256x256.size a ≤ S16x256x256.size a)
theorem k0_off87_inb : ∀ (v372 : BitVec 32) (k0_hw28 : k0_chk28 v372), ∀ a, (k0_off87 v372) a + S1.size a ≤ S16.size a := fun v372 k0_hw28 => k0_hw28.1
theorem k0_off88_inb : ∀ (v372 : BitVec 32) (k0_hw28 : k0_chk28 v372), ∀ a, (k0_off88 v372) a + S1x256x256.size a ≤ S16x256x256.size a := fun v372 k0_hw28 => k0_hw28.2.1
theorem k0_off88_wordsbf16 : ∀ (v372 : BitVec 32) (k0_hw28 : k0_chk28 v372), (Rect.unit (s := S16x256x256) (k0_off88 v372) S1x256x256.size (k0_off88_inb v372 k0_hw28)).WholeWords (EltTy.packing .bf16) := fun v372 k0_hw28 => k0_hw28.2.2.1 (k0_off88_inb v372 k0_hw28)
theorem k0_off89_inb : ∀ (v372 : BitVec 32) (k0_hw28 : k0_chk28 v372), ∀ a, (k0_off89 v372) a + S1x256x256.size a ≤ S16x256x256.size a := fun v372 k0_hw28 => k0_hw28.2.2.2

def k0_off90 (v303 : BitVec 32) : Fin 2 → Nat :=
  let c256_i32_236 : BitVec 32 := 256#32
  let v304 : BitVec 32 := Scalar.muli v303 c256_i32_236
  let c0_i32_316 : BitVec 32 := 0#32
  ![v304.toNat, 0]

def k0_chk23 (v303 : BitVec 32) : Prop :=
  (∀ a, (k0_off76 v303) a + S256x8192.size a ≤ S4096x8192.size a) ∧
  (∀ a, (k0_off90 v303) a + S256x8192.size a ≤ S4096x8192.size a)
theorem k0_off76_inb : ∀ (v303 : BitVec 32) (k0_hw23 : k0_chk23 v303), ∀ a, (k0_off76 v303) a + S256x8192.size a ≤ S4096x8192.size a := fun v303 k0_hw23 => k0_hw23.1
theorem k0_off90_inb : ∀ (v303 : BitVec 32) (k0_hw23 : k0_chk23 v303), ∀ a, (k0_off90 v303) a + S256x8192.size a ≤ S4096x8192.size a := fun v303 k0_hw23 => k0_hw23.2

def k0_off91 (v396 : BitVec 32) : Fin 2 → Nat :=
  let c256_i32_326 : BitVec 32 := 256#32
  let v397 : BitVec 32 := Scalar.muli v396 c256_i32_326
  let c0_i32_331 : BitVec 32 := 0#32
  ![v397.toNat, 0]

def k0_off92 (v403 : BitVec 32) : Fin 1 → Nat :=
  ![v403.toNat]

def k0_off93 (v403 : BitVec 32) : Fin 3 → Nat :=
  let c0_i32_336 : BitVec 32 := 0#32
  let c0_i32_337 : BitVec 32 := 0#32
  ![v403.toNat, 0, 0]
def k0_off94 (v403 : BitVec 32) : Fin 3 → Nat :=
  let v411 : Index := Scalar.indexCast v403
  let c0_340 : Index := 0#32
  let c0_341 : Index := 0#32
  ![v411.toNat, 0, 0]

def k0_chk30 (v403 : BitVec 32) : Prop :=
  (∀ a, (k0_off92 v403) a + S1.size a ≤ S16.size a) ∧
  (∀ a, (k0_off93 v403) a + S1x256x256.size a ≤ S16x256x256.size a) ∧
  (∀ (hinb : ∀ a, (k0_off93 v403) a + S1x256x256.size a ≤ S16x256x256.size a), (Rect.unit (s := S16x256x256) (k0_off93 v403) S1x256x256.size hinb).WholeWords (EltTy.packing .bf16)) ∧
  (∀ a, (k0_off94 v403) a + S1x256x256.size a ≤ S16x256x256.size a)
theorem k0_off92_inb : ∀ (v403 : BitVec 32) (k0_hw30 : k0_chk30 v403), ∀ a, (k0_off92 v403) a + S1.size a ≤ S16.size a := fun v403 k0_hw30 => k0_hw30.1
theorem k0_off93_inb : ∀ (v403 : BitVec 32) (k0_hw30 : k0_chk30 v403), ∀ a, (k0_off93 v403) a + S1x256x256.size a ≤ S16x256x256.size a := fun v403 k0_hw30 => k0_hw30.2.1
theorem k0_off93_wordsbf16 : ∀ (v403 : BitVec 32) (k0_hw30 : k0_chk30 v403), (Rect.unit (s := S16x256x256) (k0_off93 v403) S1x256x256.size (k0_off93_inb v403 k0_hw30)).WholeWords (EltTy.packing .bf16) := fun v403 k0_hw30 => k0_hw30.2.2.1 (k0_off93_inb v403 k0_hw30)
theorem k0_off94_inb : ∀ (v403 : BitVec 32) (k0_hw30 : k0_chk30 v403), ∀ a, (k0_off94 v403) a + S1x256x256.size a ≤ S16x256x256.size a := fun v403 k0_hw30 => k0_hw30.2.2.2

def k0_off95 (v334 : BitVec 32) : Fin 2 → Nat :=
  let c256_i32_266 : BitVec 32 := 256#32
  let v335 : BitVec 32 := Scalar.muli v334 c256_i32_266
  let c0_i32_346 : BitVec 32 := 0#32
  ![v335.toNat, 0]

def k0_chk25 (v334 : BitVec 32) : Prop :=
  (∀ a, (k0_off81 v334) a + S256x8192.size a ≤ S4096x8192.size a) ∧
  (∀ a, (k0_off95 v334) a + S256x8192.size a ≤ S4096x8192.size a)
theorem k0_off81_inb : ∀ (v334 : BitVec 32) (k0_hw25 : k0_chk25 v334), ∀ a, (k0_off81 v334) a + S256x8192.size a ≤ S4096x8192.size a := fun v334 k0_hw25 => k0_hw25.1
theorem k0_off95_inb : ∀ (v334 : BitVec 32) (k0_hw25 : k0_chk25 v334), ∀ a, (k0_off95 v334) a + S256x8192.size a ≤ S4096x8192.size a := fun v334 k0_hw25 => k0_hw25.2

def k0_off96 (v427 : BitVec 32) : Fin 2 → Nat :=
  let c256_i32_356 : BitVec 32 := 256#32
  let v428 : BitVec 32 := Scalar.muli v427 c256_i32_356
  let c0_i32_361 : BitVec 32 := 0#32
  ![v428.toNat, 0]

def k0_off97 (v434 : BitVec 32) : Fin 1 → Nat :=
  ![v434.toNat]

def k0_off98 (v434 : BitVec 32) : Fin 3 → Nat :=
  let c0_i32_366 : BitVec 32 := 0#32
  let c0_i32_367 : BitVec 32 := 0#32
  ![v434.toNat, 0, 0]
def k0_off99 (v434 : BitVec 32) : Fin 3 → Nat :=
  let v442 : Index := Scalar.indexCast v434
  let c0_370 : Index := 0#32
  let c0_371 : Index := 0#32
  ![v442.toNat, 0, 0]

def k0_chk32 (v434 : BitVec 32) : Prop :=
  (∀ a, (k0_off97 v434) a + S1.size a ≤ S16.size a) ∧
  (∀ a, (k0_off98 v434) a + S1x256x256.size a ≤ S16x256x256.size a) ∧
  (∀ (hinb : ∀ a, (k0_off98 v434) a + S1x256x256.size a ≤ S16x256x256.size a), (Rect.unit (s := S16x256x256) (k0_off98 v434) S1x256x256.size hinb).WholeWords (EltTy.packing .bf16)) ∧
  (∀ a, (k0_off99 v434) a + S1x256x256.size a ≤ S16x256x256.size a)
theorem k0_off97_inb : ∀ (v434 : BitVec 32) (k0_hw32 : k0_chk32 v434), ∀ a, (k0_off97 v434) a + S1.size a ≤ S16.size a := fun v434 k0_hw32 => k0_hw32.1
theorem k0_off98_inb : ∀ (v434 : BitVec 32) (k0_hw32 : k0_chk32 v434), ∀ a, (k0_off98 v434) a + S1x256x256.size a ≤ S16x256x256.size a := fun v434 k0_hw32 => k0_hw32.2.1
theorem k0_off98_wordsbf16 : ∀ (v434 : BitVec 32) (k0_hw32 : k0_chk32 v434), (Rect.unit (s := S16x256x256) (k0_off98 v434) S1x256x256.size (k0_off98_inb v434 k0_hw32)).WholeWords (EltTy.packing .bf16) := fun v434 k0_hw32 => k0_hw32.2.2.1 (k0_off98_inb v434 k0_hw32)
theorem k0_off99_inb : ∀ (v434 : BitVec 32) (k0_hw32 : k0_chk32 v434), ∀ a, (k0_off99 v434) a + S1x256x256.size a ≤ S16x256x256.size a := fun v434 k0_hw32 => k0_hw32.2.2.2

def k0_off100 (v365 : BitVec 32) : Fin 2 → Nat :=
  let c256_i32_296 : BitVec 32 := 256#32
  let v366 : BitVec 32 := Scalar.muli v365 c256_i32_296
  let c0_i32_376 : BitVec 32 := 0#32
  ![v366.toNat, 0]

def k0_chk27 (v365 : BitVec 32) : Prop :=
  (∀ a, (k0_off86 v365) a + S256x8192.size a ≤ S4096x8192.size a) ∧
  (∀ a, (k0_off100 v365) a + S256x8192.size a ≤ S4096x8192.size a)
theorem k0_off86_inb : ∀ (v365 : BitVec 32) (k0_hw27 : k0_chk27 v365), ∀ a, (k0_off86 v365) a + S256x8192.size a ≤ S4096x8192.size a := fun v365 k0_hw27 => k0_hw27.1
theorem k0_off100_inb : ∀ (v365 : BitVec 32) (k0_hw27 : k0_chk27 v365), ∀ a, (k0_off100 v365) a + S256x8192.size a ≤ S4096x8192.size a := fun v365 k0_hw27 => k0_hw27.2

def k0_off101 (v458 : BitVec 32) : Fin 2 → Nat :=
  let c256_i32_386 : BitVec 32 := 256#32
  let v459 : BitVec 32 := Scalar.muli v458 c256_i32_386
  let c0_i32_391 : BitVec 32 := 0#32
  ![v459.toNat, 0]

def k0_off102 (v465 : BitVec 32) : Fin 1 → Nat :=
  ![v465.toNat]

def k0_off103 (v465 : BitVec 32) : Fin 3 → Nat :=
  let c0_i32_396 : BitVec 32 := 0#32
  let c0_i32_397 : BitVec 32 := 0#32
  ![v465.toNat, 0, 0]
def k0_off104 (v465 : BitVec 32) : Fin 3 → Nat :=
  let v473 : Index := Scalar.indexCast v465
  let c0_400 : Index := 0#32
  let c0_401 : Index := 0#32
  ![v473.toNat, 0, 0]

def k0_chk34 (v465 : BitVec 32) : Prop :=
  (∀ a, (k0_off102 v465) a + S1.size a ≤ S16.size a) ∧
  (∀ a, (k0_off103 v465) a + S1x256x256.size a ≤ S16x256x256.size a) ∧
  (∀ (hinb : ∀ a, (k0_off103 v465) a + S1x256x256.size a ≤ S16x256x256.size a), (Rect.unit (s := S16x256x256) (k0_off103 v465) S1x256x256.size hinb).WholeWords (EltTy.packing .bf16)) ∧
  (∀ a, (k0_off104 v465) a + S1x256x256.size a ≤ S16x256x256.size a)
theorem k0_off102_inb : ∀ (v465 : BitVec 32) (k0_hw34 : k0_chk34 v465), ∀ a, (k0_off102 v465) a + S1.size a ≤ S16.size a := fun v465 k0_hw34 => k0_hw34.1
theorem k0_off103_inb : ∀ (v465 : BitVec 32) (k0_hw34 : k0_chk34 v465), ∀ a, (k0_off103 v465) a + S1x256x256.size a ≤ S16x256x256.size a := fun v465 k0_hw34 => k0_hw34.2.1
theorem k0_off103_wordsbf16 : ∀ (v465 : BitVec 32) (k0_hw34 : k0_chk34 v465), (Rect.unit (s := S16x256x256) (k0_off103 v465) S1x256x256.size (k0_off103_inb v465 k0_hw34)).WholeWords (EltTy.packing .bf16) := fun v465 k0_hw34 => k0_hw34.2.2.1 (k0_off103_inb v465 k0_hw34)
theorem k0_off104_inb : ∀ (v465 : BitVec 32) (k0_hw34 : k0_chk34 v465), ∀ a, (k0_off104 v465) a + S1x256x256.size a ≤ S16x256x256.size a := fun v465 k0_hw34 => k0_hw34.2.2.2

def k0_off105 (v396 : BitVec 32) : Fin 2 → Nat :=
  let c256_i32_326 : BitVec 32 := 256#32
  let v397 : BitVec 32 := Scalar.muli v396 c256_i32_326
  let c0_i32_406 : BitVec 32 := 0#32
  ![v397.toNat, 0]

def k0_chk29 (v396 : BitVec 32) : Prop :=
  (∀ a, (k0_off91 v396) a + S256x8192.size a ≤ S4096x8192.size a) ∧
  (∀ a, (k0_off105 v396) a + S256x8192.size a ≤ S4096x8192.size a)
theorem k0_off91_inb : ∀ (v396 : BitVec 32) (k0_hw29 : k0_chk29 v396), ∀ a, (k0_off91 v396) a + S256x8192.size a ≤ S4096x8192.size a := fun v396 k0_hw29 => k0_hw29.1
theorem k0_off105_inb : ∀ (v396 : BitVec 32) (k0_hw29 : k0_chk29 v396), ∀ a, (k0_off105 v396) a + S256x8192.size a ≤ S4096x8192.size a := fun v396 k0_hw29 => k0_hw29.2

def k0_off106 (v489 : BitVec 32) : Fin 2 → Nat :=
  let c256_i32_416 : BitVec 32 := 256#32
  let v490 : BitVec 32 := Scalar.muli v489 c256_i32_416
  let c0_i32_421 : BitVec 32 := 0#32
  ![v490.toNat, 0]

def k0_off107 (v496 : BitVec 32) : Fin 1 → Nat :=
  ![v496.toNat]

def k0_off108 (v496 : BitVec 32) : Fin 3 → Nat :=
  let c0_i32_426 : BitVec 32 := 0#32
  let c0_i32_427 : BitVec 32 := 0#32
  ![v496.toNat, 0, 0]
def k0_off109 (v496 : BitVec 32) : Fin 3 → Nat :=
  let v504 : Index := Scalar.indexCast v496
  let c0_430 : Index := 0#32
  let c0_431 : Index := 0#32
  ![v504.toNat, 0, 0]

def k0_chk36 (v496 : BitVec 32) : Prop :=
  (∀ a, (k0_off107 v496) a + S1.size a ≤ S16.size a) ∧
  (∀ a, (k0_off108 v496) a + S1x256x256.size a ≤ S16x256x256.size a) ∧
  (∀ (hinb : ∀ a, (k0_off108 v496) a + S1x256x256.size a ≤ S16x256x256.size a), (Rect.unit (s := S16x256x256) (k0_off108 v496) S1x256x256.size hinb).WholeWords (EltTy.packing .bf16)) ∧
  (∀ a, (k0_off109 v496) a + S1x256x256.size a ≤ S16x256x256.size a)
theorem k0_off107_inb : ∀ (v496 : BitVec 32) (k0_hw36 : k0_chk36 v496), ∀ a, (k0_off107 v496) a + S1.size a ≤ S16.size a := fun v496 k0_hw36 => k0_hw36.1
theorem k0_off108_inb : ∀ (v496 : BitVec 32) (k0_hw36 : k0_chk36 v496), ∀ a, (k0_off108 v496) a + S1x256x256.size a ≤ S16x256x256.size a := fun v496 k0_hw36 => k0_hw36.2.1
theorem k0_off108_wordsbf16 : ∀ (v496 : BitVec 32) (k0_hw36 : k0_chk36 v496), (Rect.unit (s := S16x256x256) (k0_off108 v496) S1x256x256.size (k0_off108_inb v496 k0_hw36)).WholeWords (EltTy.packing .bf16) := fun v496 k0_hw36 => k0_hw36.2.2.1 (k0_off108_inb v496 k0_hw36)
theorem k0_off109_inb : ∀ (v496 : BitVec 32) (k0_hw36 : k0_chk36 v496), ∀ a, (k0_off109 v496) a + S1x256x256.size a ≤ S16x256x256.size a := fun v496 k0_hw36 => k0_hw36.2.2.2

def k0_off110 (v427 : BitVec 32) : Fin 2 → Nat :=
  let c256_i32_356 : BitVec 32 := 256#32
  let v428 : BitVec 32 := Scalar.muli v427 c256_i32_356
  let c0_i32_436 : BitVec 32 := 0#32
  ![v428.toNat, 0]

def k0_chk31 (v427 : BitVec 32) : Prop :=
  (∀ a, (k0_off96 v427) a + S256x8192.size a ≤ S4096x8192.size a) ∧
  (∀ a, (k0_off110 v427) a + S256x8192.size a ≤ S4096x8192.size a)
theorem k0_off96_inb : ∀ (v427 : BitVec 32) (k0_hw31 : k0_chk31 v427), ∀ a, (k0_off96 v427) a + S256x8192.size a ≤ S4096x8192.size a := fun v427 k0_hw31 => k0_hw31.1
theorem k0_off110_inb : ∀ (v427 : BitVec 32) (k0_hw31 : k0_chk31 v427), ∀ a, (k0_off110 v427) a + S256x8192.size a ≤ S4096x8192.size a := fun v427 k0_hw31 => k0_hw31.2

def k0_off111 (v520 : BitVec 32) : Fin 2 → Nat :=
  let c256_i32_446 : BitVec 32 := 256#32
  let v521 : BitVec 32 := Scalar.muli v520 c256_i32_446
  let c0_i32_451 : BitVec 32 := 0#32
  ![v521.toNat, 0]

def k0_off112 (v527 : BitVec 32) : Fin 1 → Nat :=
  ![v527.toNat]

def k0_off113 (v527 : BitVec 32) : Fin 3 → Nat :=
  let c0_i32_456 : BitVec 32 := 0#32
  let c0_i32_457 : BitVec 32 := 0#32
  ![v527.toNat, 0, 0]
def k0_off114 (v527 : BitVec 32) : Fin 3 → Nat :=
  let v535 : Index := Scalar.indexCast v527
  let c0_460 : Index := 0#32
  let c0_461 : Index := 0#32
  ![v535.toNat, 0, 0]

def k0_chk38 (v527 : BitVec 32) : Prop :=
  (∀ a, (k0_off112 v527) a + S1.size a ≤ S16.size a) ∧
  (∀ a, (k0_off113 v527) a + S1x256x256.size a ≤ S16x256x256.size a) ∧
  (∀ (hinb : ∀ a, (k0_off113 v527) a + S1x256x256.size a ≤ S16x256x256.size a), (Rect.unit (s := S16x256x256) (k0_off113 v527) S1x256x256.size hinb).WholeWords (EltTy.packing .bf16)) ∧
  (∀ a, (k0_off114 v527) a + S1x256x256.size a ≤ S16x256x256.size a)
theorem k0_off112_inb : ∀ (v527 : BitVec 32) (k0_hw38 : k0_chk38 v527), ∀ a, (k0_off112 v527) a + S1.size a ≤ S16.size a := fun v527 k0_hw38 => k0_hw38.1
theorem k0_off113_inb : ∀ (v527 : BitVec 32) (k0_hw38 : k0_chk38 v527), ∀ a, (k0_off113 v527) a + S1x256x256.size a ≤ S16x256x256.size a := fun v527 k0_hw38 => k0_hw38.2.1
theorem k0_off113_wordsbf16 : ∀ (v527 : BitVec 32) (k0_hw38 : k0_chk38 v527), (Rect.unit (s := S16x256x256) (k0_off113 v527) S1x256x256.size (k0_off113_inb v527 k0_hw38)).WholeWords (EltTy.packing .bf16) := fun v527 k0_hw38 => k0_hw38.2.2.1 (k0_off113_inb v527 k0_hw38)
theorem k0_off114_inb : ∀ (v527 : BitVec 32) (k0_hw38 : k0_chk38 v527), ∀ a, (k0_off114 v527) a + S1x256x256.size a ≤ S16x256x256.size a := fun v527 k0_hw38 => k0_hw38.2.2.2

def k0_off115 (v458 : BitVec 32) : Fin 2 → Nat :=
  let c256_i32_386 : BitVec 32 := 256#32
  let v459 : BitVec 32 := Scalar.muli v458 c256_i32_386
  let c0_i32_466 : BitVec 32 := 0#32
  ![v459.toNat, 0]

def k0_chk33 (v458 : BitVec 32) : Prop :=
  (∀ a, (k0_off101 v458) a + S256x8192.size a ≤ S4096x8192.size a) ∧
  (∀ a, (k0_off115 v458) a + S256x8192.size a ≤ S4096x8192.size a)
theorem k0_off101_inb : ∀ (v458 : BitVec 32) (k0_hw33 : k0_chk33 v458), ∀ a, (k0_off101 v458) a + S256x8192.size a ≤ S4096x8192.size a := fun v458 k0_hw33 => k0_hw33.1
theorem k0_off115_inb : ∀ (v458 : BitVec 32) (k0_hw33 : k0_chk33 v458), ∀ a, (k0_off115 v458) a + S256x8192.size a ≤ S4096x8192.size a := fun v458 k0_hw33 => k0_hw33.2

def k0_off116 (v551 : BitVec 32) : Fin 2 → Nat :=
  let c256_i32_476 : BitVec 32 := 256#32
  let v552 : BitVec 32 := Scalar.muli v551 c256_i32_476
  let c0_i32_481 : BitVec 32 := 0#32
  ![v552.toNat, 0]

def k0_off117 (v558 : BitVec 32) : Fin 1 → Nat :=
  ![v558.toNat]

def k0_off118 (v558 : BitVec 32) : Fin 3 → Nat :=
  let c0_i32_486 : BitVec 32 := 0#32
  let c0_i32_487 : BitVec 32 := 0#32
  ![v558.toNat, 0, 0]
def k0_off119 (v558 : BitVec 32) : Fin 3 → Nat :=
  let v566 : Index := Scalar.indexCast v558
  let c0_490 : Index := 0#32
  let c0_491 : Index := 0#32
  ![v566.toNat, 0, 0]

def k0_chk40 (v558 : BitVec 32) : Prop :=
  (∀ a, (k0_off117 v558) a + S1.size a ≤ S16.size a) ∧
  (∀ a, (k0_off118 v558) a + S1x256x256.size a ≤ S16x256x256.size a) ∧
  (∀ (hinb : ∀ a, (k0_off118 v558) a + S1x256x256.size a ≤ S16x256x256.size a), (Rect.unit (s := S16x256x256) (k0_off118 v558) S1x256x256.size hinb).WholeWords (EltTy.packing .bf16)) ∧
  (∀ a, (k0_off119 v558) a + S1x256x256.size a ≤ S16x256x256.size a)
theorem k0_off117_inb : ∀ (v558 : BitVec 32) (k0_hw40 : k0_chk40 v558), ∀ a, (k0_off117 v558) a + S1.size a ≤ S16.size a := fun v558 k0_hw40 => k0_hw40.1
theorem k0_off118_inb : ∀ (v558 : BitVec 32) (k0_hw40 : k0_chk40 v558), ∀ a, (k0_off118 v558) a + S1x256x256.size a ≤ S16x256x256.size a := fun v558 k0_hw40 => k0_hw40.2.1
theorem k0_off118_wordsbf16 : ∀ (v558 : BitVec 32) (k0_hw40 : k0_chk40 v558), (Rect.unit (s := S16x256x256) (k0_off118 v558) S1x256x256.size (k0_off118_inb v558 k0_hw40)).WholeWords (EltTy.packing .bf16) := fun v558 k0_hw40 => k0_hw40.2.2.1 (k0_off118_inb v558 k0_hw40)
theorem k0_off119_inb : ∀ (v558 : BitVec 32) (k0_hw40 : k0_chk40 v558), ∀ a, (k0_off119 v558) a + S1x256x256.size a ≤ S16x256x256.size a := fun v558 k0_hw40 => k0_hw40.2.2.2

def k0_off120 (v489 : BitVec 32) : Fin 2 → Nat :=
  let c256_i32_416 : BitVec 32 := 256#32
  let v490 : BitVec 32 := Scalar.muli v489 c256_i32_416
  let c0_i32_496 : BitVec 32 := 0#32
  ![v490.toNat, 0]

def k0_chk35 (v489 : BitVec 32) : Prop :=
  (∀ a, (k0_off106 v489) a + S256x8192.size a ≤ S4096x8192.size a) ∧
  (∀ a, (k0_off120 v489) a + S256x8192.size a ≤ S4096x8192.size a)
theorem k0_off106_inb : ∀ (v489 : BitVec 32) (k0_hw35 : k0_chk35 v489), ∀ a, (k0_off106 v489) a + S256x8192.size a ≤ S4096x8192.size a := fun v489 k0_hw35 => k0_hw35.1
theorem k0_off120_inb : ∀ (v489 : BitVec 32) (k0_hw35 : k0_chk35 v489), ∀ a, (k0_off120 v489) a + S256x8192.size a ≤ S4096x8192.size a := fun v489 k0_hw35 => k0_hw35.2

def k0_off121 (v582 : BitVec 32) : Fin 2 → Nat :=
  let c256_i32_506 : BitVec 32 := 256#32
  let v583 : BitVec 32 := Scalar.muli v582 c256_i32_506
  let c0_i32_511 : BitVec 32 := 0#32
  ![v583.toNat, 0]

def k0_off122 (v589 : BitVec 32) : Fin 1 → Nat :=
  ![v589.toNat]

def k0_off123 (v589 : BitVec 32) : Fin 3 → Nat :=
  let c0_i32_516 : BitVec 32 := 0#32
  let c0_i32_517 : BitVec 32 := 0#32
  ![v589.toNat, 0, 0]
def k0_off124 (v589 : BitVec 32) : Fin 3 → Nat :=
  let v597 : Index := Scalar.indexCast v589
  let c0_520 : Index := 0#32
  let c0_521 : Index := 0#32
  ![v597.toNat, 0, 0]

def k0_chk42 (v589 : BitVec 32) : Prop :=
  (∀ a, (k0_off122 v589) a + S1.size a ≤ S16.size a) ∧
  (∀ a, (k0_off123 v589) a + S1x256x256.size a ≤ S16x256x256.size a) ∧
  (∀ (hinb : ∀ a, (k0_off123 v589) a + S1x256x256.size a ≤ S16x256x256.size a), (Rect.unit (s := S16x256x256) (k0_off123 v589) S1x256x256.size hinb).WholeWords (EltTy.packing .bf16)) ∧
  (∀ a, (k0_off124 v589) a + S1x256x256.size a ≤ S16x256x256.size a)
theorem k0_off122_inb : ∀ (v589 : BitVec 32) (k0_hw42 : k0_chk42 v589), ∀ a, (k0_off122 v589) a + S1.size a ≤ S16.size a := fun v589 k0_hw42 => k0_hw42.1
theorem k0_off123_inb : ∀ (v589 : BitVec 32) (k0_hw42 : k0_chk42 v589), ∀ a, (k0_off123 v589) a + S1x256x256.size a ≤ S16x256x256.size a := fun v589 k0_hw42 => k0_hw42.2.1
theorem k0_off123_wordsbf16 : ∀ (v589 : BitVec 32) (k0_hw42 : k0_chk42 v589), (Rect.unit (s := S16x256x256) (k0_off123 v589) S1x256x256.size (k0_off123_inb v589 k0_hw42)).WholeWords (EltTy.packing .bf16) := fun v589 k0_hw42 => k0_hw42.2.2.1 (k0_off123_inb v589 k0_hw42)
theorem k0_off124_inb : ∀ (v589 : BitVec 32) (k0_hw42 : k0_chk42 v589), ∀ a, (k0_off124 v589) a + S1x256x256.size a ≤ S16x256x256.size a := fun v589 k0_hw42 => k0_hw42.2.2.2

def k0_off125 (v520 : BitVec 32) : Fin 2 → Nat :=
  let c256_i32_446 : BitVec 32 := 256#32
  let v521 : BitVec 32 := Scalar.muli v520 c256_i32_446
  let c0_i32_526 : BitVec 32 := 0#32
  ![v521.toNat, 0]

def k0_chk37 (v520 : BitVec 32) : Prop :=
  (∀ a, (k0_off111 v520) a + S256x8192.size a ≤ S4096x8192.size a) ∧
  (∀ a, (k0_off125 v520) a + S256x8192.size a ≤ S4096x8192.size a)
theorem k0_off111_inb : ∀ (v520 : BitVec 32) (k0_hw37 : k0_chk37 v520), ∀ a, (k0_off111 v520) a + S256x8192.size a ≤ S4096x8192.size a := fun v520 k0_hw37 => k0_hw37.1
theorem k0_off125_inb : ∀ (v520 : BitVec 32) (k0_hw37 : k0_chk37 v520), ∀ a, (k0_off125 v520) a + S256x8192.size a ≤ S4096x8192.size a := fun v520 k0_hw37 => k0_hw37.2

def k0_off126 (v613 : BitVec 32) : Fin 2 → Nat :=
  let c256_i32_536 : BitVec 32 := 256#32
  let v614 : BitVec 32 := Scalar.muli v613 c256_i32_536
  let c0_i32_541 : BitVec 32 := 0#32
  ![v614.toNat, 0]

def k0_off127 (v620 : BitVec 32) : Fin 1 → Nat :=
  ![v620.toNat]

def k0_off128 (v620 : BitVec 32) : Fin 3 → Nat :=
  let c0_i32_546 : BitVec 32 := 0#32
  let c0_i32_547 : BitVec 32 := 0#32
  ![v620.toNat, 0, 0]
def k0_off129 (v620 : BitVec 32) : Fin 3 → Nat :=
  let v628 : Index := Scalar.indexCast v620
  let c0_550 : Index := 0#32
  let c0_551 : Index := 0#32
  ![v628.toNat, 0, 0]

def k0_chk44 (v620 : BitVec 32) : Prop :=
  (∀ a, (k0_off127 v620) a + S1.size a ≤ S16.size a) ∧
  (∀ a, (k0_off128 v620) a + S1x256x256.size a ≤ S16x256x256.size a) ∧
  (∀ (hinb : ∀ a, (k0_off128 v620) a + S1x256x256.size a ≤ S16x256x256.size a), (Rect.unit (s := S16x256x256) (k0_off128 v620) S1x256x256.size hinb).WholeWords (EltTy.packing .bf16)) ∧
  (∀ a, (k0_off129 v620) a + S1x256x256.size a ≤ S16x256x256.size a)
theorem k0_off127_inb : ∀ (v620 : BitVec 32) (k0_hw44 : k0_chk44 v620), ∀ a, (k0_off127 v620) a + S1.size a ≤ S16.size a := fun v620 k0_hw44 => k0_hw44.1
theorem k0_off128_inb : ∀ (v620 : BitVec 32) (k0_hw44 : k0_chk44 v620), ∀ a, (k0_off128 v620) a + S1x256x256.size a ≤ S16x256x256.size a := fun v620 k0_hw44 => k0_hw44.2.1
theorem k0_off128_wordsbf16 : ∀ (v620 : BitVec 32) (k0_hw44 : k0_chk44 v620), (Rect.unit (s := S16x256x256) (k0_off128 v620) S1x256x256.size (k0_off128_inb v620 k0_hw44)).WholeWords (EltTy.packing .bf16) := fun v620 k0_hw44 => k0_hw44.2.2.1 (k0_off128_inb v620 k0_hw44)
theorem k0_off129_inb : ∀ (v620 : BitVec 32) (k0_hw44 : k0_chk44 v620), ∀ a, (k0_off129 v620) a + S1x256x256.size a ≤ S16x256x256.size a := fun v620 k0_hw44 => k0_hw44.2.2.2

def k0_off130 (v551 : BitVec 32) : Fin 2 → Nat :=
  let c256_i32_476 : BitVec 32 := 256#32
  let v552 : BitVec 32 := Scalar.muli v551 c256_i32_476
  let c0_i32_556 : BitVec 32 := 0#32
  ![v552.toNat, 0]

def k0_chk39 (v551 : BitVec 32) : Prop :=
  (∀ a, (k0_off116 v551) a + S256x8192.size a ≤ S4096x8192.size a) ∧
  (∀ a, (k0_off130 v551) a + S256x8192.size a ≤ S4096x8192.size a)
theorem k0_off116_inb : ∀ (v551 : BitVec 32) (k0_hw39 : k0_chk39 v551), ∀ a, (k0_off116 v551) a + S256x8192.size a ≤ S4096x8192.size a := fun v551 k0_hw39 => k0_hw39.1
theorem k0_off130_inb : ∀ (v551 : BitVec 32) (k0_hw39 : k0_chk39 v551), ∀ a, (k0_off130 v551) a + S256x8192.size a ≤ S4096x8192.size a := fun v551 k0_hw39 => k0_hw39.2

def k0_off131 (v644 : BitVec 32) : Fin 1 → Nat :=
  ![v644.toNat]

def k0_off132 (v644 : BitVec 32) : Fin 3 → Nat :=
  let c0_i32_569 : BitVec 32 := 0#32
  let c0_i32_570 : BitVec 32 := 0#32
  ![v644.toNat, 0, 0]
def k0_off133 (v644 : BitVec 32) : Fin 3 → Nat :=
  let v652 : Index := Scalar.indexCast v644
  let c0_573 : Index := 0#32
  let c0_574 : Index := 0#32
  ![v652.toNat, 0, 0]

def k0_chk45 (v644 : BitVec 32) : Prop :=
  (∀ a, (k0_off131 v644) a + S1.size a ≤ S16.size a) ∧
  (∀ a, (k0_off132 v644) a + S1x256x256.size a ≤ S16x256x256.size a) ∧
  (∀ (hinb : ∀ a, (k0_off132 v644) a + S1x256x256.size a ≤ S16x256x256.size a), (Rect.unit (s := S16x256x256) (k0_off132 v644) S1x256x256.size hinb).WholeWords (EltTy.packing .bf16)) ∧
  (∀ a, (k0_off133 v644) a + S1x256x256.size a ≤ S16x256x256.size a)
theorem k0_off131_inb : ∀ (v644 : BitVec 32) (k0_hw45 : k0_chk45 v644), ∀ a, (k0_off131 v644) a + S1.size a ≤ S16.size a := fun v644 k0_hw45 => k0_hw45.1
theorem k0_off132_inb : ∀ (v644 : BitVec 32) (k0_hw45 : k0_chk45 v644), ∀ a, (k0_off132 v644) a + S1x256x256.size a ≤ S16x256x256.size a := fun v644 k0_hw45 => k0_hw45.2.1
theorem k0_off132_wordsbf16 : ∀ (v644 : BitVec 32) (k0_hw45 : k0_chk45 v644), (Rect.unit (s := S16x256x256) (k0_off132 v644) S1x256x256.size (k0_off132_inb v644 k0_hw45)).WholeWords (EltTy.packing .bf16) := fun v644 k0_hw45 => k0_hw45.2.2.1 (k0_off132_inb v644 k0_hw45)
theorem k0_off133_inb : ∀ (v644 : BitVec 32) (k0_hw45 : k0_chk45 v644), ∀ a, (k0_off133 v644) a + S1x256x256.size a ≤ S16x256x256.size a := fun v644 k0_hw45 => k0_hw45.2.2.2

def k0_off134 (v582 : BitVec 32) : Fin 2 → Nat :=
  let c256_i32_506 : BitVec 32 := 256#32
  let v583 : BitVec 32 := Scalar.muli v582 c256_i32_506
  let c0_i32_579 : BitVec 32 := 0#32
  ![v583.toNat, 0]

def k0_chk41 (v582 : BitVec 32) : Prop :=
  (∀ a, (k0_off121 v582) a + S256x8192.size a ≤ S4096x8192.size a) ∧
  (∀ a, (k0_off134 v582) a + S256x8192.size a ≤ S4096x8192.size a)
theorem k0_off121_inb : ∀ (v582 : BitVec 32) (k0_hw41 : k0_chk41 v582), ∀ a, (k0_off121 v582) a + S256x8192.size a ≤ S4096x8192.size a := fun v582 k0_hw41 => k0_hw41.1
theorem k0_off134_inb : ∀ (v582 : BitVec 32) (k0_hw41 : k0_chk41 v582), ∀ a, (k0_off134 v582) a + S256x8192.size a ≤ S4096x8192.size a := fun v582 k0_hw41 => k0_hw41.2

def k0_off135 (v668 : BitVec 32) : Fin 1 → Nat :=
  ![v668.toNat]

def k0_off136 (v668 : BitVec 32) : Fin 3 → Nat :=
  let c0_i32_592 : BitVec 32 := 0#32
  let c0_i32_593 : BitVec 32 := 0#32
  ![v668.toNat, 0, 0]
def k0_off137 (v668 : BitVec 32) : Fin 3 → Nat :=
  let v676 : Index := Scalar.indexCast v668
  let c0_596 : Index := 0#32
  let c0_597 : Index := 0#32
  ![v676.toNat, 0, 0]

def k0_chk46 (v668 : BitVec 32) : Prop :=
  (∀ a, (k0_off135 v668) a + S1.size a ≤ S16.size a) ∧
  (∀ a, (k0_off136 v668) a + S1x256x256.size a ≤ S16x256x256.size a) ∧
  (∀ (hinb : ∀ a, (k0_off136 v668) a + S1x256x256.size a ≤ S16x256x256.size a), (Rect.unit (s := S16x256x256) (k0_off136 v668) S1x256x256.size hinb).WholeWords (EltTy.packing .bf16)) ∧
  (∀ a, (k0_off137 v668) a + S1x256x256.size a ≤ S16x256x256.size a)
theorem k0_off135_inb : ∀ (v668 : BitVec 32) (k0_hw46 : k0_chk46 v668), ∀ a, (k0_off135 v668) a + S1.size a ≤ S16.size a := fun v668 k0_hw46 => k0_hw46.1
theorem k0_off136_inb : ∀ (v668 : BitVec 32) (k0_hw46 : k0_chk46 v668), ∀ a, (k0_off136 v668) a + S1x256x256.size a ≤ S16x256x256.size a := fun v668 k0_hw46 => k0_hw46.2.1
theorem k0_off136_wordsbf16 : ∀ (v668 : BitVec 32) (k0_hw46 : k0_chk46 v668), (Rect.unit (s := S16x256x256) (k0_off136 v668) S1x256x256.size (k0_off136_inb v668 k0_hw46)).WholeWords (EltTy.packing .bf16) := fun v668 k0_hw46 => k0_hw46.2.2.1 (k0_off136_inb v668 k0_hw46)
theorem k0_off137_inb : ∀ (v668 : BitVec 32) (k0_hw46 : k0_chk46 v668), ∀ a, (k0_off137 v668) a + S1x256x256.size a ≤ S16x256x256.size a := fun v668 k0_hw46 => k0_hw46.2.2.2

def k0_off138 (v613 : BitVec 32) : Fin 2 → Nat :=
  let c256_i32_536 : BitVec 32 := 256#32
  let v614 : BitVec 32 := Scalar.muli v613 c256_i32_536
  let c0_i32_602 : BitVec 32 := 0#32
  ![v614.toNat, 0]

def k0_chk43 (v613 : BitVec 32) : Prop :=
  (∀ a, (k0_off126 v613) a + S256x8192.size a ≤ S4096x8192.size a) ∧
  (∀ a, (k0_off138 v613) a + S256x8192.size a ≤ S4096x8192.size a)
theorem k0_off126_inb : ∀ (v613 : BitVec 32) (k0_hw43 : k0_chk43 v613), ∀ a, (k0_off126 v613) a + S256x8192.size a ≤ S4096x8192.size a := fun v613 k0_hw43 => k0_hw43.1
theorem k0_off138_inb : ∀ (v613 : BitVec 32) (k0_hw43 : k0_chk43 v613), ∀ a, (k0_off138 v613) a + S256x8192.size a ≤ S4096x8192.size a := fun v613 k0_hw43 => k0_hw43.2

def k0_off139 (v692 : BitVec 32) : Fin 1 → Nat :=
  ![v692.toNat]

def k0_off140 (v692 : BitVec 32) : Fin 2 → Nat :=
  let c256_i32_612 : BitVec 32 := 256#32
  let v693 : BitVec 32 := Scalar.muli v692 c256_i32_612
  let c0_i32_614 : BitVec 32 := 0#32
  ![v693.toNat, 0]
def k0_off141 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_615 : BitVec 32 := 0#32
  let c0_i32_616 : BitVec 32 := 0#32
  ![v2.toNat, 0, 0]

def k0_chk47 (v692 : BitVec 32) : Prop :=
  (∀ a, (k0_off139 v692) a + S1.size a ≤ S16.size a) ∧
  (∀ a, (k0_off140 v692) a + S256x256.size a ≤ S4096x256.size a) ∧
  (∀ (hinb : ∀ a, (k0_off140 v692) a + S256x256.size a ≤ S4096x256.size a), (Rect.unit (s := S4096x256) (k0_off140 v692) S256x256.size hinb).WholeWords (EltTy.packing .bf16))
theorem k0_off139_inb : ∀ (v692 : BitVec 32) (k0_hw47 : k0_chk47 v692), ∀ a, (k0_off139 v692) a + S1.size a ≤ S16.size a := fun v692 k0_hw47 => k0_hw47.1
theorem k0_off140_inb : ∀ (v692 : BitVec 32) (k0_hw47 : k0_chk47 v692), ∀ a, (k0_off140 v692) a + S256x256.size a ≤ S4096x256.size a := fun v692 k0_hw47 => k0_hw47.2.1
theorem k0_off140_wordsbf16 : ∀ (v692 : BitVec 32) (k0_hw47 : k0_chk47 v692), (Rect.unit (s := S4096x256) (k0_off140 v692) S256x256.size (k0_off140_inb v692 k0_hw47)).WholeWords (EltTy.packing .bf16) := fun v692 k0_hw47 => k0_hw47.2.2 (k0_off140_inb v692 k0_hw47)

def k0_off142 (v699 : BitVec 32) : Fin 1 → Nat :=
  ![v699.toNat]

def k0_off143 (v699 : BitVec 32) : Fin 2 → Nat :=
  let c256_i32_618 : BitVec 32 := 256#32
  let v700 : BitVec 32 := Scalar.muli v699 c256_i32_618
  let c0_i32_620 : BitVec 32 := 0#32
  ![v700.toNat, 0]
def k0_off144 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_621 : BitVec 32 := 0#32
  let c0_i32_622 : BitVec 32 := 0#32
  ![v2.toNat, 0, 0]

def k0_chk48 (v699 : BitVec 32) : Prop :=
  (∀ a, (k0_off142 v699) a + S1.size a ≤ S16.size a) ∧
  (∀ a, (k0_off143 v699) a + S256x256.size a ≤ S4096x256.size a) ∧
  (∀ (hinb : ∀ a, (k0_off143 v699) a + S256x256.size a ≤ S4096x256.size a), (Rect.unit (s := S4096x256) (k0_off143 v699) S256x256.size hinb).WholeWords (EltTy.packing .bf16))
theorem k0_off142_inb : ∀ (v699 : BitVec 32) (k0_hw48 : k0_chk48 v699), ∀ a, (k0_off142 v699) a + S1.size a ≤ S16.size a := fun v699 k0_hw48 => k0_hw48.1
theorem k0_off143_inb : ∀ (v699 : BitVec 32) (k0_hw48 : k0_chk48 v699), ∀ a, (k0_off143 v699) a + S256x256.size a ≤ S4096x256.size a := fun v699 k0_hw48 => k0_hw48.2.1
theorem k0_off143_wordsbf16 : ∀ (v699 : BitVec 32) (k0_hw48 : k0_chk48 v699), (Rect.unit (s := S4096x256) (k0_off143 v699) S256x256.size (k0_off143_inb v699 k0_hw48)).WholeWords (EltTy.packing .bf16) := fun v699 k0_hw48 => k0_hw48.2.2 (k0_off143_inb v699 k0_hw48)

def k0_off145 (v706 : BitVec 32) : Fin 1 → Nat :=
  ![v706.toNat]

def k0_off146 (v706 : BitVec 32) : Fin 2 → Nat :=
  let c256_i32_624 : BitVec 32 := 256#32
  let v707 : BitVec 32 := Scalar.muli v706 c256_i32_624
  let c0_i32_626 : BitVec 32 := 0#32
  ![v707.toNat, 0]
def k0_off147 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_627 : BitVec 32 := 0#32
  let c0_i32_628 : BitVec 32 := 0#32
  ![v2.toNat, 0, 0]

def k0_chk49 (v706 : BitVec 32) : Prop :=
  (∀ a, (k0_off145 v706) a + S1.size a ≤ S16.size a) ∧
  (∀ a, (k0_off146 v706) a + S256x256.size a ≤ S4096x256.size a) ∧
  (∀ (hinb : ∀ a, (k0_off146 v706) a + S256x256.size a ≤ S4096x256.size a), (Rect.unit (s := S4096x256) (k0_off146 v706) S256x256.size hinb).WholeWords (EltTy.packing .bf16))
theorem k0_off145_inb : ∀ (v706 : BitVec 32) (k0_hw49 : k0_chk49 v706), ∀ a, (k0_off145 v706) a + S1.size a ≤ S16.size a := fun v706 k0_hw49 => k0_hw49.1
theorem k0_off146_inb : ∀ (v706 : BitVec 32) (k0_hw49 : k0_chk49 v706), ∀ a, (k0_off146 v706) a + S256x256.size a ≤ S4096x256.size a := fun v706 k0_hw49 => k0_hw49.2.1
theorem k0_off146_wordsbf16 : ∀ (v706 : BitVec 32) (k0_hw49 : k0_chk49 v706), (Rect.unit (s := S4096x256) (k0_off146 v706) S256x256.size (k0_off146_inb v706 k0_hw49)).WholeWords (EltTy.packing .bf16) := fun v706 k0_hw49 => k0_hw49.2.2 (k0_off146_inb v706 k0_hw49)

def k0_off148 (v713 : BitVec 32) : Fin 1 → Nat :=
  ![v713.toNat]

def k0_off149 (v713 : BitVec 32) : Fin 2 → Nat :=
  let c256_i32_630 : BitVec 32 := 256#32
  let v714 : BitVec 32 := Scalar.muli v713 c256_i32_630
  let c0_i32_632 : BitVec 32 := 0#32
  ![v714.toNat, 0]
def k0_off150 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_633 : BitVec 32 := 0#32
  let c0_i32_634 : BitVec 32 := 0#32
  ![v2.toNat, 0, 0]

def k0_chk50 (v713 : BitVec 32) : Prop :=
  (∀ a, (k0_off148 v713) a + S1.size a ≤ S16.size a) ∧
  (∀ a, (k0_off149 v713) a + S256x256.size a ≤ S4096x256.size a) ∧
  (∀ (hinb : ∀ a, (k0_off149 v713) a + S256x256.size a ≤ S4096x256.size a), (Rect.unit (s := S4096x256) (k0_off149 v713) S256x256.size hinb).WholeWords (EltTy.packing .bf16))
theorem k0_off148_inb : ∀ (v713 : BitVec 32) (k0_hw50 : k0_chk50 v713), ∀ a, (k0_off148 v713) a + S1.size a ≤ S16.size a := fun v713 k0_hw50 => k0_hw50.1
theorem k0_off149_inb : ∀ (v713 : BitVec 32) (k0_hw50 : k0_chk50 v713), ∀ a, (k0_off149 v713) a + S256x256.size a ≤ S4096x256.size a := fun v713 k0_hw50 => k0_hw50.2.1
theorem k0_off149_wordsbf16 : ∀ (v713 : BitVec 32) (k0_hw50 : k0_chk50 v713), (Rect.unit (s := S4096x256) (k0_off149 v713) S256x256.size (k0_off149_inb v713 k0_hw50)).WholeWords (EltTy.packing .bf16) := fun v713 k0_hw50 => k0_hw50.2.2 (k0_off149_inb v713 k0_hw50)

def k0_off151 (v720 : BitVec 32) : Fin 1 → Nat :=
  ![v720.toNat]

def k0_off152 (v720 : BitVec 32) : Fin 2 → Nat :=
  let c256_i32_636 : BitVec 32 := 256#32
  let v721 : BitVec 32 := Scalar.muli v720 c256_i32_636
  let c0_i32_638 : BitVec 32 := 0#32
  ![v721.toNat, 0]
def k0_off153 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_639 : BitVec 32 := 0#32
  let c0_i32_640 : BitVec 32 := 0#32
  ![v2.toNat, 0, 0]

def k0_chk51 (v720 : BitVec 32) : Prop :=
  (∀ a, (k0_off151 v720) a + S1.size a ≤ S16.size a) ∧
  (∀ a, (k0_off152 v720) a + S256x256.size a ≤ S4096x256.size a) ∧
  (∀ (hinb : ∀ a, (k0_off152 v720) a + S256x256.size a ≤ S4096x256.size a), (Rect.unit (s := S4096x256) (k0_off152 v720) S256x256.size hinb).WholeWords (EltTy.packing .bf16))
theorem k0_off151_inb : ∀ (v720 : BitVec 32) (k0_hw51 : k0_chk51 v720), ∀ a, (k0_off151 v720) a + S1.size a ≤ S16.size a := fun v720 k0_hw51 => k0_hw51.1
theorem k0_off152_inb : ∀ (v720 : BitVec 32) (k0_hw51 : k0_chk51 v720), ∀ a, (k0_off152 v720) a + S256x256.size a ≤ S4096x256.size a := fun v720 k0_hw51 => k0_hw51.2.1
theorem k0_off152_wordsbf16 : ∀ (v720 : BitVec 32) (k0_hw51 : k0_chk51 v720), (Rect.unit (s := S4096x256) (k0_off152 v720) S256x256.size (k0_off152_inb v720 k0_hw51)).WholeWords (EltTy.packing .bf16) := fun v720 k0_hw51 => k0_hw51.2.2 (k0_off152_inb v720 k0_hw51)

def k0_off154 (v727 : BitVec 32) : Fin 1 → Nat :=
  ![v727.toNat]

def k0_off155 (v727 : BitVec 32) : Fin 2 → Nat :=
  let c256_i32_642 : BitVec 32 := 256#32
  let v728 : BitVec 32 := Scalar.muli v727 c256_i32_642
  let c0_i32_644 : BitVec 32 := 0#32
  ![v728.toNat, 0]
def k0_off156 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_645 : BitVec 32 := 0#32
  let c0_i32_646 : BitVec 32 := 0#32
  ![v2.toNat, 0, 0]

def k0_chk52 (v727 : BitVec 32) : Prop :=
  (∀ a, (k0_off154 v727) a + S1.size a ≤ S16.size a) ∧
  (∀ a, (k0_off155 v727) a + S256x256.size a ≤ S4096x256.size a) ∧
  (∀ (hinb : ∀ a, (k0_off155 v727) a + S256x256.size a ≤ S4096x256.size a), (Rect.unit (s := S4096x256) (k0_off155 v727) S256x256.size hinb).WholeWords (EltTy.packing .bf16))
theorem k0_off154_inb : ∀ (v727 : BitVec 32) (k0_hw52 : k0_chk52 v727), ∀ a, (k0_off154 v727) a + S1.size a ≤ S16.size a := fun v727 k0_hw52 => k0_hw52.1
theorem k0_off155_inb : ∀ (v727 : BitVec 32) (k0_hw52 : k0_chk52 v727), ∀ a, (k0_off155 v727) a + S256x256.size a ≤ S4096x256.size a := fun v727 k0_hw52 => k0_hw52.2.1
theorem k0_off155_wordsbf16 : ∀ (v727 : BitVec 32) (k0_hw52 : k0_chk52 v727), (Rect.unit (s := S4096x256) (k0_off155 v727) S256x256.size (k0_off155_inb v727 k0_hw52)).WholeWords (EltTy.packing .bf16) := fun v727 k0_hw52 => k0_hw52.2.2 (k0_off155_inb v727 k0_hw52)

def k0_off157 (v734 : BitVec 32) : Fin 1 → Nat :=
  ![v734.toNat]

def k0_off158 (v734 : BitVec 32) : Fin 2 → Nat :=
  let c256_i32_648 : BitVec 32 := 256#32
  let v735 : BitVec 32 := Scalar.muli v734 c256_i32_648
  let c0_i32_650 : BitVec 32 := 0#32
  ![v735.toNat, 0]
def k0_off159 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_651 : BitVec 32 := 0#32
  let c0_i32_652 : BitVec 32 := 0#32
  ![v2.toNat, 0, 0]

def k0_chk53 (v734 : BitVec 32) : Prop :=
  (∀ a, (k0_off157 v734) a + S1.size a ≤ S16.size a) ∧
  (∀ a, (k0_off158 v734) a + S256x256.size a ≤ S4096x256.size a) ∧
  (∀ (hinb : ∀ a, (k0_off158 v734) a + S256x256.size a ≤ S4096x256.size a), (Rect.unit (s := S4096x256) (k0_off158 v734) S256x256.size hinb).WholeWords (EltTy.packing .bf16))
theorem k0_off157_inb : ∀ (v734 : BitVec 32) (k0_hw53 : k0_chk53 v734), ∀ a, (k0_off157 v734) a + S1.size a ≤ S16.size a := fun v734 k0_hw53 => k0_hw53.1
theorem k0_off158_inb : ∀ (v734 : BitVec 32) (k0_hw53 : k0_chk53 v734), ∀ a, (k0_off158 v734) a + S256x256.size a ≤ S4096x256.size a := fun v734 k0_hw53 => k0_hw53.2.1
theorem k0_off158_wordsbf16 : ∀ (v734 : BitVec 32) (k0_hw53 : k0_chk53 v734), (Rect.unit (s := S4096x256) (k0_off158 v734) S256x256.size (k0_off158_inb v734 k0_hw53)).WholeWords (EltTy.packing .bf16) := fun v734 k0_hw53 => k0_hw53.2.2 (k0_off158_inb v734 k0_hw53)

def k0_off160 (v741 : BitVec 32) : Fin 1 → Nat :=
  ![v741.toNat]

def k0_off161 (v741 : BitVec 32) : Fin 2 → Nat :=
  let c256_i32_654 : BitVec 32 := 256#32
  let v742 : BitVec 32 := Scalar.muli v741 c256_i32_654
  let c0_i32_656 : BitVec 32 := 0#32
  ![v742.toNat, 0]
def k0_off162 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_657 : BitVec 32 := 0#32
  let c0_i32_658 : BitVec 32 := 0#32
  ![v2.toNat, 0, 0]

def k0_chk54 (v741 : BitVec 32) : Prop :=
  (∀ a, (k0_off160 v741) a + S1.size a ≤ S16.size a) ∧
  (∀ a, (k0_off161 v741) a + S256x256.size a ≤ S4096x256.size a) ∧
  (∀ (hinb : ∀ a, (k0_off161 v741) a + S256x256.size a ≤ S4096x256.size a), (Rect.unit (s := S4096x256) (k0_off161 v741) S256x256.size hinb).WholeWords (EltTy.packing .bf16))
theorem k0_off160_inb : ∀ (v741 : BitVec 32) (k0_hw54 : k0_chk54 v741), ∀ a, (k0_off160 v741) a + S1.size a ≤ S16.size a := fun v741 k0_hw54 => k0_hw54.1
theorem k0_off161_inb : ∀ (v741 : BitVec 32) (k0_hw54 : k0_chk54 v741), ∀ a, (k0_off161 v741) a + S256x256.size a ≤ S4096x256.size a := fun v741 k0_hw54 => k0_hw54.2.1
theorem k0_off161_wordsbf16 : ∀ (v741 : BitVec 32) (k0_hw54 : k0_chk54 v741), (Rect.unit (s := S4096x256) (k0_off161 v741) S256x256.size (k0_off161_inb v741 k0_hw54)).WholeWords (EltTy.packing .bf16) := fun v741 k0_hw54 => k0_hw54.2.2 (k0_off161_inb v741 k0_hw54)

def k0_off163 (v748 : BitVec 32) : Fin 1 → Nat :=
  ![v748.toNat]

def k0_off164 (v748 : BitVec 32) : Fin 2 → Nat :=
  let c256_i32_660 : BitVec 32 := 256#32
  let v749 : BitVec 32 := Scalar.muli v748 c256_i32_660
  let c0_i32_662 : BitVec 32 := 0#32
  ![v749.toNat, 0]
def k0_off165 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_663 : BitVec 32 := 0#32
  let c0_i32_664 : BitVec 32 := 0#32
  ![v2.toNat, 0, 0]

def k0_chk55 (v748 : BitVec 32) : Prop :=
  (∀ a, (k0_off163 v748) a + S1.size a ≤ S16.size a) ∧
  (∀ a, (k0_off164 v748) a + S256x256.size a ≤ S4096x256.size a) ∧
  (∀ (hinb : ∀ a, (k0_off164 v748) a + S256x256.size a ≤ S4096x256.size a), (Rect.unit (s := S4096x256) (k0_off164 v748) S256x256.size hinb).WholeWords (EltTy.packing .bf16))
theorem k0_off163_inb : ∀ (v748 : BitVec 32) (k0_hw55 : k0_chk55 v748), ∀ a, (k0_off163 v748) a + S1.size a ≤ S16.size a := fun v748 k0_hw55 => k0_hw55.1
theorem k0_off164_inb : ∀ (v748 : BitVec 32) (k0_hw55 : k0_chk55 v748), ∀ a, (k0_off164 v748) a + S256x256.size a ≤ S4096x256.size a := fun v748 k0_hw55 => k0_hw55.2.1
theorem k0_off164_wordsbf16 : ∀ (v748 : BitVec 32) (k0_hw55 : k0_chk55 v748), (Rect.unit (s := S4096x256) (k0_off164 v748) S256x256.size (k0_off164_inb v748 k0_hw55)).WholeWords (EltTy.packing .bf16) := fun v748 k0_hw55 => k0_hw55.2.2 (k0_off164_inb v748 k0_hw55)

def k0_off166 (v755 : BitVec 32) : Fin 1 → Nat :=
  ![v755.toNat]

def k0_off167 (v755 : BitVec 32) : Fin 2 → Nat :=
  let c256_i32_666 : BitVec 32 := 256#32
  let v756 : BitVec 32 := Scalar.muli v755 c256_i32_666
  let c0_i32_668 : BitVec 32 := 0#32
  ![v756.toNat, 0]
def k0_off168 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_669 : BitVec 32 := 0#32
  let c0_i32_670 : BitVec 32 := 0#32
  ![v2.toNat, 0, 0]

def k0_chk56 (v755 : BitVec 32) : Prop :=
  (∀ a, (k0_off166 v755) a + S1.size a ≤ S16.size a) ∧
  (∀ a, (k0_off167 v755) a + S256x256.size a ≤ S4096x256.size a) ∧
  (∀ (hinb : ∀ a, (k0_off167 v755) a + S256x256.size a ≤ S4096x256.size a), (Rect.unit (s := S4096x256) (k0_off167 v755) S256x256.size hinb).WholeWords (EltTy.packing .bf16))
theorem k0_off166_inb : ∀ (v755 : BitVec 32) (k0_hw56 : k0_chk56 v755), ∀ a, (k0_off166 v755) a + S1.size a ≤ S16.size a := fun v755 k0_hw56 => k0_hw56.1
theorem k0_off167_inb : ∀ (v755 : BitVec 32) (k0_hw56 : k0_chk56 v755), ∀ a, (k0_off167 v755) a + S256x256.size a ≤ S4096x256.size a := fun v755 k0_hw56 => k0_hw56.2.1
theorem k0_off167_wordsbf16 : ∀ (v755 : BitVec 32) (k0_hw56 : k0_chk56 v755), (Rect.unit (s := S4096x256) (k0_off167 v755) S256x256.size (k0_off167_inb v755 k0_hw56)).WholeWords (EltTy.packing .bf16) := fun v755 k0_hw56 => k0_hw56.2.2 (k0_off167_inb v755 k0_hw56)

def k0_off169 (v762 : BitVec 32) : Fin 1 → Nat :=
  ![v762.toNat]

def k0_off170 (v762 : BitVec 32) : Fin 2 → Nat :=
  let c256_i32_672 : BitVec 32 := 256#32
  let v763 : BitVec 32 := Scalar.muli v762 c256_i32_672
  let c0_i32_674 : BitVec 32 := 0#32
  ![v763.toNat, 0]
def k0_off171 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_675 : BitVec 32 := 0#32
  let c0_i32_676 : BitVec 32 := 0#32
  ![v2.toNat, 0, 0]

def k0_chk57 (v762 : BitVec 32) : Prop :=
  (∀ a, (k0_off169 v762) a + S1.size a ≤ S16.size a) ∧
  (∀ a, (k0_off170 v762) a + S256x256.size a ≤ S4096x256.size a) ∧
  (∀ (hinb : ∀ a, (k0_off170 v762) a + S256x256.size a ≤ S4096x256.size a), (Rect.unit (s := S4096x256) (k0_off170 v762) S256x256.size hinb).WholeWords (EltTy.packing .bf16))
theorem k0_off169_inb : ∀ (v762 : BitVec 32) (k0_hw57 : k0_chk57 v762), ∀ a, (k0_off169 v762) a + S1.size a ≤ S16.size a := fun v762 k0_hw57 => k0_hw57.1
theorem k0_off170_inb : ∀ (v762 : BitVec 32) (k0_hw57 : k0_chk57 v762), ∀ a, (k0_off170 v762) a + S256x256.size a ≤ S4096x256.size a := fun v762 k0_hw57 => k0_hw57.2.1
theorem k0_off170_wordsbf16 : ∀ (v762 : BitVec 32) (k0_hw57 : k0_chk57 v762), (Rect.unit (s := S4096x256) (k0_off170 v762) S256x256.size (k0_off170_inb v762 k0_hw57)).WholeWords (EltTy.packing .bf16) := fun v762 k0_hw57 => k0_hw57.2.2 (k0_off170_inb v762 k0_hw57)

def k0_off172 (v769 : BitVec 32) : Fin 1 → Nat :=
  ![v769.toNat]

def k0_off173 (v769 : BitVec 32) : Fin 2 → Nat :=
  let c256_i32_678 : BitVec 32 := 256#32
  let v770 : BitVec 32 := Scalar.muli v769 c256_i32_678
  let c0_i32_680 : BitVec 32 := 0#32
  ![v770.toNat, 0]
def k0_off174 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_681 : BitVec 32 := 0#32
  let c0_i32_682 : BitVec 32 := 0#32
  ![v2.toNat, 0, 0]

def k0_chk58 (v769 : BitVec 32) : Prop :=
  (∀ a, (k0_off172 v769) a + S1.size a ≤ S16.size a) ∧
  (∀ a, (k0_off173 v769) a + S256x256.size a ≤ S4096x256.size a) ∧
  (∀ (hinb : ∀ a, (k0_off173 v769) a + S256x256.size a ≤ S4096x256.size a), (Rect.unit (s := S4096x256) (k0_off173 v769) S256x256.size hinb).WholeWords (EltTy.packing .bf16))
theorem k0_off172_inb : ∀ (v769 : BitVec 32) (k0_hw58 : k0_chk58 v769), ∀ a, (k0_off172 v769) a + S1.size a ≤ S16.size a := fun v769 k0_hw58 => k0_hw58.1
theorem k0_off173_inb : ∀ (v769 : BitVec 32) (k0_hw58 : k0_chk58 v769), ∀ a, (k0_off173 v769) a + S256x256.size a ≤ S4096x256.size a := fun v769 k0_hw58 => k0_hw58.2.1
theorem k0_off173_wordsbf16 : ∀ (v769 : BitVec 32) (k0_hw58 : k0_chk58 v769), (Rect.unit (s := S4096x256) (k0_off173 v769) S256x256.size (k0_off173_inb v769 k0_hw58)).WholeWords (EltTy.packing .bf16) := fun v769 k0_hw58 => k0_hw58.2.2 (k0_off173_inb v769 k0_hw58)

def k0_off175 (v776 : BitVec 32) : Fin 1 → Nat :=
  ![v776.toNat]

def k0_off176 (v776 : BitVec 32) : Fin 2 → Nat :=
  let c256_i32_684 : BitVec 32 := 256#32
  let v777 : BitVec 32 := Scalar.muli v776 c256_i32_684
  let c0_i32_686 : BitVec 32 := 0#32
  ![v777.toNat, 0]
def k0_off177 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_687 : BitVec 32 := 0#32
  let c0_i32_688 : BitVec 32 := 0#32
  ![v2.toNat, 0, 0]

def k0_chk59 (v776 : BitVec 32) : Prop :=
  (∀ a, (k0_off175 v776) a + S1.size a ≤ S16.size a) ∧
  (∀ a, (k0_off176 v776) a + S256x256.size a ≤ S4096x256.size a) ∧
  (∀ (hinb : ∀ a, (k0_off176 v776) a + S256x256.size a ≤ S4096x256.size a), (Rect.unit (s := S4096x256) (k0_off176 v776) S256x256.size hinb).WholeWords (EltTy.packing .bf16))
theorem k0_off175_inb : ∀ (v776 : BitVec 32) (k0_hw59 : k0_chk59 v776), ∀ a, (k0_off175 v776) a + S1.size a ≤ S16.size a := fun v776 k0_hw59 => k0_hw59.1
theorem k0_off176_inb : ∀ (v776 : BitVec 32) (k0_hw59 : k0_chk59 v776), ∀ a, (k0_off176 v776) a + S256x256.size a ≤ S4096x256.size a := fun v776 k0_hw59 => k0_hw59.2.1
theorem k0_off176_wordsbf16 : ∀ (v776 : BitVec 32) (k0_hw59 : k0_chk59 v776), (Rect.unit (s := S4096x256) (k0_off176 v776) S256x256.size (k0_off176_inb v776 k0_hw59)).WholeWords (EltTy.packing .bf16) := fun v776 k0_hw59 => k0_hw59.2.2 (k0_off176_inb v776 k0_hw59)

def k0_off178 (v783 : BitVec 32) : Fin 1 → Nat :=
  ![v783.toNat]

def k0_off179 (v783 : BitVec 32) : Fin 2 → Nat :=
  let c256_i32_690 : BitVec 32 := 256#32
  let v784 : BitVec 32 := Scalar.muli v783 c256_i32_690
  let c0_i32_692 : BitVec 32 := 0#32
  ![v784.toNat, 0]
def k0_off180 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_693 : BitVec 32 := 0#32
  let c0_i32_694 : BitVec 32 := 0#32
  ![v2.toNat, 0, 0]

def k0_chk60 (v783 : BitVec 32) : Prop :=
  (∀ a, (k0_off178 v783) a + S1.size a ≤ S16.size a) ∧
  (∀ a, (k0_off179 v783) a + S256x256.size a ≤ S4096x256.size a) ∧
  (∀ (hinb : ∀ a, (k0_off179 v783) a + S256x256.size a ≤ S4096x256.size a), (Rect.unit (s := S4096x256) (k0_off179 v783) S256x256.size hinb).WholeWords (EltTy.packing .bf16))
theorem k0_off178_inb : ∀ (v783 : BitVec 32) (k0_hw60 : k0_chk60 v783), ∀ a, (k0_off178 v783) a + S1.size a ≤ S16.size a := fun v783 k0_hw60 => k0_hw60.1
theorem k0_off179_inb : ∀ (v783 : BitVec 32) (k0_hw60 : k0_chk60 v783), ∀ a, (k0_off179 v783) a + S256x256.size a ≤ S4096x256.size a := fun v783 k0_hw60 => k0_hw60.2.1
theorem k0_off179_wordsbf16 : ∀ (v783 : BitVec 32) (k0_hw60 : k0_chk60 v783), (Rect.unit (s := S4096x256) (k0_off179 v783) S256x256.size (k0_off179_inb v783 k0_hw60)).WholeWords (EltTy.packing .bf16) := fun v783 k0_hw60 => k0_hw60.2.2 (k0_off179_inb v783 k0_hw60)

def k0_off181 (v790 : BitVec 32) : Fin 1 → Nat :=
  ![v790.toNat]

def k0_off182 (v790 : BitVec 32) : Fin 2 → Nat :=
  let c256_i32_696 : BitVec 32 := 256#32
  let v791 : BitVec 32 := Scalar.muli v790 c256_i32_696
  let c0_i32_698 : BitVec 32 := 0#32
  ![v791.toNat, 0]
def k0_off183 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_699 : BitVec 32 := 0#32
  let c0_i32_700 : BitVec 32 := 0#32
  ![v2.toNat, 0, 0]

def k0_chk61 (v790 : BitVec 32) : Prop :=
  (∀ a, (k0_off181 v790) a + S1.size a ≤ S16.size a) ∧
  (∀ a, (k0_off182 v790) a + S256x256.size a ≤ S4096x256.size a) ∧
  (∀ (hinb : ∀ a, (k0_off182 v790) a + S256x256.size a ≤ S4096x256.size a), (Rect.unit (s := S4096x256) (k0_off182 v790) S256x256.size hinb).WholeWords (EltTy.packing .bf16))
theorem k0_off181_inb : ∀ (v790 : BitVec 32) (k0_hw61 : k0_chk61 v790), ∀ a, (k0_off181 v790) a + S1.size a ≤ S16.size a := fun v790 k0_hw61 => k0_hw61.1
theorem k0_off182_inb : ∀ (v790 : BitVec 32) (k0_hw61 : k0_chk61 v790), ∀ a, (k0_off182 v790) a + S256x256.size a ≤ S4096x256.size a := fun v790 k0_hw61 => k0_hw61.2.1
theorem k0_off182_wordsbf16 : ∀ (v790 : BitVec 32) (k0_hw61 : k0_chk61 v790), (Rect.unit (s := S4096x256) (k0_off182 v790) S256x256.size (k0_off182_inb v790 k0_hw61)).WholeWords (EltTy.packing .bf16) := fun v790 k0_hw61 => k0_hw61.2.2 (k0_off182_inb v790 k0_hw61)

abbrev stage0_0 : Fin 1 → Memref sig .tc .smem S16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.KernelIdeal.Geo.lean ====
/-
The geometry of the gather: the order in which a device meets its peers, the blocks of the buffers that travel,
and the semaphores they complete on.

`ord c k` is the `k`-th device in device `c`'s order of visits: the word `k` of row `c` of the order table. Every
row lists all sixteen devices once and starts with the device itself.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Tactic
public import Idealize.ShloMosaic.Lib.ValueLayout
public import Idealize.ShloMosaic.Lib.Pipeline.RegionTalk

@[expose] public section

noncomputable section

namespace Cert.KernelIdeal.AG

open Cert.KernelIdeal Cert.KernelIdeal.Gen
open Idealize.ShloMosaic Idealize.ShloMosaic.TcCoe
open Idealize.SL Idealize.SL.Sem

variable {F : FTy → Type} [FloatOps F]

/-! ## The order of visits -/

/-- The device numbered `k` modulo sixteen. -/
def dv (k : ℕ) : Dev nD := ⟨k % 16, Nat.mod_lt _ (by decide)⟩
theorem dv_val (j : Dev nD) : dv j.val = j := Fin.ext (Nat.mod_eq_of_lt j.isLt)

/-- The word of row `c` of the order table at place `k` modulo sixteen. -/
def tabWord (c : Dev nD) (k : Fin 16) : BitVec 32 := lit0 ⟨16 * c.val + k.val, by have h : c.val < 16 := c.isLt; have := k.isLt; omega⟩
/-- The device visited `k`-th by device `c`. -/
def ordF (c : Dev nD) (k : Fin 16) : Dev nD := ⟨(tabWord c k).toNat % 16, Nat.mod_lt _ (by decide)⟩
/-- The same, the place a number. -/
def ord (c : Dev nD) (k : ℕ) : Dev nD := ordF c ⟨k % 16, Nat.mod_lt _ (by decide)⟩

theorem tabWord_eq : ∀ (c : Dev nD) (k : Fin 16), tabWord c k = Dev.word (ordF c k) := by decide +kernel
theorem ordF_zero : ∀ c : Dev nD, ordF c 0 = c := by decide +kernel
theorem ordF_surj : ∀ (c : Dev nD) (j : Dev nD), ∃ k : Fin 16, ordF c k = j := by decide +kernel
theorem ordF_bij (c : Dev nD) : Function.Bijective (ordF c) :=
  Finite.surjective_iff_bijective.mp (fun j => ordF_surj c j)

theorem ord_fin (c : Dev nD) (k : Fin 16) : ord c k.val = ordF c k := congrArg (ordF c) (Fin.ext (Nat.mod_eq_of_lt k.isLt))
theorem ord_zero (c : Dev nD) : ord c 0 = c := (ord_fin c 0).trans (ordF_zero c)
theorem ord_inj (c : Dev nD) {i k : ℕ} (hi : i < 16) (hk : k < 16) (h : ord c i = ord c k) : i = k := by
  have h1 := (ordF_bij c).1 ((ord_fin c ⟨i, hi⟩).symm.trans (h.trans (ord_fin c ⟨k, hk⟩)))
  exact congrArg Fin.val h1
theorem ord_ne (c : Dev nD) {k : ℕ} (h1 : 1 ≤ k) (h2 : k < 16) : ord c k ≠ c := fun h => by
  have := ord_inj c h2 (by decide : 0 < 16) (h.trans (ord_zero c).symm); omega
/-- The place of device `j` in device `c`'s order. -/
theorem exists_ord (c j : Dev nD) : ∃ k, k < 16 ∧ ord c k = j := by
  obtain ⟨k, hk⟩ := ordF_surj c j
  exact ⟨k.val, k.isLt, (ord_fin c k).trans hk⟩

/-! ## In-bounds facts -/

theorem inbSem : ∀ j : Dev nD, ∀ a, (![j.val] : Fin 1 → Nat) a + S1.size a ≤ S16.size a := by decide
theorem inbRecv : ∀ j : Dev nD, ∀ a, (![j.val, 0, 0] : Fin 3 → Nat) a + S1x256x256.size a ≤ S16x256x256.size a := by decide
theorem inbXbf : ∀ j : Dev nD, ∀ a, (![256 * j.val, 0] : Fin 2 → Nat) a + S256x256.size a ≤ S4096x256.size a := by decide
theorem inbW : ∀ j : Dev nD, ∀ a, (![256 * j.val, 0] : Fin 2 → Nat) a + S256x8192.size a ≤ S4096x8192.size a := by decide
theorem inbWsem : ∀ s : Fin 3, ∀ a, (![s.val] : Fin 1 → Nat) a + S1.size a ≤ S3.size a := by decide
theorem inbSlot : ∀ s : Fin 3, ∀ a, (![s.val, 0, 0] : Fin 3 → Nat) a + S1x256x8192.size a ≤ S3x256x8192.size a := by decide

/-! ## Semaphores -/

/-- The semaphore `j` of an array of sixteen. -/
def semAt (a : DmaSems sig S16) (j : Dev nD) : DmaSem sig :=
  ((a.slice (Rect.unit (s := S16) ![j.val] S1.size (inbSem j))).squeeze S_ squeezes_S1_S_).sem
theorem semAt_eq (a : DmaSems sig S16) (j : Dev nD) (off : Fin 1 → Nat) (h : off = ![j.val])
    (inb : ∀ i, off i + S1.size i ≤ S16.size i) :
    ((a.slice (Rect.unit (s := S16) off S1.size inb)).squeeze S_ squeezes_S1_S_).sem = semAt a j := by subst h; rfl
/-- The semaphore `s` of an array of three. -/
def semAt3 (a : DmaSems sig S3) (s : Fin 3) : DmaSem sig :=
  ((a.slice (Rect.unit (s := S3) ![s.val] S1.size (inbWsem s))).squeeze S_ squeezes_S1_S_).sem

/-- The cell device `c`'s copy to device `j` completes on. -/
abbrev sndS (j : Dev nD) : DmaSem sig := semAt cc0_scratch3 j
/-- The cell a copy from device `j` completes on, at its target. -/
abbrev rcvS (j : Dev nD) : DmaSem sig := semAt cc0_scratch4 j
/-- The cell a load into slot `s` of the weight ring completes on. -/
abbrev wS (s : Fin 3) : DmaSem sig := semAt3 cc0_scratch5 s
/-- The rendezvous semaphore. -/
abbrev barS : Sem sig := (SemArray.scalar (sig.barrier 0 rfl) : Sems sig S_).sem

theorem sndS_val : ∀ j : Dev nD, (sndS j).val = 3 + j.val := by decide
theorem rcvS_val : ∀ j : Dev nD, (rcvS j).val = 19 + j.val := by decide
theorem wS_val : ∀ s : Fin 3, (wS s).val = 35 + s.val := by decide

/-! ## Views -/

abbrev ordM : Memref sig .tc .smem S16 .i32 := Memref.whole cc0_stg0_0
abbrev xM : Memref sig .tc .vmem S4096x256 .f32 := Memref.whole cc0_stg1_0
abbrev outM : Memref sig .tc .vmem S256x8192 .f32 := Memref.whole cc0_stg2_0
abbrev wM : Memref sig .tc .hbm S4096x8192 .f32 := Memref.whole main_arg1
abbrev xbfM : Memref sig .tc .vmem S4096x256 .bf16 := Memref.whole cc0_scratch0
abbrev rcvM : Memref sig .tc .vmem S16x256x256 .bf16 := Memref.whole cc0_scratch1
abbrev ringM : Memref sig .tc .vmem S3x256x8192 .f32 := Memref.whole cc0_scratch2

/-- The rows of the rounded operand that go to device `j`. -/
abbrev xbfV (j : Dev nD) : Memref sig .tc .vmem S256x256 .bf16 :=
  xbfM.slice (Rect.unit (s := S4096x256) ![256 * j.val, 0] S256x256.size (inbXbf j)) (fun _ => rfl)
/-- The slab of the landing buffer that device `j` fills. -/
abbrev rcvV (j : Dev nD) : Memref sig .tc .vmem S256x256 .bf16 :=
  (rcvM.slice (Rect.unit (s := S16x256x256) ![j.val, 0, 0] S1x256x256.size (inbRecv j)) (fun _ => rfl)).squeeze S256x256 squeezes_S1x256x256_S256x256
/-- The rows of the weight that meet device `j`'s block. -/
abbrev wV (j : Dev nD) : Memref sig .tc .hbm S256x8192 .f32 :=
  wM.slice (Rect.unit (s := S4096x8192) ![256 * j.val, 0] S256x8192.size (inbW j)) (fun _ => rfl)
/-- Slot `s` of the weight ring. -/
abbrev slotV (s : Fin 3) : Memref sig .tc .vmem S256x8192 .f32 :=
  (ringM.slice (Rect.unit (s := S3x256x8192) ![s.val, 0, 0] S1x256x8192.size (inbSlot s)) (fun _ => rfl)).squeeze S256x8192 squeezes_S1x256x8192_S256x8192

/-- What a copy of one block of the operand counts on its semaphore. -/
abbrev N : ℕ := (rcvV 0).view.dmaCredit
/-- What a load of one block of the weight counts. -/
abbrev NW : ℕ := (slotV 0).view.dmaCredit
theorem N_pos : 0 < N := View.dmaCredit_pos _ (by decide)
theorem NW_pos : 0 < NW := View.dmaCredit_pos _ (by decide)
theorem credit_rcv (j : Dev nD) : (rcvV j).view.dmaCredit = N := rfl
theorem credit_xbf (j : Dev nD) : (xbfV j).view.dmaCredit = N := rfl
theorem credit_slot (s : Fin 3) : (slotV s).view.dmaCredit = NW := rfl

/-- The slot the load number `k` goes through, and its turn there. -/
def sl (k : ℕ) : Fin 3 := ⟨k % 3, Nat.mod_lt _ (by decide)⟩

/-! ## Element sets -/

theorem rcv_set (j : Dev nD) : (rcvV j).view.set = (Rect.unit (s := S16x256x256) ![j.val, 0, 0] S1x256x256.size (inbRecv j)).set := by
  rw [show (rcvV j).view.set = ((View.whole cc0_scratch1).slice (Rect.unit (s := S16x256x256) ![j.val, 0, 0] S1x256x256.size (inbRecv j))).set from View.set_reshape _ _]
  exact View.set_slice_whole _ _
theorem slot_set (s : Fin 3) : (slotV s).view.set = (Rect.unit (s := S3x256x8192) ![s.val, 0, 0] S1x256x8192.size (inbSlot s)).set := by
  rw [show (slotV s).view.set = ((View.whole cc0_scratch2).slice (Rect.unit (s := S3x256x8192) ![s.val, 0, 0] S1x256x8192.size (inbSlot s))).set from View.set_reshape _ _]
  exact View.set_slice_whole _ _
theorem xbf_set (j : Dev nD) : (xbfV j).view.set = (Rect.unit (s := S4096x256) ![256 * j.val, 0] S256x256.size (inbXbf j)).set :=
  View.set_slice_whole _ _
theorem w_set (j : Dev nD) : (wV j).view.set = (Rect.unit (s := S4096x8192) ![256 * j.val, 0] S256x8192.size (inbW j)).set :=
  View.set_slice_whole _ _

theorem mem_rcv (j : Dev nD) (i : S16x256x256.Idx) : i ∈ (rcvV j).view.set ↔ (i 0).val = j.val := by
  rw [rcv_set, Rect.mem_set_unit]
  constructor
  · intro h; have := h 0; simp at this; omega
  · intro h a
    have hi := (i a).isLt
    fin_cases a <;> simp_all <;> omega
theorem mem_slot (s : Fin 3) (i : S3x256x8192.Idx) : i ∈ (slotV s).view.set ↔ (i 0).val = s.val := by
  rw [slot_set, Rect.mem_set_unit]
  constructor
  · intro h; have := h 0; simp at this; omega
  · intro h a
    have hi := (i a).isLt
    fin_cases a <;> simp_all <;> omega
theorem mem_xbf (j : Dev nD) (i : S4096x256.Idx) : i ∈ (xbfV j).view.set ↔ (i 0).val / 256 = j.val := by
  rw [xbf_set, Rect.mem_set_unit]
  constructor
  · intro h; have := h 0; simp at this; omega
  · intro h a
    have hi := (i a).isLt
    fin_cases a <;> simp_all <;> omega
theorem mem_w (j : Dev nD) (i : S4096x8192.Idx) : i ∈ (wV j).view.set ↔ (i 0).val / 256 = j.val := by
  rw [w_set, Rect.mem_set_unit]
  constructor
  · intro h; have := h 0; simp at this; omega
  · intro h a
    have hi := (i a).isLt
    fin_cases a <;> simp_all <;> omega

/-! ## What a landed block holds -/

open Idealize.ShloMosaic.ValueIdx (ix2 ix3 eq_ix2 eq_ix3 reshapeEquiv_ix2_1ab)

variable {Val : EltTy → Type} [∀ e, Nonempty (Val e)]

theorem rcv_emb (j : Dev nD) (x y : Fin 256) : (rcvV j).view.emb (ix2 x y) = ix3 ⟨j.val, j.isLt⟩ x y := by
  show (Rect.unit (s := S16x256x256) ![j.val, 0, 0] S1x256x256.size (inbRecv j)).emb (Shape.reshapeEquiv _ (ix2 x y)) = _
  rw [reshapeEquiv_ix2_1ab]
  funext a; apply Fin.ext; rw [Rect.emb_apply]
  fin_cases a <;> simp [Rect.unit]
theorem slot_emb (s : Fin 3) (x : Fin 256) (y : Fin 8192) : (slotV s).view.emb (ix2 x y) = ix3 s x y := by
  show (Rect.unit (s := S3x256x8192) ![s.val, 0, 0] S1x256x8192.size (inbSlot s)).emb (Shape.reshapeEquiv _ (ix2 x y)) = _
  rw [reshapeEquiv_ix2_1ab]
  funext a; apply Fin.ext; rw [Rect.emb_apply]
  fin_cases a <;> simp [Rect.unit]
/-- Row `x` of block `j` of sixteen blocks of 256 rows. -/
def row (j : Dev nD) (x : Fin 256) : Fin 4096 := ⟨256 * j.val + x.val, by have h : j.val < 16 := j.isLt; have := x.isLt; omega⟩
theorem xbf_emb (j : Dev nD) (x y : Fin 256) : (xbfV j).view.emb (ix2 x y) = ix2 (row j x) y := by
  show (Rect.unit (s := S4096x256) ![256 * j.val, 0] S256x256.size (inbXbf j)).emb (ix2 x y) = _
  funext a; apply Fin.ext; rw [Rect.emb_apply]
  fin_cases a <;> simp [Rect.unit, row]
theorem w_emb (j : Dev nD) (x : Fin 256) (y : Fin 8192) : (wV j).view.emb (ix2 x y) = ix2 (row j x) y := by
  show (Rect.unit (s := S4096x8192) ![256 * j.val, 0] S256x8192.size (inbW j)).emb (ix2 x y) = _
  funext a; apply Fin.ext; rw [Rect.emb_apply]
  fin_cases a <;> simp [Rect.unit, row]

/-- A landing buffer whose slab `j` is filled by device `j` with its block for device `d`. -/
def landedOf (xb : Dev nD → S4096x256.Idx → Val .bf16) (d : Dev nD) : S16x256x256.Idx → Val .bf16 :=
  fun i => xb ⟨(i 0).val, (i 0).isLt⟩ (ix2 (row d (i 1)) (i 2))
/-- A ring whose every slot holds block `j` of the weight. -/
def ringOf (w : S4096x8192.Idx → Val .f32) (j : Dev nD) : S3x256x8192.Idx → Val .f32 :=
  fun i => w (ix2 (row j (i 1)) (i 2))

/-- Device `j`'s block for `d`, copied into slab `j`, is what the landing buffer holds there. -/
theorem land_rcv (xb : Dev nD → S4096x256.Idx → Val .bf16) (j d : Dev nD) (f : S16x256x256.Idx → Val .bf16)
    {i : S16x256x256.Idx} (hi : i ∈ (rcvV j).view.set) :
    (rcvV j).view.write Val f ((xbfV d).view.read Val (xb j)) Finset.univ i = landedOf xb d i := by
  obtain ⟨a, x, y, rfl⟩ : ∃ (a : Fin 16) (x y : Fin 256), i = ix3 a x y := ⟨i 0, i 1, i 2, eq_ix3 i⟩
  have h0 : a = ⟨j.val, j.isLt⟩ := Fin.ext ((mem_rcv j _).mp hi)
  subst h0
  rw [← rcv_emb j x y, View.write_emb_of_mem _ _ (Finset.mem_univ _), View.read_apply, xbf_emb, rcv_emb]
  rfl
/-- Block `j` of the weight, copied into slot `s`, is what the ring holds there. -/
theorem land_slot (w : S4096x8192.Idx → Val .f32) (j : Dev nD) (s : Fin 3) (f : S3x256x8192.Idx → Val .f32)
    {i : S3x256x8192.Idx} (hi : i ∈ (slotV s).view.set) :
    (slotV s).view.write Val f ((wV j).view.read Val w) Finset.univ i = ringOf w j i := by
  obtain ⟨a, x, y, rfl⟩ : ∃ (a : Fin 3) (x : Fin 256) (y : Fin 8192), i = ix3 a x y := ⟨i 0, i 1, i 2, eq_ix3 i⟩
  have h0 : a = s := Fin.ext ((mem_slot s _).mp hi)
  subst h0
  rw [← slot_emb a x y, View.write_emb_of_mem _ _ (Finset.mem_univ _), View.read_apply, w_emb, slot_emb]
  rfl

/-! ## The offsets and side conditions at a device's word -/

theorem offRow : ∀ j : Dev nD, k0_off1 (Dev.word j) = ![256 * j.val, 0] := by decide
theorem offSem : ∀ j : Dev nD, k0_off4 (Dev.word j) = ![j.val] := by decide
theorem offSlab : ∀ j : Dev nD, k0_off68 (Dev.word j) = ![j.val, 0, 0] := by decide
theorem offSlabI : ∀ j : Dev nD, k0_off69 (Dev.word j) = ![j.val, 0, 0] := by decide
theorem offXbf : ∀ j : Dev nD, k0_off7 (Dev.word j) = ![256 * j.val, 0] := by decide
theorem offOwn : ∀ j : Dev nD, k0_off64 j = ![256 * j.val, 0] := by decide
theorem dvWord : ∀ j : Dev nD, k0_dev17 (Dev.word j) = j.val := by decide

theorem chkW (j : Dev nD) : k0_chk1 (Dev.word j) := by
  refine ⟨?_, ?_⟩ <;> revert j <;> decide
theorem chkSend (j : Dev nD) : k0_chk4 (Dev.word j) := by
  refine ⟨?_, ?_, ?_, ?_⟩ <;> revert j <;> decide
theorem chkRecv (j : Dev nD) : k0_chk20 (Dev.word j) := by
  refine ⟨?_, ?_, ?_, ?_⟩ <;> revert j <;> decide

end Cert.KernelIdeal.AG

end
-- ==== Proof.KernelIdeal.Sched.lean ====
/-
The protocol of the gather, as rounds of duties.

* Barrier cell of device `c`: one round of sixteen duties of one unit. Duty `p` is paid by device `p`'s signal and hands
  over the slab of `p`'s landing buffer that `c` will fill, and that round 0 of `p`'s receive cell for `c` is reached.
* Receive cell `j` of device `c` (`j` another device): one duty, paid by `j`'s copy; the slab back at what `j` sends.
* Send cell `j` of device `c`: one duty, paid by the same copy when it has read its source; the source rows back.
* Ring cell `s` of device `c`: round `r` is the load number `3 r + s` of the weight's blocks; the slot at that block and
  the block's rows back.
-/
module

public import proofs.«01_k».proof.Proof.KernelIdeal.Geo
public import Idealize.ShloMosaic.Lib.Pipeline.Kit
public import Idealize.ShloMosaic.Lib.Rounds

@[expose] public section

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the gather's own, duties named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- The data the call is entered with: every device's columns of the operand, and the weight as each device holds it. -/
structure Data (F : FTy → Type) where
  x : Dev nD → Vec F S4096x256 .f32
  w : Dev nD → S4096x8192.Idx → Elt F .f32

variable (D : Data F)

/-- Device `c`'s columns rounded: what its sends read. -/
def Data.xb (c : Dev nD) : S4096x256.Idx → Elt F .bf16 := k0_pay1 (D.x c)
/-- What device `c`'s landing buffer holds once everything has arrived. -/
def Data.land (c : Dev nD) : S16x256x256.Idx → Elt F .bf16 := landedOf D.xb c
/-- What device `c`'s ring holds in the slot of load `i`. -/
def Data.ring (c : Dev nD) (i : ℕ) : S3x256x8192.Idx → Elt F .f32 := ringOf (D.w c) (ord c i)

/-! ## Cells -/

abbrev barC (c : Dev nD) : GSem nD τ sig := ((c : Thread nD τ), .reg barS)
abbrev sndC (c j : Dev nD) : GSem nD τ sig := ((c : Thread nD τ), .dma (sndS j))
abbrev rcvC (c j : Dev nD) : GSem nD τ sig := ((c : Thread nD τ), .dma (rcvS j))
abbrev wC (c : Dev nD) (s : Fin 3) : GSem nD τ sig := ((c : Thread nD τ), .dma (wS s))

/-- What a semaphore is to the protocol. -/
inductive Kind where
  | bar | snd (j : Dev nD) | rcv (j : Dev nD) | w (s : Fin 3) | other

def kindDma (q : DmaSem sig) : Kind :=
  if h : 3 ≤ q.val ∧ q.val < 19 then .snd ⟨q.val - 3, show q.val - 3 < 16 by omega⟩
  else if h : 19 ≤ q.val ∧ q.val < 35 then .rcv ⟨q.val - 19, show q.val - 19 < 16 by omega⟩
  else if h : 35 ≤ q.val ∧ q.val < 38 then .w ⟨q.val - 35, by omega⟩ else .other
def kind : SemLoc sig → Kind
  | .reg s => if s = barS then .bar else .other
  | .dma q => kindDma q

theorem kind_bar : kind (.reg barS) = .bar := by unfold kind; exact if_pos rfl
theorem kind_snd (j : Dev nD) : kind (.dma (sndS j)) = .snd j := by
  have h := sndS_val j; have hj : j.val < 16 := j.isLt
  show kindDma (sndS j) = _
  unfold kindDma
  rw [dif_pos (by omega)]
  exact congrArg Kind.snd (Fin.ext (by show (sndS j).val - 3 = j.val; omega))
theorem kind_rcv (j : Dev nD) : kind (.dma (rcvS j)) = .rcv j := by
  have h := rcvS_val j; have hj : j.val < 16 := j.isLt
  show kindDma (rcvS j) = _
  unfold kindDma
  rw [dif_neg (by omega), dif_pos (by omega)]
  exact congrArg Kind.rcv (Fin.ext (by show (rcvS j).val - 19 = j.val; omega))
theorem kind_w (s : Fin 3) : kind (.dma (wS s)) = .w s := by
  have h := wS_val s; have hj : s.val < 3 := s.isLt
  show kindDma (wS s) = _
  unfold kindDma
  rw [dif_neg (by omega), dif_neg (by omega), dif_pos (by omega)]
  exact congrArg Kind.w (Fin.ext (by show (wS s).val - 35 = s.val; omega))

/-! ## Points-tos -/

/-- Device `c`'s slab for `j`, its rows for `j`, its ring's slot `s`, its weight's rows for `j`. -/
abbrev rcvP (c j : Dev nD) (f : S16x256x256.Idx → Elt F .bf16) : sProp 𝕄 := (rcvV j).view.loc (c : Thread nD τ) ↦[(rcvV j).view.set]{fullShare} f
abbrev xbfP (c j : Dev nD) (f : S4096x256.Idx → Elt F .bf16) : sProp 𝕄 := (xbfV j).view.loc (c : Thread nD τ) ↦[(xbfV j).view.set]{fullShare} f
abbrev slotP (c : Dev nD) (s : Fin 3) (f : S3x256x8192.Idx → Elt F .f32) : sProp 𝕄 := (slotV s).view.loc (c : Thread nD τ) ↦[(slotV s).view.set]{fullShare} f
abbrev wP (c j : Dev nD) (f : S4096x8192.Idx → Elt F .f32) : sProp 𝕄 := (wV j).view.loc (c : Thread nD τ) ↦[(wV j).view.set]{fullShare} f

/-! ## The schedule -/

def barPay (c p : Dev nD) : sProp 𝕄 := iprop((∃ f, rcvP p c f) ∗ reached ER (rcvC p c) 0)
def rcvPay (c j : Dev nD) : sProp 𝕄 := rcvP c j (D.land c)
def sndPay (c j : Dev nD) : sProp 𝕄 := xbfP c j (D.xb c)
def wPay (c : Dev nD) (i : ℕ) : sProp 𝕄 := iprop(slotP c (sl i) (D.ring c i) ∗ wP c (ord c i) (D.w c))

def rd : Rounds.Schedule (GSem nD τ sig) (Dev nD) 𝕄 where
  duties g r := if g.1.2 = .tc then
      match kind g.2 with
      | .bar => if r = 0 then Finset.univ else ∅
      | .snd j => if r = 0 ∧ j ≠ g.1.1 then {0} else ∅
      | .rcv j => if r = 0 ∧ j ≠ g.1.1 then {0} else ∅
      | .w s => if 3 * r + s.val < 16 then {0} else ∅
      | .other => ∅
    else ∅
  unitless _ := False
  amount g _ _ := match kind g.2 with
    | .bar => 1
    | .snd _ => N
    | .rcv _ => N
    | .w _ => NW
    | .other => 1
  payload g r d := match kind g.2 with
    | .bar => barPay g.1.1 d
    | .snd j => sndPay D g.1.1 j
    | .rcv j => rcvPay D g.1.1 j
    | .w s => wPay D g.1.1 (3 * r + s.val)
    | .other => iprop(emp)
  amount_pos g _ _ _ := by
    cases kind g.2
    · exact Nat.one_pos
    · exact N_pos
    · exact N_pos
    · exact NW_pos
    · exact Nat.one_pos

instance rd_payload_storable (g : GSem nD τ sig) (r : ℕ) (d : Dev nD) :
    BI.Storable (upEmb : UEmb _ 𝕄) ((rd D).payload g r d) := by
  show BI.Storable upEmb (match kind g.2 with
    | .bar => barPay g.1.1 d
    | .snd j => sndPay D g.1.1 j
    | .rcv j => rcvPay D g.1.1 j
    | .w s => wPay D g.1.1 (3 * r + s.val)
    | .other => iprop(emp))
  unfold barPay sndPay rcvPay wPay
  cases kind g.2 <;> infer_instance

section Facts
variable (c j : Dev nD)

theorem duties_bar : (rd D).duties (barC c) 0 = Finset.univ := by
  dsimp only [rd]
  rw [if_pos rfl, show kind (barC c).2 = _ from kind_bar]; rfl
theorem duties_bar_later : ∀ r, 1 ≤ r → (rd D).duties (barC c) r = ∅ := by
  intro r hr
  dsimp only [rd]
  rw [if_pos rfl, show kind (barC c).2 = _ from kind_bar]; exact if_neg (by omega)
theorem duties_snd (h : j ≠ c) : (rd D).duties (sndC c j) 0 = {0} := by
  dsimp only [rd]
  rw [if_pos rfl, show kind (sndC c j).2 = _ from kind_snd j]; exact if_pos ⟨rfl, h⟩
theorem duties_rcv (h : j ≠ c) : (rd D).duties (rcvC c j) 0 = {0} := by
  dsimp only [rd]
  rw [if_pos rfl, show kind (rcvC c j).2 = _ from kind_rcv j]; exact if_pos ⟨rfl, h⟩
theorem duties_snd_later (r₀ : ℕ) (h : 1 ≤ r₀ ∨ j = c) : ∀ r, r₀ ≤ r → (rd D).duties (sndC c j) r = ∅ := by
  intro r hr
  dsimp only [rd]
  rw [if_pos rfl, show kind (sndC c j).2 = _ from kind_snd j]
  exact if_neg (fun hh => by rcases h with h | h; (have := hh.1; omega); exact hh.2 h)
theorem duties_rcv_later (r₀ : ℕ) (h : 1 ≤ r₀ ∨ j = c) : ∀ r, r₀ ≤ r → (rd D).duties (rcvC c j) r = ∅ := by
  intro r hr
  dsimp only [rd]
  rw [if_pos rfl, show kind (rcvC c j).2 = _ from kind_rcv j]
  exact if_neg (fun hh => by rcases h with h | h; (have := hh.1; omega); exact hh.2 h)
theorem sl_div (i : ℕ) : 3 * (i / 3) + (sl i).val = i := by show 3 * (i / 3) + i % 3 = i; omega
theorem duties_w (i : ℕ) (h : i < 16) : (rd D).duties (wC c (sl i)) (i / 3) = {0} := by
  dsimp only [rd]
  rw [if_pos rfl, show kind (wC c (sl i)).2 = _ from kind_w (sl i)]
  exact if_pos (by rw [sl_div]; exact h)
theorem duties_w_later (s : Fin 3) (r₀ : ℕ) (h : 16 ≤ 3 * r₀ + s.val) : ∀ r, r₀ ≤ r → (rd D).duties (wC c s) r = ∅ := by
  intro r hr
  dsimp only [rd]
  rw [if_pos rfl, show kind (wC c s).2 = _ from kind_w s]
  exact if_neg (by omega)

theorem amount_bar (r : ℕ) (d : Dev nD) : (rd D).amount (barC c) r d = 1 := by
  dsimp only [rd]; rw [show kind (barC c).2 = _ from kind_bar]
theorem amount_snd (r : ℕ) (d : Dev nD) : (rd D).amount (sndC c j) r d = N := by
  dsimp only [rd]; rw [show kind (sndC c j).2 = _ from kind_snd j]
theorem amount_rcv (r : ℕ) (d : Dev nD) : (rd D).amount (rcvC c j) r d = N := by
  dsimp only [rd]; rw [show kind (rcvC c j).2 = _ from kind_rcv j]
theorem amount_w (s : Fin 3) (r : ℕ) (d : Dev nD) : (rd D).amount (wC c s) r d = NW := by
  dsimp only [rd]; rw [show kind (wC c s).2 = _ from kind_w s]

theorem expect_bar : (rd D).expect (barC c) 0 = 16 := by
  unfold Schedule.expect Schedule.amountOf
  rw [duties_bar, Finset.sum_congr rfl fun d _ => amount_bar D c 0 d, Finset.sum_const, Finset.card_univ]
  rfl
theorem expect_snd (h : j ≠ c) : (rd D).expect (sndC c j) 0 = N := by
  unfold Schedule.expect Schedule.amountOf; rw [duties_snd D c j h, Finset.sum_singleton, amount_snd]
theorem expect_rcv (h : j ≠ c) : (rd D).expect (rcvC c j) 0 = N := by
  unfold Schedule.expect Schedule.amountOf; rw [duties_rcv D c j h, Finset.sum_singleton, amount_rcv]
theorem expect_w (i : ℕ) (h : i < 16) : (rd D).expect (wC c (sl i)) (i / 3) = NW := by
  unfold Schedule.expect Schedule.amountOf; rw [duties_w D c i h, Finset.sum_singleton, amount_w]

theorem payload_bar (r : ℕ) (d : Dev nD) : (rd D).payload (barC c) r d = barPay c d := by
  dsimp only [rd]; rw [show kind (barC c).2 = _ from kind_bar]
theorem payload_snd (r : ℕ) (d : Dev nD) : (rd D).payload (sndC c j) r d = sndPay D c j := by
  dsimp only [rd]; rw [show kind (sndC c j).2 = _ from kind_snd j]
theorem payload_rcv (r : ℕ) (d : Dev nD) : (rd D).payload (rcvC c j) r d = rcvPay D c j := by
  dsimp only [rd]; rw [show kind (rcvC c j).2 = _ from kind_rcv j]
theorem payload_w (i : ℕ) (d : Dev nD) : (rd D).payload (wC c (sl i)) (i / 3) d = wPay D c i := by
  dsimp only [rd]; rw [show kind (wC c (sl i)).2 = _ from kind_w (sl i)]
  show wPay D c (3 * (i / 3) + (sl i).val) = _
  rw [sl_div]

theorem rest_bar : bigSep ((rd D).duties (barC c) 0 \ ∅) (fun d => (rd D).payload (barC c) 0 d)
    = bigSep Finset.univ (fun d => barPay (F := F) c d) := by
  rw [Finset.sdiff_empty, duties_bar]; exact bigSep_congr fun d _ => payload_bar D c 0 d
theorem rest_snd (h : j ≠ c) : bigSep ((rd D).duties (sndC c j) 0 \ ∅) (fun d => (rd D).payload (sndC c j) 0 d) = sndPay D c j := by
  rw [Finset.sdiff_empty, duties_snd D c j h, bigSep_singleton, payload_snd]
theorem rest_rcv (h : j ≠ c) : bigSep ((rd D).duties (rcvC c j) 0 \ ∅) (fun d => (rd D).payload (rcvC c j) 0 d) = rcvPay D c j := by
  rw [Finset.sdiff_empty, duties_rcv D c j h, bigSep_singleton, payload_rcv]
theorem rest_w (i : ℕ) (h : i < 16) : bigSep ((rd D).duties (wC c (sl i)) (i / 3) \ ∅) (fun d => (rd D).payload (wC c (sl i)) (i / 3) d) = wPay D c i := by
  rw [Finset.sdiff_empty, duties_w D c i h, bigSep_singleton, payload_w]

end Facts

/-! ## What each device owes at launch; the levels -/

/-- The receive credits device `c`'s sends from the `n`-th on pay. -/
def owR (c : Dev nD) (n : ℕ) : CellTallies nD τ sig Unit := ∑ k ∈ Finset.Ico n 16, tallyAt (rcvC (ord c k) c) () N
/-- The barrier units device `c`'s signals from the `n`-th on pay. -/
def owB (n : ℕ) : CellTallies nD τ sig Unit := ∑ p ∈ Finset.Ico n 16, tallyAt (barC (dv p)) () 1
/-- What device `c` owes at launch. -/
def O₀ (c : Dev nD) : CellTallies nD τ sig Unit := owR c 1 + owB 0

theorem sum_Ico_head {α : Type} [AddCommMonoid α] (f : ℕ → α) {n m : ℕ} (h : n < m) :
    ∑ k ∈ Finset.Ico n m, f k = ∑ k ∈ Finset.Ico (n + 1) m, f k + f n := by
  have e : Finset.Ico n m = insert n (Finset.Ico (n + 1) m) := by
    ext a; simp only [Finset.mem_insert, Finset.mem_Ico]; omega
  rw [e, Finset.sum_insert (by simp), add_comm]
theorem owR_succ (c : Dev nD) {n : ℕ} (h : n < 16) : owR c n = owR c (n + 1) + tallyAt (rcvC (ord c n) c) () N := by
  exact sum_Ico_head _ h
theorem owR_end (c : Dev nD) : owR c 16 = 0 := by unfold owR; rw [Finset.Ico_self, Finset.sum_empty]
theorem owB_succ {n : ℕ} (h : n < 16) : owB n = owB (n + 1) + tallyAt (barC (dv n)) () 1 := by
  exact sum_Ico_head _ h
theorem owB_end : owB 16 = 0 := by unfold owB; rw [Finset.Ico_self, Finset.sum_empty]

theorem sum_tally_pos {s : Finset ℕ} {gf : ℕ → GSem nD τ sig} {n : ℕ} {g : GSem nD τ sig} {u : Unit}
    (h : 0 < (∑ k ∈ s, tallyAt (gf k) () n) g u) : ∃ k ∈ s, g = gf k := by
  classical
  induction s using Finset.induction_on with
  | empty => rw [Finset.sum_empty] at h; exact absurd h (Nat.lt_irrefl 0)
  | insert a s ha ih =>
    rw [Finset.sum_insert ha, Pi.add_apply, Finsupp.add_apply, tallyAt_apply] at h
    by_cases hg : g = gf a
    · exact ⟨a, Finset.mem_insert_self _ _, hg⟩
    · rw [if_neg (fun h' => hg h'.1), Nat.zero_add] at h
      obtain ⟨k, hk, e⟩ := ih h
      exact ⟨k, Finset.mem_insert_of_mem hk, e⟩

theorem owR_pos {c : Dev nD} {n : ℕ} {g : GSem nD τ sig} {u : Unit} (h : 0 < owR c n g u) : ∃ p, g = rcvC p c := by
  obtain ⟨k, _, e⟩ := sum_tally_pos h; exact ⟨_, e⟩
theorem owB_pos {n : ℕ} {g : GSem nD τ sig} {u : Unit} (h : 0 < owB n g u) : ∃ p, g = barC p := by
  obtain ⟨k, _, e⟩ := sum_tally_pos h; exact ⟨_, e⟩
theorem O₀_pos {c : Dev nD} {g : GSem nD τ sig} {u : Unit} (h : 0 < O₀ c g u) : (∃ p, g = rcvC p c) ∨ ∃ p, g = barC p := by
  unfold O₀ at h
  rw [Pi.add_apply, Finsupp.add_apply] at h
  rcases Nat.eq_zero_or_pos (owR c 1 g u) with h0 | h0
  · rw [h0, Nat.zero_add] at h; exact .inr (owB_pos h)
  · exact .inl (owR_pos h0)

def L (g : GSem nD τ sig) : Finset Unit := if g.1.2 = .tc then {()} else ∅
/-- Barrier cells at 1, receive cells at 2, everything else at 0. -/
def lv (g : GSem nD τ sig) (_ : Unit) : ℕ := match kind g.2 with | .bar => 1 | .rcv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barC c) u = 1 := by
  unfold lv; rw [show kind (barC c).2 = _ from kind_bar]
theorem lv_rcv (c j : Dev nD) (u : Unit) : lv (rcvC c j) u = 2 := by
  unfold lv; rw [show kind (rcvC c j).2 = _ from kind_rcv j]

/-- At its barrier wait a device owes receive credits only, and those lie above. -/
theorem mayWait_bar (c : Dev nD) : (levAts L lv : sProp 𝕄) ⊢ MayWait (c : Thread nD τ) (.reg barS) () (owR c 1) :=
  MayOwe.of_cut (L := L) (lev := lv) 1 (fun p hp => by rw [Finset.mem_singleton.mp hp, L_tc]; exact Finset.mem_singleton_self _)
    (fun g u hg => by obtain ⟨p, rfl⟩ := owR_pos hg; exact Finset.mem_singleton_self _)
    (fun p hp => by rw [Finset.mem_singleton.mp hp]; exact le_of_eq (lv_bar c ()))
    (fun g u hg => by obtain ⟨p, rfl⟩ := owR_pos hg; rw [lv_rcv]; decide)

/-- A staging cell of the pipeline, below everything, may be waited for while anything of that is owed. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨p, rfl⟩ | ⟨p, rfl⟩ <;> exact Finset.mem_singleton_self _)
      (fun p hp => by
        rw [Finset.mem_singleton.mp hp]
        unfold lv
        rw [show kind (SemLoc.dma q) = .other from by
          show kindDma q = _
          unfold kindDma; rw [dif_neg (by omega), dif_neg (by omega), dif_neg (by omega)]])
      (fun g u hg => by
        rcases O₀_pos hg with ⟨p, rfl⟩ | ⟨p, rfl⟩
        · rw [lv_rcv]; decide
        · rw [lv_bar]; decide)
  · rw [MayWait_zero]; iintro -; iempintro

/-! ## The invariants, for every device -/

/-- A device's own scoped cells: sends, receives, ring. -/
abbrev OS : Type := Dev nD ⊕ Dev nD ⊕ Fin 3
/-- Their semaphores. -/
def osem : OS → SemLoc sig
  | .inl j => .dma (sndS j)
  | .inr (.inl j) => .dma (rcvS j)
  | .inr (.inr s) => .dma (wS s)
/-- There is a set of every cell of the protocol: each device's barrier cell and its own. -/
theorem cells_exists : ∃ s : Finset (GSem nD τ sig), s = (Finset.univ : Finset (Dev nD)).image barC
    ∪ (Finset.univ : Finset (Dev nD × OS)).image fun x => ((x.1 : Thread nD τ), osem x.2) := ⟨_, rfl⟩
/-- That set, by choice, so that nothing computes it. -/
def cells : Finset (GSem nD τ sig) := Classical.choose cells_exists
theorem cells_eq : cells = (Finset.univ : Finset (Dev nD)).image barC
    ∪ (Finset.univ : Finset (Dev nD × OS)).image fun x => ((x.1 : Thread nD τ), osem x.2) := Classical.choose_spec cells_exists

/-- Every cell's invariant, at the names `K`. -/
def IV (K : GSem nD τ sig → ℕ) : sProp 𝕄 := bigSep cells fun g => cellInv ER (rd D) (K g) g
instance IV_persistent (K : GSem nD τ sig → ℕ) : BI.Persistent (IV D K) := by unfold IV; infer_instance

theorem IV_get (K : GSem nD τ sig → ℕ) {g : GSem nD τ sig} (h : g ∈ cells) : IV D K ⊢ cellInv ER (rd D) (K g) g := by
  unfold IV; exact bigSep_elim h
theorem bar_mem (c : Dev nD) : barC c ∈ cells := by
  rw [cells_eq]; exact Finset.mem_union_left _ (Finset.mem_image_of_mem _ (Finset.mem_univ c))
theorem own_mem (c : Dev nD) (k : OS) : ((c : Thread nD τ), osem k) ∈ cells := by
  rw [cells_eq]
  exact Finset.mem_union_right _ (Finset.mem_image.mpr ⟨(c, k), Finset.mem_univ _, rfl⟩)
theorem IV_bar (K : GSem nD τ sig → ℕ) (c : Dev nD) : IV D K ⊢ cellInv ER (rd D) (K (barC c)) (barC c) := IV_get D K (bar_mem c)
theorem IV_snd (K : GSem nD τ sig → ℕ) (c j : Dev nD) : IV D K ⊢ cellInv ER (rd D) (K (sndC c j)) (sndC c j) := IV_get D K (own_mem c (.inl j))
theorem IV_rcv (K : GSem nD τ sig → ℕ) (c j : Dev nD) : IV D K ⊢ cellInv ER (rd D) (K (rcvC c j)) (rcvC c j) := IV_get D K (own_mem c (.inr (.inl j)))
theorem IV_w (K : GSem nD τ sig → ℕ) (c : Dev nD) (s : Fin 3) : IV D K ⊢ cellInv ER (rd D) (K (wC c s)) (wC c s) := IV_get D K (own_mem c (.inr (.inr s)))

end Cert.KernelIdeal.AG

end
-- ==== Proof.KernelIdeal.Steps.lean ====
/-
The operations of the gather's body, one lemma each: from the state before the operation to the state after it. The
states are separating conjunctions indexed by how far each kind of operation has got.
-/
module

public import proofs.«01_k».proof.Proof.KernelIdeal.Sched
public import Idealize.SL.BI.BigOpNat
public import Idealize.ShloMosaic.Lib.Ring

@[expose] public section

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
/-- Programs of a device's core. -/
abbrev PR (F : FTy → Type) (α : Type) := Prog (TpuEff nD τ sig (Elt F) Λ₀ .tc) α

abbrev 𝒱₀ : Variants := Variants.none

/-- The program `p` on device `c`'s core, from here to its end. -/
abbrev WP (c : Dev nD) {α : Type} (p : PR F α) (Q : α → sProp 𝕄) : sProp 𝕄 :=
  wp frame (wpE (defs₀ (F := F)) 𝒱₀ (c : Thread nD τ) none) Set.univ p Q

/-! ## Re-indexing -/

theorem univ_ord (c : Dev nD) : (Finset.univ : Finset (Dev nD)) = (Finset.Ico 0 16).image (ord c) := by
  ext j
  simp only [Finset.mem_univ, Finset.mem_image, Finset.mem_Ico, true_iff]
  obtain ⟨k, hk, e⟩ := exists_ord c j
  exact ⟨k, ⟨Nat.zero_le _, hk⟩, e⟩
theorem univ_dv : (Finset.univ : Finset (Dev nD)) = (Finset.Ico 0 16).image dv := by
  ext j
  simp only [Finset.mem_univ, Finset.mem_image, Finset.mem_Ico, true_iff]
  exact ⟨j.val, ⟨Nat.zero_le _, j.isLt⟩, dv_val j⟩
theorem bigSep_ord (c : Dev nD) (Φ : Dev nD → sProp 𝕄) : bigSep Finset.univ Φ = bigSep (Finset.Ico 0 16) fun k => Φ (ord c k) := by
  rw [univ_ord c, bigSep_image_of_injOn]
  intro a ha b hb h
  rw [Finset.mem_coe, Finset.mem_Ico] at ha hb
  exact ord_inj c ha.2 hb.2 h
theorem bigSep_dv (Φ : Dev nD → sProp 𝕄) : bigSep Finset.univ Φ = bigSep (Finset.Ico 0 16) fun k => Φ (dv k) := by
  rw [univ_dv, bigSep_image_of_injOn]
  intro a ha b hb h
  rw [Finset.mem_coe, Finset.mem_Ico] at ha hb
  have := congrArg Fin.val h
  simp only [dv] at this; omega

/-! ## States -/

variable (D : Data F)

/-- The order row device `c` reads. -/
def ordRow (c : Dev nD) : S16.Idx → Elt F .i32 := fun i => Dev.word (ord c (i 0).val)

abbrev ordP (c : Dev nD) : sProp 𝕄 := (ordM.view.loc (c : Thread nD τ)) ↦{fullShare} (ordRow (F := F) c)
abbrev xP (c : Dev nD) : sProp 𝕄 := (xM.view.loc (c : Thread nD τ)) ↦{fullShare} (D.x c)
abbrev outP (c : Dev nD) (f : S256x8192.Idx → Elt F .f32) : sProp 𝕄 := (outM.view.loc (c : Thread nD τ)) ↦{fullShare} f
abbrev xbfA (c : Dev nD) (f : S4096x256.Idx → Elt F .bf16) : sProp 𝕄 := (xbfM.view.loc (c : Thread nD τ)) ↦{fullShare} f
abbrev Ow (c : Dev nD) (O : CellTallies nD τ sig Unit) : sProp 𝕄 := iprop(∃ W, owes (c : Thread nD τ) O W)

/-- Receives: those from place `r` on pending, those before it done. -/
def Rst (c : Dev nD) (r : ℕ) : sProp 𝕄 :=
  iprop(bigSep (Finset.Ico r 16) (fun k => iprop(cred (tallyAt (rcvC c (ord c k)) () N) ∗ atPos ER (rcvC c (ord c k)) 0 ∅ 0))
    ∗ bigSep (Finset.Ico 1 r) (fun k => iprop(rcvP c (ord c k) (D.land c) ∗ atPos ER (rcvC c (ord c k)) 1 ∅ 0)))

/-- The ring: loads before `a` waited for, loads before `b` started. -/
def Wst (c : Dev nD) (a b : ℕ) : sProp 𝕄 :=
  iprop(bigSep (Finset.Ico b 3) (fun s => iprop((∃ f, slotP c (sl s) f) ∗ atPos ER (wC c (sl s)) 0 ∅ 0 ∗ reached ER (wC c (sl s)) 0))
    ∗ bigSep (Finset.Ico a b) (fun i => iprop(cred (tallyAt (wC c (sl i)) () NW) ∗ atPos ER (wC c (sl i)) (i / 3) ∅ 0))
    ∗ bigSep (Finset.Ico (b - 3) a) (fun i => iprop(slotP c (sl i) (D.ring c i) ∗ atPos ER (wC c (sl i)) (i / 3 + 1) ∅ 0 ∗ reached ER (wC c (sl i)) (i / 3 + 1)))
    ∗ bigSep (Finset.Ico b 16) (fun i => iprop(dutyTok ER (wC c (sl i)) (i / 3) 0 ∗ wP c (ord c i) (D.w c)))
    ∗ bigSep (Finset.Ico 0 a) (fun i => wP c (ord c i) (D.w c)))

/-- What the send at place `k` needs beside its source rows and the target's slab. -/
def sndTok (c : Dev nD) (k : ℕ) : sProp 𝕄 :=
  iprop(atPos ER (sndC c (ord c k)) 0 ∅ 0 ∗ reached ER (sndC c (ord c k)) 0 ∗ dutyTok ER (sndC c (ord c k)) 0 0 ∗ dutyTok ER (rcvC (ord c k) c) 0 0)

/-- Sends: those from place `n` on to be started, those before `s` waited for. -/
def Sst (c : Dev nD) (n s : ℕ) : sProp 𝕄 :=
  iprop(bigSep (Finset.Ico n 16) (fun k => iprop(xbfP c (ord c k) (D.xb c) ∗ barPay c (ord c k) ∗ sndTok c k))
    ∗ bigSep (Finset.Ico s n) (fun k => iprop(cred (tallyAt (sndC c (ord c k)) () N) ∗ atPos ER (sndC c (ord c k)) 0 ∅ 0))
    ∗ bigSep (Finset.Ico 1 s) (fun k => iprop(xbfP c (ord c k) (D.xb c) ∗ atPos ER (sndC c (ord c k)) 1 ∅ 0)))

/-- What stays aside from the barrier on: the barrier cell's position, the device's own slab, its unused cells. -/
def Keep (c : Dev nD) : sProp 𝕄 :=
  iprop(atPos ER (barC c) 1 ∅ 0 ∗ barPay c c ∗ atPos ER (sndC c c) 0 ∅ 0 ∗ atPos ER (rcvC c c) 0 ∅ 0)

/-- The state from the store of the rounded operand on. -/
def MS (c : Dev nD) (n s r a b : ℕ) (f : S256x8192.Idx → Elt F .f32) : sProp 𝕄 :=
  iprop(Wst D c a b ∗ Keep c ∗ xP D c ∗ xbfP c c (D.xb c) ∗ Sst D c n s ∗ Rst D c r ∗ outP c f ∗ Ow c (owR c n))

/-- The state between the barrier and that store. -/
def BS (c : Dev nD) (b : ℕ) (f : S256x8192.Idx → Elt F .f32) (g : S4096x256.Idx → Elt F .bf16) : sProp 𝕄 :=
  iprop(Wst D c 0 b ∗ Keep c ∗ xP D c ∗ xbfA c g ∗ bigSep (Finset.Ico 1 16) (fun k => iprop(barPay c (ord c k) ∗ sndTok c k))
    ∗ Rst D c 1 ∗ outP c f ∗ Ow c (owR c 1))

/-- What the signal to the device numbered `p` needs. -/
def sigTok (c : Dev nD) (p : ℕ) : sProp 𝕄 :=
  iprop(dutyTok ER (barC (dv p)) 0 c ∗ reached ER (barC (dv p)) 0 ∗ barPay (dv p) c)

/-- The state before the barrier, `n` signals sent. -/
def AS (c : Dev nD) (n : ℕ) (f : S256x8192.Idx → Elt F .f32) (g : S4096x256.Idx → Elt F .bf16) : sProp 𝕄 :=
  iprop((levAts L lv ∗ atPos ER (barC c) 0 ∅ 0 ∗ cred (tallyAt (barC c) () 16) ∗ atPos ER (sndC c c) 0 ∅ 0 ∗ atPos ER (rcvC c c) 0 ∅ 0)
    ∗ bigSep (Finset.Ico n 16) (sigTok c) ∗ xP D c ∗ xbfA c g ∗ bigSep (Finset.Ico 1 16) (fun k => sndTok c k)
    ∗ Rst D c 1 ∗ Wst D c 0 0 ∗ outP c f ∗ Ow c (owR c 1 + owB n))

/-- A state `X` of the protocol with what every operation may use: the order row and the invariants. -/
def St (K : GSem nD τ sig → ℕ) (c : Dev nD) (X : sProp 𝕄) : sProp 𝕄 := iprop(ordP c ∗ IV D K ∗ X)

/-! ## The values read and accumulated -/

/-- Device `c`'s own block of the rounded operand. -/
def aOwn (c : Dev nD) : Vec F S256x256 .bf16 :=
  (xbfM.access (Rect.unit (s := S4096x256) ![256 * c.val, 0] S256x256.size (inbXbf c))).read (Elt F) (D.xb c)
/-- The block received from the device at place `k`. -/
def aRcv (c : Dev nD) (k : ℕ) : Vec F S1x256x256 .bf16 :=
  (rcvM.access (Rect.unit (s := S16x256x256) ![(ord c k).val, 0, 0] S1x256x256.size (inbRecv (ord c k)))).read (Elt F) (D.land c)
/-- The weight rows of load `k`, out of the ring. -/
def wRd (c : Dev nD) (k : ℕ) : Vec F S1x256x8192 .f32 :=
  (ringM.access (Rect.unit (s := S3x256x8192) ![(sl k).val, 0, 0] S1x256x8192.size (inbSlot (sl k)))).read (Elt F) (D.ring c k)
/-- The result after the block at place `k`. -/
def acc (c : Dev nD) : ℕ → Vec F S256x8192 .f32
  | 0 => k0_pay2 (aOwn D c) (wRd D c 0)
  | k + 1 => k0_pay3 (aRcv D c (k + 1)) (wRd D c (k + 1)) (acc c k)

/-! ## Steps -/

variable {α : Type} {Q : α → sProp (MT nD τ sig Unit (Elt F) ℕ UU ℕ)} (K : GSem nD τ sig → ℕ) (c : Dev nD)

theorem take {A : ℕ → sProp 𝕄} {a b : ℕ} (h : a < b) :
    bigSep (Finset.Ico a b) A ⊢ iprop(A a ∗ bigSep (Finset.Ico (a + 1) b) A) := Entails.of_eq (bigSep_Ico_succ_bot h A)
theorem put {A : ℕ → sProp 𝕄} {a b : ℕ} (h : a ≤ b) :
    iprop(A b ∗ bigSep (Finset.Ico a b) A) ⊢ bigSep (Finset.Ico a (b + 1)) A := Entails.of_eq (bigSep_Ico_succ_top h A).symm

theorem step_word (n : Fin 16) (off : Fin 1 → Nat) (hoff : off = ![n.val]) {inb : ∀ a, off a + S1.size a ≤ S16.size a}
    {hl : ordM.view.LoadsAt (Rect.unit (s := S16) off S1.size inb).toLoadRect}
    {k : ((Rect.unit (s := S16) off S1.size inb).toLoadRect.shape.Idx → Elt F .i32) → PR F α} {X : sProp 𝕄}
    (h : St D K c X ⊢ WP c (k fun _ => Dev.word (ord c n.val)) Q) :
    St D K c X ⊢ WP c (Prog.op (.load ordM (Rect.unit (s := S16) off S1.size inb).toLoadRect hl) k) Q := by
  subst hoff
  have e : (ordM.access (Rect.unit (s := S16) ![n.val] S1.size inb)).read (Elt F) (ordRow (F := F) c)
      = fun _ => Dev.word (ord c n.val) := by
    funext x
    show ordRow (F := F) c ((Rect.unit (s := S16) ![n.val] S1.size inb).emb x) = _
    unfold ordRow
    congr 2
    rw [Rect.emb_apply]
    have hx : (x 0).val < 1 := (x 0).isLt
    show (![n.val] : Fin 1 → ℕ) 0 + 1 * (x 0).val = n.val
    simp; omega
  unfold St at h ⊢
  iintro ⟨Ho, HR⟩
  iapply (wp_load_rect 𝒱₀ (c : Thread nD τ) none Set.univ (m := ordM) (r := Rect.unit (s := S16) ![n.val] S1.size inb) (S := Finset.univ) (Finset.subset_univ _)) $$ Ho
  iintro Ho
  rw [e]
  iapply h
  isplitl [Ho] <;> iassumption

theorem step_ret {S : sProp 𝕄} {a : α} (h : S ⊢ Q a) : S ⊢ WP (F := F) c (Prog.ret a) Q := by
  rw [WP, wp_ret]
  iintro H
  imodintro
  iapply h
  iexact H

theorem step_assume {P : Prop} {d : Decidable P} {k : PLift P → PR F α} (h : P) {S : sProp 𝕄}
    (h' : S ⊢ WP c (k ⟨h⟩) Q) : S ⊢ WP c (Prog.op (.assume P d) k) Q := by
  rw [WP, wp_assume_of _ _ _ _ h]; exact h'

/-- A signal to the device numbered `n`. -/
theorem step_sig (n : ℕ) (hn : n < 16) (q : Dev nD) (hq : q = dv n) {f g} {k : PUnit → PR F α}
    (h : St D K c (AS D c (n + 1) f g) ⊢ WP c (k ⟨⟩) Q) :
    St D K c (AS D c n f g) ⊢ WP c (Prog.op (.semSignal (Dev.tc q) barS (1#32).toInt) k) Q := by
  subst hq
  rw [show (1#32 : BitVec 32).toInt = ((1 : ℕ) : Int) from rfl]
  unfold St AS at h ⊢
  iintro ⟨Ho, #HI, Hb, Hs, Hx, Hxb, Ht, Hr, Hw, Hout, ⟨%W, HO⟩⟩
  ihave Hs' := (take hn) $$ Hs
  unfold sigTok at *
  icases Hs' with ⟨⟨Htok, Hre, Hpay⟩, Hs⟩
  ihave #HIb := (IV_bar D K (dv n)) $$ HI
  iapply (Rounds.wp_signal 𝒱₀ ER (rd D) (c : Thread nD τ) none (dst := ((dv n : Dev nD) : Thread nD τ)) (sem := barS) (r := 0) (d := c) (κ := K (barC (dv n)))
      (by rw [duties_bar]; exact Finset.mem_univ _) (amount_bar D (dv n) 0 c) () (O₀ := owR c 1 + owB n) (owR c 1 + owB (n + 1)) (by rw [owB_succ hn, add_assoc])) $$ [HO Htok Hre Hpay]
  · isplitr; · iexact HIb
    isplitl [HO]; · iexact HO
    isplitl [Htok]; · iexact Htok
    isplitl [Hpay]; · rw [payload_bar]; iexact Hpay
    iexact Hre
  iintro HO
  iapply h
  isplitl [Ho]; · iexact Ho
  isplitr; · iexact HI
  isplitl [Hb]; · iexact Hb
  isplitl [Hs]; · iexact Hs
  isplitl [Hx]; · iexact Hx
  isplitl [Hxb]; · iexact Hxb
  isplitl [Ht]; · iexact Ht
  isplitl [Hr]; · iexact Hr
  isplitl [Hw]; · iexact Hw
  isplitl [Hout]; · iexact Hout
  iexists W; iexact HO

/-- The wait for everybody's signal. -/
theorem step_bar {f g} {k : PUnit → PR F α}
    (h : St D K c (BS D c 0 f g) ⊢ WP c (k ⟨⟩) Q) :
    St D K c (AS D c 16 f g) ⊢ WP c (Prog.op (.semWait barS (16#32).toInt) k) Q := by
  rw [show (16#32 : BitVec 32).toInt = ((16 : ℕ) : Int) from rfl]
  unfold St AS BS Keep at *
  iintro ⟨Ho, #HI, ⟨Hlev, Hat, Hcr, Has, Har⟩, Hs, Hx, Hxb, Ht, Hr, Hw, Hout, ⟨%W, HO⟩⟩
  ihave #HIb := (IV_bar D K c) $$ HI
  rw [owB_end, add_zero]
  iapply (Rounds.wp_wait_rest_token 𝒱₀ ER (rd D) (c : Thread nD τ) none (κ := K (barC c))
      (wpE_semWait_eq 𝒱₀ (c : Thread nD τ) none Set.univ) (Set.mem_univ _) () (O := owR c 1) (W := W) (R := 0) (m := 0) (T := ∅)
      ((Nat.zero_add 16).trans (expect_bar D c).symm)) $$ [Hcr HO Hat Hlev]
  · isplitr; · iexact HIb
    isplitl [Hcr]; · iexact Hcr
    isplitl [HO]; · iexact HO
    isplitl [Hlev]; · iapply (mayWait_bar c); iexact Hlev
    iexact Hat
  rw [rest_bar, bigSep_ord c]
  iintro ⟨HO, Hat, -, Hpay⟩
  ihave Hpay' := (take (by decide : 0 < 16)) $$ Hpay
  icases Hpay' with ⟨Hp0, Hpay⟩
  rw [ord_zero]
  iapply h
  isplitl [Ho]; · iexact Ho
  isplitr; · iexact HI
  isplitl [Hw]; · iexact Hw
  isplitl [Hat Hp0 Has Har]
  · isplitl [Hat]; · iexact Hat
    isplitl [Hp0]; · iexact Hp0
    isplitl [Has] <;> iassumption
  isplitl [Hx]; · iexact Hx
  isplitl [Hxb]; · iexact Hxb
  isplitl [Ht Hpay]
  · rw [show (bigSep (Finset.Ico 1 16) fun k => iprop(barPay (F := F) c (ord c k) ∗ sndTok c k)) = iprop(bigSep (Finset.Ico 1 16) (fun k => barPay c (ord c k)) ∗ bigSep (Finset.Ico 1 16) fun k => sndTok c k) from bigSep_sep _ _ _]
    isplitl [Hpay] <;> iassumption
  isplitl [Hr]; · iexact Hr
  isplitl [Hout]; · iexact Hout
  iexists _; iexact HO

/-- What a finished load of block `i` leaves is what the ring's payload asks for. -/
theorem wload_pay (i : ℕ) (s : Fin 3) (hs : s = sl i) (f0 : S3x256x8192.Idx → Elt F .f32) :
    iprop(((slotV s).view.loc (c : Thread nD τ) ↦[(slotV s).view.set]{fullShare} ((slotV s).view.write (Elt F) f0 ((wV (ord c i)).view.read (Elt F) (D.w c)) Finset.univ))
      ∗ wP c (ord c i) (D.w c)) ⊢ (wPay D c i : sProp 𝕄) := by
  subst hs
  unfold wPay
  exact sep_mono_left (Entails.of_eq (pointsTo_congr fun x hx => land_slot (D.w c) (ord c i) (sl i) f0 hx))

/-- What a finished send leaves at its target. -/
theorem send_pay (j d : Dev nD) (f0 : S16x256x256.Idx → Elt F .bf16) :
    ((rcvV j).view.loc (d : Thread nD τ) ↦[(rcvV j).view.set]{fullShare} ((rcvV j).view.write (Elt F) f0 ((xbfV d).view.read (Elt F) (D.xb j)) Finset.univ))
      ⊢ (rcvPay D d j : sProp 𝕄) := by
  unfold rcvPay
  exact Entails.of_eq (pointsTo_congr fun x hx => land_rcv D.xb j d f0 hx)

/-- A load started through a slot of the ring, one of the first three or a later one. -/
theorem wst_take (a b : ℕ) (hb : b < 16) (hab0 : a ≤ b) (h : a = 0 ∧ b < 3 ∨ 3 ≤ b ∧ b - 3 < a) :
    Wst D c a b ⊢ iprop(∃ f0, slotP c (sl b) f0 ∗ wP c (ord c b) (D.w c) ∗ dutyTok ER (wC c (sl b)) (b / 3) 0 ∗ reached ER (wC c (sl b)) (b / 3)
      ∗ (cred (tallyAt (wC c (sl b)) () NW) -∗ Wst D c a (b + 1))) := by
  unfold Wst
  rcases h with ⟨rfl, h3⟩ | ⟨h3, ha⟩
  · rw [show b - 3 = 0 by omega, show b + 1 - 3 = 0 by omega]
    iintro ⟨Hf, Hb, Hfull, Ht, Hk⟩
    ihave Hf' := (take h3) $$ Hf
    icases Hf' with ⟨⟨⟨%f0, Hs⟩, Hat, Hr⟩, Hf⟩
    ihave Ht' := (take hb) $$ Ht
    icases Ht' with ⟨⟨Htok, Hw⟩, Ht⟩
    rw [show b / 3 = 0 by omega]
    iexists f0
    isplitl [Hs]; · iexact Hs
    isplitl [Hw]; · iexact Hw
    isplitl [Htok]; · iexact Htok
    isplitl [Hr]; · iexact Hr
    iintro Hc
    isplitl [Hf]; · iexact Hf
    isplitl [Hb Hc Hat]
    · iapply (put (Nat.zero_le b))
      isplitl [Hc Hat]
      · rw [show b / 3 = 0 by omega]
        isplitl [Hc] <;> iassumption
      iexact Hb
    isplitl [Hfull]; · iexact Hfull
    isplitl [Ht]; · iexact Ht
    iexact Hk
  · obtain ⟨e, rfl⟩ : ∃ e, b = e + 3 := ⟨b - 3, by omega⟩
    rw [show e + 3 - 3 = e by omega, show e + 3 + 1 - 3 = e + 1 by omega]
    have es : sl (e + 3) = sl e := Fin.ext (show (e + 3) % 3 = e % 3 by omega)
    have ed : (e + 3) / 3 = e / 3 + 1 := by omega
    rw [es, ed]
    have hae : a ≤ e + 3 := hab0
    have hea : e < a := by omega
    iintro ⟨Hf, Hb, Hfull, Ht, Hk⟩
    ihave Hfull' := (take hea) $$ Hfull
    icases Hfull' with ⟨⟨Hs, Hat, Hr⟩, Hfull⟩
    ihave Ht' := (take hb) $$ Ht
    icases Ht' with ⟨⟨Htok, Hw⟩, Ht⟩
    rw [es, ed]
    iexists _
    isplitl [Hs]; · iexact Hs
    isplitl [Hw]; · iexact Hw
    isplitl [Htok]; · iexact Htok
    isplitl [Hr]; · iexact Hr
    iintro Hc
    isplitl [Hf]
    · rw [Finset.Ico_eq_empty_of_le (show 3 ≤ e + 3 by omega), Finset.Ico_eq_empty_of_le (show 3 ≤ e + 3 + 1 by omega)]; iexact Hf
    isplitl [Hb Hc Hat]
    · iapply (put hae)
      isplitl [Hc Hat]
      · rw [es, ed]
        isplitl [Hc] <;> iassumption
      iexact Hb
    isplitl [Hfull]; · iexact Hfull
    isplitl [Ht]; · iexact Ht
    iexact Hk

/-- The enqueue of the load of block `b` of the weight, in the midst of what else is held. -/
theorem wload_core (a b : ℕ) (hb : b < 16) (hab0 : a ≤ b) (hab : a = 0 ∧ b < 3 ∨ 3 ≤ b ∧ b - 3 < a)
    (offW : Fin 2 → Nat) (hW : offW = ![256 * (ord c b).val, 0]) {inbW' : ∀ i, offW i + S256x8192.size i ≤ S4096x8192.size i}
    (s : Fin 3) (hs : s = sl b) {h1 h2 h3} {k : PUnit → PR F α} {R : sProp 𝕄}
    (h : iprop(ordP c ∗ IV D K ∗ Wst D c a (b + 1) ∗ R) ⊢ WP c (k ⟨⟩) Q) :
    iprop(ordP c ∗ IV D K ∗ Wst D c a b ∗ R) ⊢ WP c (Prog.op (.enqueueDma (wM.slice (Rect.unit (s := S4096x8192) offW S256x8192.size inbW') (fun _ => rfl))
      (.here (slotV s)) (.dma (wS s)) h1 h2 h3) k) Q := by
  subst hW hs
  iintro ⟨Ho, #HI, Hw, HR⟩
  ihave Hw' := (wst_take D c a b hb hab0 hab) $$ Hw
  icases Hw' with ⟨%f0, Hs, Hw, Htok, Hr, Hback⟩
  ihave #HIw := (IV_w D K c (sl b)) $$ HI
  iapply (Rounds.wp_copy_pointsTo 𝒱₀ ER (rd D) (c : Thread nD τ) none (src := wV (ord c b)) (dst := slotV (sl b)) (sem := .dma (wS (sl b))) (r := b / 3) (d := 0) (κ := K (wC c (sl b)))
    (fs := D.w c) (fd := f0) (by rw [duties_w D c b hb]; exact Finset.mem_singleton_self _) () NW rfl (amount_w D c (sl b) (b / 3) 0) (by rw [payload_w D c b 0]; exact wload_pay D c b _ rfl f0)) $$ [Hs Hw Htok Hr]
  · isplitr; · iexact HIw
    isplitl [Hw]; · iexact Hw
    isplitl [Hs]; · iexact Hs
    isplitl [Htok] <;> iassumption
  iintro Hc
  ihave Hw := Hback $$ Hc
  iapply h
  isplitl [Ho]; · iexact Ho
  isplitr; · iexact HI
  isplitl [Hw] <;> iassumption

theorem step_wloadB (b : ℕ) (hb : b < 3) (offW : Fin 2 → Nat) (hW : offW = ![256 * (ord c b).val, 0])
    {inbW' : ∀ i, offW i + S256x8192.size i ≤ S4096x8192.size i}
    (s : Fin 3) (hs : s = sl b) {f g h1 h2 h3} {k : PUnit → PR F α}
    (h : St D K c (BS D c (b + 1) f g) ⊢ WP c (k ⟨⟩) Q) :
    St D K c (BS D c b f g) ⊢ WP c (Prog.op (.enqueueDma (wM.slice (Rect.unit (s := S4096x8192) offW S256x8192.size inbW') (fun _ => rfl))
      (.here (slotV s)) (.dma (wS s)) h1 h2 h3) k) Q := by
  unfold St BS at *
  exact wload_core D K c 0 b (by omega) (Nat.zero_le b) (.inl ⟨rfl, hb⟩) offW hW s hs h

theorem step_wload (b : ℕ) (hb : b < 16) {n s' r a f} (hab : 3 ≤ b ∧ b - 3 < a ∧ a ≤ b) (offW : Fin 2 → Nat) (hW : offW = ![256 * (ord c b).val, 0])
    {inbW' : ∀ i, offW i + S256x8192.size i ≤ S4096x8192.size i}
    (s : Fin 3) (hs : s = sl b) {h1 h2 h3} {k : PUnit → PR F α}
    (h : St D K c (MS D c n s' r a (b + 1) f) ⊢ WP c (k ⟨⟩) Q) :
    St D K c (MS D c n s' r a b f) ⊢ WP c (Prog.op (.enqueueDma (wM.slice (Rect.unit (s := S4096x8192) offW S256x8192.size inbW') (fun _ => rfl))
      (.here (slotV s)) (.dma (wS s)) h1 h2 h3) k) Q := by
  unfold St MS at *
  exact wload_core D K c a b hb hab.2.2 (.inr ⟨hab.1, hab.2.1⟩) offW hW s hs h

/-! ### Reads and writes of the rounded operand's buffer before the sends -/

theorem step_loadx {b f g} {inb hl} {k : (_ → Elt F .f32) → PR F α}
    (h : St D K c (BS D c b f g) ⊢ WP c (k (D.x c)) Q) :
    St D K c (BS D c b f g) ⊢ WP c (Prog.op (.load xM (Rect.unit (s := S4096x256) ![0, 0] S4096x256.size inb).toLoadRect hl) k) Q := by
  unfold St BS at *
  iintro ⟨Ho, HI, Hw, Hk, Hx, H⟩
  iapply (wp_load_rect 𝒱₀ (c : Thread nD τ) none Set.univ (m := xM) (r := Rect.unit (s := S4096x256) ![0, 0] S4096x256.size inb) (S := Finset.univ) (Finset.subset_univ _)) $$ Hx
  iintro Hx
  rw [show View.read (Elt F) (xM.access (Rect.unit (s := S4096x256) ![0, 0] S4096x256.size inb)) (D.x c) = (D.x c) from Memref.read_access_unit_zero (Elt F) cc0_stg1_0 (by decide) inb (D.x c)]
  iapply h
  iframe Ho HI Hw Hk Hx H

theorem step_loadxbf {b f g} {inb hl} {k : (_ → Elt F .bf16) → PR F α}
    (h : St D K c (BS D c b f g) ⊢ WP c (k g) Q) :
    St D K c (BS D c b f g) ⊢ WP c (Prog.op (.load xbfM (Rect.unit (s := S4096x256) ![0, 0] S4096x256.size inb).toLoadRect hl) k) Q := by
  unfold St BS at *
  iintro ⟨Ho, HI, Hw, Hk, Hx, Hb, H⟩
  iapply (wp_load_rect 𝒱₀ (c : Thread nD τ) none Set.univ (m := xbfM) (r := Rect.unit (s := S4096x256) ![0, 0] S4096x256.size inb) (S := Finset.univ) (Finset.subset_univ _)) $$ Hb
  iintro Hb
  rw [show View.read (Elt F) (xbfM.access (Rect.unit (s := S4096x256) ![0, 0] S4096x256.size inb)) g = g from Memref.read_access_unit_zero (Elt F) cc0_scratch0 (by decide) inb g]
  iapply h
  iframe Ho HI Hw Hk Hx Hb H

theorem xbf_disj (j j' : Dev nD) (h : j ≠ j') : Disjoint (xbfV j).view.set (xbfV j').view.set := by
  rw [Finset.disjoint_left]
  intro i hi hi'
  rw [mem_xbf] at hi hi'
  exact h (Fin.ext (hi.symm.trans hi'))

theorem xbf_cover : (Finset.univ.biUnion fun j : Dev nD => (xbfV j).view.set) = (Finset.univ : Finset S4096x256.Idx) := by
  ext i
  simp only [Finset.mem_biUnion, Finset.mem_univ, true_and, iff_true]
  have hi : (i 0).val < 4096 := (i 0).isLt
  exact ⟨⟨(i 0).val / 256, show (i 0).val / 256 < 16 by omega⟩, (mem_xbf _ i).mpr rfl⟩

theorem rcv_disj (j j' : Dev nD) (h : j ≠ j') : Disjoint (rcvV j).view.set (rcvV j').view.set := by
  rw [Finset.disjoint_left]
  intro i hi hi'
  rw [mem_rcv] at hi hi'
  exact h (Fin.ext (hi.symm.trans hi'))

theorem rcv_cover : (Finset.univ.biUnion fun j : Dev nD => (rcvV j).view.set) = (Finset.univ : Finset S16x256x256.Idx) := by
  ext i
  simp only [Finset.mem_biUnion, Finset.mem_univ, true_and, iff_true]
  have hi : (i 0).val < 16 := (i 0).isLt
  exact ⟨⟨(i 0).val, show (i 0).val < 16 by omega⟩, (mem_rcv _ i).mpr rfl⟩

theorem slot_disj (j j' : Fin 3) (h : j ≠ j') : Disjoint (slotV j).view.set (slotV j').view.set := by
  rw [Finset.disjoint_left]
  intro i hi hi'
  rw [mem_slot] at hi hi'
  exact h (Fin.ext (hi.symm.trans hi'))

theorem slot_cover : (Finset.univ.biUnion fun j : Fin 3 => (slotV j).view.set) = (Finset.univ : Finset S3x256x8192.Idx) := by
  ext i
  simp only [Finset.mem_biUnion, Finset.mem_univ, true_and, iff_true]
  have hi : (i 0).val < 3 := (i 0).isLt
  exact ⟨⟨(i 0).val, show (i 0).val < 3 by omega⟩, (mem_slot _ i).mpr rfl⟩

theorem w_disj (j j' : Dev nD) (h : j ≠ j') : Disjoint (wV j).view.set (wV j').view.set := by
  rw [Finset.disjoint_left]
  intro i hi hi'
  rw [mem_w] at hi hi'
  exact h (Fin.ext (hi.symm.trans hi'))

theorem w_cover : (Finset.univ.biUnion fun j : Dev nD => (wV j).view.set) = (Finset.univ : Finset S4096x8192.Idx) := by
  ext i
  simp only [Finset.mem_biUnion, Finset.mem_univ, true_and, iff_true]
  have hi : (i 0).val < 4096 := (i 0).isLt
  exact ⟨⟨(i 0).val / 256, show (i 0).val / 256 < 16 by omega⟩, (mem_w _ i).mpr rfl⟩

theorem xbf_split (f : S4096x256.Idx → Elt F .bf16) : xbfA c f = bigSep Finset.univ (fun j => xbfP c j f) :=
  Ring.pointsTo_blocks (ℓ := xbfM.view.loc (c : Thread nD τ)) (q := fullShare) (fun j : Dev nD => (xbfV j).view.set) xbf_disj xbf_cover f

theorem step_storexbf {b f g} {inb hx hm} (w : Vec F S4096x256 .bf16) (hw : w = D.xb c) {k : PUnit → PR F α}
    (h : St D K c (MS D c 1 1 1 0 b f) ⊢ WP c (k ⟨⟩) Q) :
    St D K c (BS D c b f g) ⊢ WP c (Prog.op (.store xbfM (Rect.unit (s := S4096x256) ![0, 0] S4096x256.size inb) w Finset.univ hx hm) k) Q := by
  subst hw
  unfold St BS MS Sst at *
  iintro ⟨Ho, HI, Hw, Hk, Hx, Hb, Hs, H⟩
  iapply (wp_store 𝒱₀ (c : Thread nD τ) none Set.univ (m := xbfM) (r := Rect.unit (s := S4096x256) ![0, 0] S4096x256.size inb) (S := Finset.univ) (Finset.subset_univ _)) $$ Hb
  iintro Hb
  rw [show View.write (Elt F) (xbfM.access (Rect.unit (s := S4096x256) ![0, 0] S4096x256.size inb)) g (D.xb c) Finset.univ = (D.xb c) from Memref.write_access_unit_zero_univ (Elt F) cc0_scratch0 (by decide) inb g (D.xb c)]
  ihave Hb' := (Entails.of_eq (xbf_split c (D.xb c))) $$ Hb
  ihave Hb := (Entails.of_eq (bigSep_ord c (fun j => xbfP c j (D.xb c)))) $$ Hb'
  ihave Hb' := (take (by decide : 0 < 16)) $$ Hb
  icases Hb' with ⟨Hb0, Hb⟩
  rw [ord_zero]
  iapply h
  isplitl [Ho]; · iexact Ho
  isplitl [HI]; · iexact HI
  isplitl [Hw]; · iexact Hw
  isplitl [Hk]; · iexact Hk
  isplitl [Hx]; · iexact Hx
  isplitl [Hb0]; · iexact Hb0
  isplitl [Hs Hb]
  · isplitl [Hs Hb]
    · rw [show (bigSep (Finset.Ico 1 16) fun k => iprop(xbfP c (ord c k) (D.xb c) ∗ barPay c (ord c k) ∗ sndTok c k)) = iprop(bigSep (Finset.Ico 1 16) (fun k => xbfP c (ord c k) (D.xb c)) ∗ bigSep (Finset.Ico 1 16) fun k => iprop(barPay c (ord c k) ∗ sndTok c k)) from bigSep_sep _ _ _]
      isplitl [Hb] <;> iassumption
    rw [Finset.Ico_self, bigSep_empty, bigSep_empty]
    isplitl [] <;> iempintro
  iexact H

/-! ### Sends -/

theorem step_send (n : ℕ) (h1n : 1 ≤ n) (hn : n < 16) {s r a b f} (hsn : s ≤ n)
    (q : Dev nD) (hq : q = ord c n) (offX : Fin 2 → Nat) (hX : offX = ![256 * (ord c n).val, 0]) {inbX}
    (offR : Fin 3 → Nat) (hR : offR = ![c.val, 0, 0]) {inbR}
    (offS : Fin 1 → Nat) (hS : offS = ![(ord c n).val]) {inbS} (offD : Fin 1 → Nat) (hD : offD = ![c.val]) {inbD} {h1 h2 h3}
    {k : PUnit → PR F α}
    (h : St D K c (MS D c (n + 1) s r a b f) ⊢ WP c (k ⟨⟩) Q) :
    St D K c (MS D c n s r a b f) ⊢ WP c (Prog.op (.enqueueDma (xbfM.slice (Rect.unit (s := S4096x256) offX S256x256.size inbX) (fun _ => rfl))
      (.remote (Dev.tc q) ((rcvM.slice (Rect.unit (s := S16x256x256) offR S1x256x256.size inbR) (fun _ => rfl)).squeeze S256x256 squeezes_S1x256x256_S256x256)
        (.dma ((cc0_scratch3.slice (Rect.unit (s := S16) offS S1.size inbS)).squeeze S_ squeezes_S1_S_).sem))
      (.dma ((cc0_scratch4.slice (Rect.unit (s := S16) offD S1.size inbD)).squeeze S_ squeezes_S1_S_).sem) h1 h2 h3) k) Q := by
  subst hq hX hR hS hD
  have hne := ord_ne c h1n hn
  unfold St MS Sst sndTok barPay at *
  iintro ⟨Ho, #HI, Hw, Hk, Hx, Hb, ⟨Hs, Hp, Hd⟩, Hr, Hout, ⟨%W, HO⟩⟩
  ihave Hs' := (take hn) $$ Hs
  icases Hs' with ⟨⟨Hxb, ⟨⟨%f0, Hsl⟩, Hrr⟩, Hat, Hrs, Hts, Htr⟩, Hs⟩
  ihave #HIs := (IV_snd D K c (ord c n)) $$ HI
  ihave #HIr := (IV_rcv D K (ord c n) c) $$ HI
  iapply (Rounds.wp_send_pointsTo 𝒱₀ ER (rd D) (c : Thread nD τ) none (c' := ((ord c n : Dev nD) : Thread nD τ)) (src := xbfV (ord c n)) (dst := rcvV c)
    (sS := .dma (sndS (ord c n))) (sem := .dma (rcvS c)) (r₁ := 0) (r₂ := 0) (d₁ := 0) (d₂ := 0) (κ₁ := K (sndC c (ord c n))) (κ₂ := K (rcvC (ord c n) c))
    (fs := D.xb c) (fd := f0) (by rw [duties_snd D c _ hne]; exact Finset.mem_singleton_self _) (by rw [duties_rcv D _ c (Ne.symm hne)]; exact Finset.mem_singleton_self _)
    () () N rfl (amount_snd D c (ord c n) 0 0) (amount_rcv D (ord c n) c 0 0) (O₀ := owR c n) (owR c (n + 1)) (owR_succ c hn) (W := W)
    (by rw [payload_snd]; exact .rfl) (by rw [payload_rcv]; exact send_pay D c (ord c n) f0)) $$ [Hxb Hsl Hrr Hrs Hts Htr HO]
  · isplitr; · iexact HIs
    isplitr; · iexact HIr
    isplitl [Hxb]; · iexact Hxb
    isplitl [Hsl]; · iexact Hsl
    isplitl [HO]; · iexact HO
    isplitl [Hts]; · iexact Hts
    isplitl [Hrs]; · iexact Hrs
    isplitl [Htr] <;> iassumption
  iintro ⟨Hc, HO⟩
  iapply h
  isplitl [Ho]; · iexact Ho
  isplitr; · iexact HI
  isplitl [Hw]; · iexact Hw
  isplitl [Hk]; · iexact Hk
  isplitl [Hx]; · iexact Hx
  isplitl [Hb]; · iexact Hb
  isplitl [Hs Hp Hd Hc Hat]
  · isplitl [Hs]; · iexact Hs
    isplitl [Hp Hc Hat]
    · iapply (put hsn)
      isplitl [Hc Hat]
      · isplitl [Hc] <;> iassumption
      iexact Hp
    iexact Hd
  isplitl [Hr]; · iexact Hr
  isplitl [Hout]; · iexact Hout
  iexists W; iexact HO

/-! ### Waits -/

theorem step_rwait (r : ℕ) (h1r : 1 ≤ r) (hr : r < 16) {s a b f} (offD : Fin 1 → Nat) (hD : offD = ![(ord c r).val]) {inbD}
    (offR : Fin 3 → Nat) (hR : offR = ![(ord c r).val, 0, 0]) {inbR} {src : Memref sig .tc .vmem S256x256 .bf16} {h1 h2} {k : PUnit → PR F α}
    (h : St D K c (MS D c 16 s (r + 1) a b f) ⊢ WP c (k ⟨⟩) Q) :
    St D K c (MS D c 16 s r a b f) ⊢ WP c (Prog.op (.waitDma2 ((cc0_scratch4.slice (Rect.unit (s := S16) offD S1.size inbD)).squeeze S_ squeezes_S1_S_).sem
      src ((rcvM.slice (Rect.unit (s := S16x256x256) offR S1x256x256.size inbR) (fun _ => rfl)).squeeze S256x256 squeezes_S1x256x256_S256x256) h1 h2) k) Q := by
  subst hD hR
  have hne := ord_ne c h1r hr
  unfold St MS Rst at *
  rw [owR_end] at *
  iintro ⟨Ho, #HI, Hw, Hk, Hx, Hb, Hs, ⟨Hp, Hd⟩, Hout, ⟨%W, HO⟩⟩
  ihave Hp' := (take hr) $$ Hp
  icases Hp' with ⟨⟨Hc, Hat⟩, Hp⟩
  ihave #HIr := (IV_rcv D K c (ord c r)) $$ HI
  iapply (Rounds.wp_wait_rest_token 𝒱₀ ER (rd D) (c : Thread nD τ) none (κ := K (rcvC c (ord c r)))
      (wpE_waitDma2_eq 𝒱₀ (c : Thread nD τ) none Set.univ (sem := rcvS (ord c r)) (dst := rcvV (ord c r))) (Set.mem_univ _) () (O := 0) (W := W) (R := 0) (m := 0) (T := ∅)
      ((Nat.zero_add N).trans (expect_rcv D c _ hne).symm)) $$ [Hc HO Hat]
  · isplitr; · iexact HIr
    isplitl [Hc]; · iexact Hc
    isplitl [HO]; · iexact HO
    isplitr; · rw [MayWait_zero]; iempintro
    iexact Hat
  rw [rest_rcv D c _ hne]
  iintro ⟨HO, Hat, -, Hpay⟩
  iapply h
  isplitl [Ho]; · iexact Ho
  isplitr; · iexact HI
  isplitl [Hw]; · iexact Hw
  isplitl [Hk]; · iexact Hk
  isplitl [Hx]; · iexact Hx
  isplitl [Hb]; · iexact Hb
  isplitl [Hs]; · iexact Hs
  isplitl [Hp Hd Hat Hpay]
  · isplitl [Hp]; · iexact Hp
    iapply (put h1r)
    isplitl [Hat Hpay]
    · unfold rcvPay
      isplitl [Hpay] <;> iassumption
    iexact Hd
  isplitl [Hout]; · iexact Hout
  iexists _; iexact HO

theorem step_swait (s : ℕ) (h1s : 1 ≤ s) (hs : s < 16) {r a b f} (offS : Fin 1 → Nat) (hS : offS = ![(ord c s).val]) {inbS}
    (offX : Fin 2 → Nat) (hX : offX = ![256 * (ord c s).val, 0]) {inbX} {src : Memref sig .tc .vmem S256x256 .bf16} {h1 h2} {k : PUnit → PR F α}
    (h : St D K c (MS D c 16 (s + 1) r a b f) ⊢ WP c (k ⟨⟩) Q) :
    St D K c (MS D c 16 s r a b f) ⊢ WP c (Prog.op (.waitDma2 ((cc0_scratch3.slice (Rect.unit (s := S16) offS S1.size inbS)).squeeze S_ squeezes_S1_S_).sem
      src (xbfM.slice (Rect.unit (s := S4096x256) offX S256x256.size inbX) (fun _ => rfl)) h1 h2) k) Q := by
  subst hS hX
  have hne := ord_ne c h1s hs
  unfold St MS Sst at *
  rw [owR_end] at *
  iintro ⟨Ho, #HI, Hw, Hk, Hx, Hb, ⟨Hs, Hp, Hd⟩, Hr, Hout, ⟨%W, HO⟩⟩
  ihave Hp' := (take hs) $$ Hp
  icases Hp' with ⟨⟨Hc, Hat⟩, Hp⟩
  ihave #HIr := (IV_snd D K c (ord c s)) $$ HI
  iapply (Rounds.wp_wait_rest_token 𝒱₀ ER (rd D) (c : Thread nD τ) none (κ := K (sndC c (ord c s)))
      (wpE_waitDma2_eq 𝒱₀ (c : Thread nD τ) none Set.univ (sem := sndS (ord c s)) (dst := xbfV (ord c s))) (Set.mem_univ _) () (O := 0) (W := W) (R := 0) (m := 0) (T := ∅)
      ((Nat.zero_add N).trans (expect_snd D c _ hne).symm)) $$ [Hc HO Hat]
  · isplitr; · iexact HIr
    isplitl [Hc]; · iexact Hc
    isplitl [HO]; · iexact HO
    isplitr; · rw [MayWait_zero]; iempintro
    iexact Hat
  rw [rest_snd D c _ hne]
  iintro ⟨HO, Hat, -, Hpay⟩
  iapply h
  isplitl [Ho]; · iexact Ho
  isplitr; · iexact HI
  isplitl [Hw]; · iexact Hw
  isplitl [Hk]; · iexact Hk
  isplitl [Hx]; · iexact Hx
  isplitl [Hb]; · iexact Hb
  isplitl [Hs Hp Hd Hat Hpay]
  · isplitl [Hs]; · iexact Hs
    isplitl [Hp]; · iexact Hp
    iapply (put h1s)
    isplitl [Hat Hpay]
    · unfold sndPay
      isplitl [Hpay] <;> iassumption
    iexact Hd
  isplitl [Hr]; · iexact Hr
  isplitl [Hout]; · iexact Hout
  iexists _; iexact HO

theorem step_wwait (a : ℕ) {b s r f} (hab : a < b) (hb : b ≤ 16) (hba : b ≤ a + 3) (s' : Fin 3) (hs : s' = sl a)
    {src : Memref sig .tc .hbm S256x8192 .f32} {h1 h2} {k : PUnit → PR F α}
    (h : St D K c (MS D c 16 s r (a + 1) b f) ⊢ WP c (k ⟨⟩) Q) :
    St D K c (MS D c 16 s r a b f) ⊢ WP c (Prog.op (.waitDma2 (wS s') src (slotV s') h1 h2) k) Q := by
  subst hs
  unfold St MS Wst at *
  rw [owR_end] at *
  iintro ⟨Ho, #HI, ⟨Hw1, Hp, Hd, Hw2, Hw3⟩, Hk, Hx, Hb, Hs, Hr, Hout, ⟨%W, HO⟩⟩
  ihave Hp' := (take hab) $$ Hp
  icases Hp' with ⟨⟨Hc, Hat⟩, Hp⟩
  ihave #HIr := (IV_w D K c (sl a)) $$ HI
  iapply (Rounds.wp_wait_rest_token 𝒱₀ ER (rd D) (c : Thread nD τ) none (κ := K (wC c (sl a)))
      (wpE_waitDma2_eq 𝒱₀ (c : Thread nD τ) none Set.univ (sem := wS (sl a)) (dst := slotV (sl a))) (Set.mem_univ _) () (O := 0) (W := W) (R := a / 3) (m := 0) (T := ∅)
      ((Nat.zero_add NW).trans (expect_w D c a (by omega)).symm)) $$ [Hc HO Hat]
  · isplitr; · iexact HIr
    isplitl [Hc]; · iexact Hc
    isplitl [HO]; · iexact HO
    isplitr; · rw [MayWait_zero]; iempintro
    iexact Hat
  rw [rest_w D c a (by omega)]
  unfold wPay
  iintro ⟨HO, Hat, Hrr, Hslot, Hw⟩
  iapply h
  isplitl [Ho]; · iexact Ho
  isplitr; · iexact HI
  isplitl [Hw1 Hp Hd Hw2 Hw3 Hat Hrr Hslot Hw]
  · isplitl [Hw1]; · iexact Hw1
    isplitl [Hp]; · iexact Hp
    isplitl [Hd Hat Hrr Hslot]
    · have hba' : b - 3 ≤ a := by omega
      iapply (put hba')
      isplitl [Hat Hrr Hslot]
      · isplitl [Hslot]; · iexact Hslot
        isplitl [Hat] <;> iassumption
      iexact Hd
    isplitl [Hw2]; · iexact Hw2
    iapply (put (Nat.zero_le a))
    isplitl [Hw] <;> iassumption
  isplitl [Hk]; · iexact Hk
  isplitl [Hx]; · iexact Hx
  isplitl [Hb]; · iexact Hb
  isplitl [Hs]; · iexact Hs
  isplitl [Hr]; · iexact Hr
  isplitl [Hout]; · iexact Hout
  iexists _; iexact HO

/-! ### Reads and writes of the steady state -/

theorem step_lda0 {n s r a b f} (off : Fin 2 → Nat) (ho : off = ![256 * c.val, 0]) {inb hl} {k : (_ → Elt F .bf16) → PR F α}
    (h : St D K c (MS D c n s r a b f) ⊢ WP c (k (aOwn D c)) Q) :
    St D K c (MS D c n s r a b f) ⊢ WP c (Prog.op (.load xbfM (Rect.unit (s := S4096x256) off S256x256.size inb).toLoadRect hl) k) Q := by
  subst ho
  unfold St MS at *
  iintro ⟨Ho, HI, Hw, Hk, Hx, Hb, H⟩
  iapply (wp_load_rect 𝒱₀ (c : Thread nD τ) none Set.univ (m := xbfM) (r := Rect.unit (s := S4096x256) ![256 * c.val, 0] S256x256.size inb) (S := (xbfV c).view.set) (Finset.Subset.refl _)) $$ Hb
  iintro Hb
  iapply h
  iframe Ho HI Hw Hk Hx Hb H

theorem step_lda (r : ℕ) (h1r : 1 ≤ r) {n s a b f} (off : Fin 3 → Nat) (ho : off = ![(ord c r).val, 0, 0]) {inb hl} {k : (_ → Elt F .bf16) → PR F α}
    (h : St D K c (MS D c n s (r + 1) a b f) ⊢ WP c (k (aRcv D c r)) Q) :
    St D K c (MS D c n s (r + 1) a b f) ⊢ WP c (Prog.op (.load rcvM (Rect.unit (s := S16x256x256) off S1x256x256.size inb).toLoadRect hl) k) Q := by
  subst ho
  unfold St MS Rst at *
  rw [bigSep_Ico_succ_top h1r] at *
  iintro ⟨Ho, HI, Hw, Hk, Hx, Hb, Hs, ⟨Hp, ⟨Hl, Hat⟩, Hd⟩, H⟩
  iapply (wp_load_rect 𝒱₀ (c : Thread nD τ) none Set.univ (m := rcvM) (r := Rect.unit (s := S16x256x256) ![(ord c r).val, 0, 0] S1x256x256.size inb) (S := (rcvV (ord c r)).view.set)
    (by rw [rcv_set]; exact (View.set_slice_whole cc0_scratch1 _).subset)) $$ Hl
  iintro Hl
  iapply h
  iframe Ho HI Hw Hk Hx Hb Hs Hp Hl Hat Hd H

theorem step_ldw (a : ℕ) {n s r b f} (hba : b ≤ a + 3) (s' : Fin 3) (hs : s' = sl a) (off : Fin 3 → Nat) (ho : off = ![s'.val, 0, 0]) {inb hl} {k : (_ → Elt F .f32) → PR F α}
    (h : St D K c (MS D c n s r (a + 1) b f) ⊢ WP c (k (wRd D c a)) Q) :
    St D K c (MS D c n s r (a + 1) b f) ⊢ WP c (Prog.op (.load ringM (Rect.unit (s := S3x256x8192) off S1x256x8192.size inb).toLoadRect hl) k) Q := by
  subst ho hs
  have hba' : b - 3 ≤ a := by omega
  unfold St MS Wst at *
  rw [bigSep_Ico_succ_top hba'] at *
  iintro ⟨Ho, HI, ⟨Hw1, Hp, ⟨⟨Hl, Hat⟩, Hd⟩, Hw2⟩, H⟩
  iapply (wp_load_rect 𝒱₀ (c : Thread nD τ) none Set.univ (m := ringM) (r := Rect.unit (s := S3x256x8192) ![(sl a).val, 0, 0] S1x256x8192.size inb) (S := (slotV (sl a)).view.set)
    (by rw [slot_set]; exact (View.set_slice_whole cc0_scratch2 _).subset)) $$ Hl
  iintro Hl
  iapply h
  iframe Ho HI Hw1 Hp Hl Hat Hd Hw2 H

theorem step_ldout {n s r a b f} {inb hl} {k : (_ → Elt F .f32) → PR F α}
    (h : St D K c (MS D c n s r a b f) ⊢ WP c (k f) Q) :
    St D K c (MS D c n s r a b f) ⊢ WP c (Prog.op (.load outM (Rect.unit (s := S256x8192) ![0, 0] S256x8192.size inb).toLoadRect hl) k) Q := by
  unfold St MS at *
  iintro ⟨Ho, HI, Hw, Hk, Hx, Hb, Hs, Hr, Hout, HO⟩
  iapply (wp_load_rect 𝒱₀ (c : Thread nD τ) none Set.univ (m := outM) (r := Rect.unit (s := S256x8192) ![0, 0] S256x8192.size inb) (S := Finset.univ) (Finset.subset_univ _)) $$ Hout
  iintro Hout
  rw [show View.read (Elt F) (outM.access (Rect.unit (s := S256x8192) ![0, 0] S256x8192.size inb)) f = f from Memref.read_access_unit_zero (Elt F) cc0_stg2_0 (by decide) inb f]
  iapply h
  iframe Ho HI Hw Hk Hx Hb Hs Hr Hout HO

theorem step_stout {n s r a b f} (g : Vec F S256x8192 .f32) (w : Vec F S256x8192 .f32) (hw : w = g) {inb hx hm} {k : PUnit → PR F α}
    (h : St D K c (MS D c n s r a b g) ⊢ WP c (k ⟨⟩) Q) :
    St D K c (MS D c n s r a b f) ⊢ WP c (Prog.op (.store outM (Rect.unit (s := S256x8192) ![0, 0] S256x8192.size inb) w Finset.univ hx hm) k) Q := by
  subst hw
  unfold St MS at *
  iintro ⟨Ho, HI, Hw, Hk, Hx, Hb, Hs, Hr, Hout, HO⟩
  iapply (wp_store 𝒱₀ (c : Thread nD τ) none Set.univ (m := outM) (r := Rect.unit (s := S256x8192) ![0, 0] S256x8192.size inb) (S := Finset.univ) (Finset.subset_univ _)) $$ Hout
  iintro Hout
  rw [show View.write (Elt F) (outM.access (Rect.unit (s := S256x8192) ![0, 0] S256x8192.size inb)) f w Finset.univ = w from Memref.write_access_unit_zero_univ (Elt F) cc0_stg2_0 (by decide) inb f w]
  iapply h
  iframe Ho HI Hw Hk Hx Hb Hs Hr Hout HO

end Cert.KernelIdeal.AG

end
-- ==== Proof.KernelIdeal.Body.lean ====
/-
The gather's body, part by part: each part of the body takes the protocol from one state to the next.
-/
module

public import proofs.«01_k».proof.Proof.KernelIdeal.Steps

@[expose] public section

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Data F) (K : GSem nD τ sig → ℕ) (c : Dev nD)

theorem offMe : ∀ j : Dev nD, k0_off5 j = ![j.val] := by decide
theorem offMeSlab : ∀ j : Dev nD, k0_off6 j = ![j.val, 0, 0] := by decide
/-- A wait for a send needs of its word what the send needs beside the target. -/
theorem chkSWait (j : Dev nD) : k0_chk61 (Dev.word j) := by
  refine ⟨?_, ?_, ?_⟩ <;> revert j <;> decide

/-! ### Three operations in a row -/

section
variable {α : Type} {Q : α → sProp (MT nD τ sig Unit (Elt F) ℕ UU ℕ)}

/-- The wait for the block of the device at place `r`, then its read. -/
theorem step_recv (r : ℕ) (h1r : 1 ≤ r) (hr : r < 16) {s a b f} (offD : Fin 1 → Nat) (hD : offD = ![(ord c r).val]) {inbD}
    (offR : Fin 3 → Nat) (hR : offR = ![(ord c r).val, 0, 0]) {inbR} {src : Memref sig .tc .vmem S256x256 .bf16} {h1 h2}
    (off : Fin 3 → Nat) (ho : off = ![(ord c r).val, 0, 0]) {inb hl} {k : (_ → Elt F .bf16) → PR F α}
    (h : St D K c (MS D c 16 s (r + 1) a b f) ⊢ WP c (k (aRcv D c r)) Q) :
    St D K c (MS D c 16 s r a b f) ⊢ WP c (Prog.op (.waitDma2 ((cc0_scratch4.slice (Rect.unit (s := S16) offD S1.size inbD)).squeeze S_ squeezes_S1_S_).sem
      src ((rcvM.slice (Rect.unit (s := S16x256x256) offR S1x256x256.size inbR) (fun _ => rfl)).squeeze S256x256 squeezes_S1x256x256_S256x256) h1 h2)
      fun _ => Prog.op (.load rcvM (Rect.unit (s := S16x256x256) off S1x256x256.size inb).toLoadRect hl) k) Q :=
  step_rwait D K c r h1r hr offD hD offR hR (step_lda D K c r h1r off ho h)

/-- The wait for the weight rows of load `a`, their read, the result read, and the result stored with the new block added. -/
theorem step_mac (a : ℕ) {b s r f} (hab : a < b) (hb : b ≤ 16) (hba : b ≤ a + 3) (s' : Fin 3) (hs : s' = sl a)
    {src : Memref sig .tc .hbm S256x8192 .f32} {h1 h2}
    (off : Fin 3 → Nat) (ho : off = ![s'.val, 0, 0]) {inb hl} (pay : Vec F S1x256x8192 .f32 → Vec F S256x8192 .f32 → Vec F S256x8192 .f32)
    (g : Vec F S256x8192 .f32) (hg : pay (wRd D c a) f = g) {inb1 hl1 inb2 hl2 inb3 hx hm} {k : PUnit → PR F α}
    (h : St D K c (MS D c 16 s r (a + 1) b g) ⊢ WP c (k ⟨⟩) Q) :
    St D K c (MS D c 16 s r a b f) ⊢ WP c (Prog.op (.waitDma2 (wS s') src (slotV s') h1 h2)
      fun _ => Prog.op (.load ringM (Rect.unit (s := S3x256x8192) off S1x256x8192.size inb).toLoadRect hl)
      fun w => Prog.op (.load outM (Rect.unit (s := S256x8192) ![0, 0] S256x8192.size inb1).toLoadRect hl1)
      fun o => Prog.op (.load outM (Rect.unit (s := S256x8192) ![0, 0] S256x8192.size inb2).toLoadRect hl2)
      fun _ => Prog.op (.store outM (Rect.unit (s := S256x8192) ![0, 0] S256x8192.size inb3) (pay w o) Finset.univ hx hm) k) Q :=
  step_wwait D K c a hab hb hba s' hs (step_ldw D K c a hba s' hs off ho
    (step_ldout D K c (step_ldout D K c (step_stout D K c g _ hg h))))

end

/-! ### The parts -/

/-- The first seven signals of the entry barrier. -/
theorem part1 {f g} {Q : (Σ' (d0 : Dev nD) (v2 : BitVec 32) (v3 : Sems sig S_), BitVec 32) → sProp (MT nD τ sig Unit (Elt F) ℕ UU ℕ)}
    (h : St D K c (AS D c 7 f g) ⊢ Q ⟨c, Scalar.remsi (Scalar.divsi (Dev.word c) 1#32) 16#32, SemArray.scalar (sig.barrier 0 rfl), Scalar.muli 7#32 1#32⟩) :
    St D K c (AS D c 0 f g) ⊢ WP c (k0_part1 ordM (Memref.isWhole_whole _) xM (Memref.isWhole_whole _) wM (Memref.isWhole_whole _) outM (Memref.isWhole_whole _)
      xbfM (Memref.isWhole_whole _) rcvM (Memref.isWhole_whole _) ringM (Memref.isWhole_whole _) cc0_scratch3 cc0_scratch4 cc0_scratch5) Q := by
  simp only [k0_part1_eq_skeleton]; unfold k0_part1_skel
  simp only [semSignalWord, semWaitWord, smemLoad, smemLoadElt, Prog.lift, Prog.bind_op, Prog.bind_ret, Prog.pure_eq_ret, Prog.bind_assoc, WP, wp_deviceId]
  refine step_sig D K c 0 (by decide) _ rfl ?_
  refine step_sig D K c 1 (by decide) _ rfl ?_
  refine step_sig D K c 2 (by decide) _ rfl ?_
  refine step_sig D K c 3 (by decide) _ rfl ?_
  refine step_sig D K c 4 (by decide) _ rfl ?_
  refine step_sig D K c 5 (by decide) _ rfl ?_
  refine step_sig D K c 6 (by decide) _ rfl ?_
  exact step_ret c h

/-- The other nine signals. -/
theorem part2 {f g} {Q : (PUnit) → sProp (MT nD τ sig Unit (Elt F) ℕ UU ℕ)}
    (h : St D K c (AS D c 16 f g) ⊢ Q ⟨⟩) :
    St D K c (AS D c 7 f g) ⊢ WP c (k0_part2 ordM (Memref.isWhole_whole _) xM (Memref.isWhole_whole _) wM (Memref.isWhole_whole _) outM (Memref.isWhole_whole _)
      xbfM (Memref.isWhole_whole _) rcvM (Memref.isWhole_whole _) ringM (Memref.isWhole_whole _) cc0_scratch3 cc0_scratch4 cc0_scratch5 (SemArray.scalar (sig.barrier 0 rfl)) (Scalar.muli 7#32 1#32)) Q := by
  simp only [k0_part2_eq_skeleton]; unfold k0_part2_skel
  simp only [semSignalWord, semWaitWord, smemLoad, smemLoadElt, Prog.lift, Prog.bind_op, Prog.bind_ret, Prog.pure_eq_ret, Prog.bind_assoc, WP, wp_deviceId]
  refine step_sig D K c 7 (by decide) _ rfl ?_
  refine step_sig D K c 8 (by decide) _ rfl ?_
  refine step_sig D K c 9 (by decide) _ rfl ?_
  refine step_sig D K c 10 (by decide) _ rfl ?_
  refine step_sig D K c 11 (by decide) _ rfl ?_
  refine step_sig D K c 12 (by decide) _ rfl ?_
  refine step_sig D K c 13 (by decide) _ rfl ?_
  refine step_sig D K c 14 (by decide) _ rfl ?_
  refine step_sig D K c 15 (by decide) _ rfl ?_
  exact step_ret c h

/-- The barrier's wait, the first three loads of the weight, the read of the operand. -/
theorem part3 {f g} {Q : (Σ' (v36 : Elt F .i32) (k0_hw1 : k0_chk1 v36) (v43 : Elt F .i32) (k0_hw2 : k0_chk2 v43) (v50 : Elt F .i32) (k0_hw3 : k0_chk3 v50), FVec F S4096x256 .bf16) → sProp (MT nD τ sig Unit (Elt F) ℕ UU ℕ)}
    (h : St D K c (BS D c 3 f g) ⊢ Q ⟨Dev.word (ord c 0), chkW _, Dev.word (ord c 1), chkW _, Dev.word (ord c 2), chkW _, D.xb c⟩) :
    St D K c (AS D c 16 f g) ⊢ WP c (k0_part3 ordM (Memref.isWhole_whole _) xM (Memref.isWhole_whole _) wM (Memref.isWhole_whole _) outM (Memref.isWhole_whole _)
      xbfM (Memref.isWhole_whole _) rcvM (Memref.isWhole_whole _) ringM (Memref.isWhole_whole _) cc0_scratch3 cc0_scratch4 cc0_scratch5 (SemArray.scalar (sig.barrier 0 rfl))) Q := by
  simp only [k0_part3_eq_skeleton]; unfold k0_part3_skel
  simp only [semSignalWord, semWaitWord, smemLoad, smemLoadElt, Prog.lift, Prog.bind_op, Prog.bind_ret, Prog.pure_eq_ret, Prog.bind_assoc, WP, wp_deviceId]
  refine step_bar D K c ?_
  refine step_word D K c 0 _ rfl ?_
  refine step_assume c (chkW _) ?_
  refine step_wloadB D K c 0 (by decide) _ (offRow _) _ rfl ?_
  refine step_word D K c 1 _ rfl ?_
  refine step_assume c (chkW _) ?_
  refine step_wloadB D K c 1 (by decide) _ (offRow _) _ rfl ?_
  refine step_word D K c 2 _ rfl ?_
  refine step_assume c (chkW _) ?_
  refine step_wloadB D K c 2 (by decide) _ (offRow _) _ rfl ?_
  refine step_loadx D K c ?_
  refine step_loadxbf D K c ?_
  exact step_ret c h

/-- The rounded operand stored; the sends to the first two places. -/
theorem part4 {f g} {Q : (Σ' (v85 : Elt F .i32), k0_chk6 v85) → sProp (MT nD τ sig Unit (Elt F) ℕ UU ℕ)}
    (h : St D K c (MS D c 3 1 1 0 3 f) ⊢ Q ⟨Dev.word (ord c 3), chkSend _⟩) :
    St D K c (BS D c 3 f g) ⊢ WP c (k0_part4 ordM (Memref.isWhole_whole _) xM (Memref.isWhole_whole _) wM (Memref.isWhole_whole _) outM (Memref.isWhole_whole _)
      xbfM (Memref.isWhole_whole _) rcvM (Memref.isWhole_whole _) ringM (Memref.isWhole_whole _) cc0_scratch3 cc0_scratch4 cc0_scratch5 c (D.xb c)) Q := by
  simp only [k0_part4_eq_skeleton]; unfold k0_part4_skel
  simp only [semSignalWord, semWaitWord, smemLoad, smemLoadElt, Prog.lift, Prog.bind_op, Prog.bind_ret, Prog.pure_eq_ret, Prog.bind_assoc, WP, wp_deviceId]
  refine step_storexbf D K c _ rfl ?_
  refine step_word D K c 1 _ rfl ?_
  refine step_assume c (chkSend _) ?_
  refine step_send D K c 1 (by decide) (by decide) (by decide) _ (Fin.ext (dvWord _)) _ (offXbf _) _ (offMeSlab _) _ (offSem _) _ (offMe _) ?_
  refine step_word D K c 2 _ rfl ?_
  refine step_assume c (chkSend _) ?_
  refine step_send D K c 2 (by decide) (by decide) (by decide) _ (Fin.ext (dvWord _)) _ (offXbf _) _ (offMeSlab _) _ (offSem _) _ (offMe _) ?_
  refine step_word D K c 3 _ rfl ?_
  refine step_assume c (chkSend _) ?_
  exact step_ret c h

/-- The sends to places 3, 4, 5. -/
theorem part5 {f} {Q : (Σ' (v118 : Elt F .i32), k0_chk9 v118) → sProp (MT nD τ sig Unit (Elt F) ℕ UU ℕ)}
    (h : St D K c (MS D c 6 1 1 0 3 f) ⊢ Q ⟨Dev.word (ord c 6), chkSend _⟩) :
    St D K c (MS D c 3 1 1 0 3 f) ⊢ WP c (k0_part5 ordM (Memref.isWhole_whole _) xM (Memref.isWhole_whole _) wM (Memref.isWhole_whole _) outM (Memref.isWhole_whole _)
      xbfM (Memref.isWhole_whole _) rcvM (Memref.isWhole_whole _) ringM (Memref.isWhole_whole _) cc0_scratch3 cc0_scratch4 cc0_scratch5 c (Dev.word (ord c 3)) (chkSend _)) Q := by
  simp only [k0_part5_eq_skeleton]; unfold k0_part5_skel
  simp only [semSignalWord, semWaitWord, smemLoad, smemLoadElt, Prog.lift, Prog.bind_op, Prog.bind_ret, Prog.pure_eq_ret, Prog.bind_assoc, WP, wp_deviceId]
  refine step_send D K c 3 (by decide) (by decide) (by decide) _ (Fin.ext (dvWord _)) _ (offXbf _) _ (offMeSlab _) _ (offSem _) _ (offMe _) ?_
  refine step_word D K c 4 _ rfl ?_
  refine step_assume c (chkSend _) ?_
  refine step_send D K c 4 (by decide) (by decide) (by decide) _ (Fin.ext (dvWord _)) _ (offXbf _) _ (offMeSlab _) _ (offSem _) _ (offMe _) ?_
  refine step_word D K c 5 _ rfl ?_
  refine step_assume c (chkSend _) ?_
  refine step_send D K c 5 (by decide) (by decide) (by decide) _ (Fin.ext (dvWord _)) _ (offXbf _) _ (offMeSlab _) _ (offSem _) _ (offMe _) ?_
  refine step_word D K c 6 _ rfl ?_
  refine step_assume c (chkSend _) ?_
  exact step_ret c h

/-- The sends to places 6, 7, 8. -/
theorem part6 {f} {Q : (Σ' (v151 : Elt F .i32), k0_chk12 v151) → sProp (MT nD τ sig Unit (Elt F) ℕ UU ℕ)}
    (h : St D K c (MS D c 9 1 1 0 3 f) ⊢ Q ⟨Dev.word (ord c 9), chkSend _⟩) :
    St D K c (MS D c 6 1 1 0 3 f) ⊢ WP c (k0_part6 ordM (Memref.isWhole_whole _) xM (Memref.isWhole_whole _) wM (Memref.isWhole_whole _) outM (Memref.isWhole_whole _)
      xbfM (Memref.isWhole_whole _) rcvM (Memref.isWhole_whole _) ringM (Memref.isWhole_whole _) cc0_scratch3 cc0_scratch4 cc0_scratch5 c (Dev.word (ord c 6)) (chkSend _)) Q := by
  simp only [k0_part6_eq_skeleton]; unfold k0_part6_skel
  simp only [semSignalWord, semWaitWord, smemLoad, smemLoadElt, Prog.lift, Prog.bind_op, Prog.bind_ret, Prog.pure_eq_ret, Prog.bind_assoc, WP, wp_deviceId]
  refine step_send D K c 6 (by decide) (by decide) (by decide) _ (Fin.ext (dvWord _)) _ (offXbf _) _ (offMeSlab _) _ (offSem _) _ (offMe _) ?_
  refine step_word D K c 7 _ rfl ?_
  refine step_assume c (chkSend _) ?_
  refine step_send D K c 7 (by decide) (by decide) (by decide) _ (Fin.ext (dvWord _)) _ (offXbf _) _ (offMeSlab _) _ (offSem _) _ (offMe _) ?_
  refine step_word D K c 8 _ rfl ?_
  refine step_assume c (chkSend _) ?_
  refine step_send D K c 8 (by decide) (by decide) (by decide) _ (Fin.ext (dvWord _)) _ (offXbf _) _ (offMeSlab _) _ (offSem _) _ (offMe _) ?_
  refine step_word D K c 9 _ rfl ?_
  refine step_assume c (chkSend _) ?_
  exact step_ret c h

/-- The sends to places 9, 10, 11. -/
theorem part7 {f} {Q : (Σ' (v184 : Elt F .i32), k0_chk15 v184) → sProp (MT nD τ sig Unit (Elt F) ℕ UU ℕ)}
    (h : St D K c (MS D c 12 1 1 0 3 f) ⊢ Q ⟨Dev.word (ord c 12), chkSend _⟩) :
    St D K c (MS D c 9 1 1 0 3 f) ⊢ WP c (k0_part7 ordM (Memref.isWhole_whole _) xM (Memref.isWhole_whole _) wM (Memref.isWhole_whole _) outM (Memref.isWhole_whole _)
      xbfM (Memref.isWhole_whole _) rcvM (Memref.isWhole_whole _) ringM (Memref.isWhole_whole _) cc0_scratch3 cc0_scratch4 cc0_scratch5 c (Dev.word (ord c 9)) (chkSend _)) Q := by
  simp only [k0_part7_eq_skeleton]; unfold k0_part7_skel
  simp only [semSignalWord, semWaitWord, smemLoad, smemLoadElt, Prog.lift, Prog.bind_op, Prog.bind_ret, Prog.pure_eq_ret, Prog.bind_assoc, WP, wp_deviceId]
  refine step_send D K c 9 (by decide) (by decide) (by decide) _ (Fin.ext (dvWord _)) _ (offXbf _) _ (offMeSlab _) _ (offSem _) _ (offMe _) ?_
  refine step_word D K c 10 _ rfl ?_
  refine step_assume c (chkSend _) ?_
  refine step_send D K c 10 (by decide) (by decide) (by decide) _ (Fin.ext (dvWord _)) _ (offXbf _) _ (offMeSlab _) _ (offSem _) _ (offMe _) ?_
  refine step_word D K c 11 _ rfl ?_
  refine step_assume c (chkSend _) ?_
  refine step_send D K c 11 (by decide) (by decide) (by decide) _ (Fin.ext (dvWord _)) _ (offXbf _) _ (offMeSlab _) _ (offSem _) _ (offMe _) ?_
  refine step_word D K c 12 _ rfl ?_
  refine step_assume c (chkSend _) ?_
  exact step_ret c h

/-- The sends to places 12, 13, 14. -/
theorem part8 {f} {Q : (Σ' (v217 : Elt F .i32), k0_chk18 v217) → sProp (MT nD τ sig Unit (Elt F) ℕ UU ℕ)}
    (h : St D K c (MS D c 15 1 1 0 3 f) ⊢ Q ⟨Dev.word (ord c 15), chkSend _⟩) :
    St D K c (MS D c 12 1 1 0 3 f) ⊢ WP c (k0_part8 ordM (Memref.isWhole_whole _) xM (Memref.isWhole_whole _) wM (Memref.isWhole_whole _) outM (Memref.isWhole_whole _)
      xbfM (Memref.isWhole_whole _) rcvM (Memref.isWhole_whole _) ringM (Memref.isWhole_whole _) cc0_scratch3 cc0_scratch4 cc0_scratch5 c (Dev.word (ord c 12)) (chkSend _)) Q := by
  simp only [k0_part8_eq_skeleton]; unfold k0_part8_skel
  simp only [semSignalWord, semWaitWord, smemLoad, smemLoadElt, Prog.lift, Prog.bind_op, Prog.bind_ret, Prog.pure_eq_ret, Prog.bind_assoc, WP, wp_deviceId]
  refine step_send D K c 12 (by decide) (by decide) (by decide) _ (Fin.ext (dvWord _)) _ (offXbf _) _ (offMeSlab _) _ (offSem _) _ (offMe _) ?_
  refine step_word D K c 13 _ rfl ?_
  refine step_assume c (chkSend _) ?_
  refine step_send D K c 13 (by decide) (by decide) (by decide) _ (Fin.ext (dvWord _)) _ (offXbf _) _ (offMeSlab _) _ (offSem _) _ (offMe _) ?_
  refine step_word D K c 14 _ rfl ?_
  refine step_assume c (chkSend _) ?_
  refine step_send D K c 14 (by decide) (by decide) (by decide) _ (Fin.ext (dvWord _)) _ (offXbf _) _ (offMeSlab _) _ (offSem _) _ (offMe _) ?_
  refine step_word D K c 15 _ rfl ?_
  refine step_assume c (chkSend _) ?_
  exact step_ret c h

/-- The last send; the device's own block multiplied; the next load of the weight. -/
theorem part9 {f} {Q : (Σ' (v241 : Elt F .i32) (k0_hw19 : k0_chk19 v241) (v248 : Elt F .i32), k0_chk20 v248) → sProp (MT nD τ sig Unit (Elt F) ℕ UU ℕ)}
    (h : St D K c (MS D c 16 1 1 1 4 (acc D c 0)) ⊢ Q ⟨Dev.word (ord c 3), chkW _, Dev.word (ord c 1), chkRecv _⟩) :
    St D K c (MS D c 15 1 1 0 3 f) ⊢ WP c (k0_part9 ordM (Memref.isWhole_whole _) xM (Memref.isWhole_whole _) wM (Memref.isWhole_whole _) outM (Memref.isWhole_whole _)
      xbfM (Memref.isWhole_whole _) rcvM (Memref.isWhole_whole _) ringM (Memref.isWhole_whole _) cc0_scratch3 cc0_scratch4 cc0_scratch5 c (Scalar.remsi (Scalar.divsi (Dev.word c) 1#32) 16#32) (Dev.word (ord c 0)) (chkW _) (Dev.word (ord c 15)) (chkSend _)) Q := by
  simp only [k0_part9_eq_skeleton]; unfold k0_part9_skel
  simp only [semSignalWord, semWaitWord, smemLoad, smemLoadElt, Prog.lift, Prog.bind_op, Prog.bind_ret, Prog.pure_eq_ret, Prog.bind_assoc, WP, wp_deviceId]
  refine step_send D K c 15 (by decide) (by decide) (by decide) _ (Fin.ext (dvWord _)) _ (offXbf _) _ (offMeSlab _) _ (offSem _) _ (offMe _) ?_
  refine step_lda0 D K c _ (offOwn _) ?_
  refine step_wwait D K c 0 (by decide) (by decide) (by decide) _ rfl ?_
  refine step_ldw D K c 0 (by decide) _ rfl _ rfl ?_
  refine step_ldout D K c ?_
  refine step_stout D K c (acc D c 0) _ rfl ?_
  refine step_word D K c 3 _ rfl ?_
  refine step_assume c (chkW _) ?_
  refine step_wload D K c 3 (by decide) (by decide) _ (offRow _) _ rfl ?_
  refine step_word D K c 1 _ rfl ?_
  refine step_assume c (chkRecv _) ?_
  exact step_ret c h

/-- Place 1. -/
theorem part10  {Q : (Σ' (v272 : Elt F .i32) (k0_hw21 : k0_chk21 v272) (v279 : Elt F .i32), k0_chk22 v279) → sProp (MT nD τ sig Unit (Elt F) ℕ UU ℕ)}
    (h : St D K c (MS D c 16 1 2 2 5 (acc D c 1)) ⊢ Q ⟨Dev.word (ord c 4), chkW _, Dev.word (ord c 2), chkRecv _⟩) :
    St D K c (MS D c 16 1 1 1 4 (acc D c 0)) ⊢ WP c (k0_part10 ordM (Memref.isWhole_whole _) xM (Memref.isWhole_whole _) wM (Memref.isWhole_whole _) outM (Memref.isWhole_whole _)
      xbfM (Memref.isWhole_whole _) rcvM (Memref.isWhole_whole _) ringM (Memref.isWhole_whole _) cc0_scratch3 cc0_scratch4 cc0_scratch5 (Scalar.remsi (Scalar.divsi (Dev.word c) 1#32) 16#32) (Dev.word (ord c 1)) (chkW _) (Dev.word (ord c 1)) (chkRecv _)) Q := by
  simp only [k0_part10_eq_skeleton]; unfold k0_part10_skel
  simp only [semSignalWord, semWaitWord, smemLoad, smemLoadElt, Prog.lift, Prog.bind_op, Prog.bind_ret, Prog.pure_eq_ret, Prog.bind_assoc, WP, wp_deviceId]
  refine step_recv D K c 1 (by decide) (by decide) _ (offSem _) _ (offSlab _) _ (offSlabI _) ?_
  refine step_mac D K c 1 (by decide) (by decide) (by decide) _ rfl _ rfl _ (acc D c 1) rfl ?_
  refine step_word D K c 4 _ rfl ?_
  refine step_assume c (chkW _) ?_
  refine step_wload D K c 4 (by decide) (by decide) _ (offRow _) _ rfl ?_
  refine step_word D K c 2 _ rfl ?_
  refine step_assume c (chkRecv _) ?_
  exact step_ret c h

/-- Place 2. -/
theorem part11  {Q : (Σ' (v303 : Elt F .i32), k0_chk23 v303) → sProp (MT nD τ sig Unit (Elt F) ℕ UU ℕ)}
    (h : St D K c (MS D c 16 1 3 3 6 (acc D c 2)) ⊢ Q ⟨Dev.word (ord c 5), chkW _⟩) :
    St D K c (MS D c 16 1 2 2 5 (acc D c 1)) ⊢ WP c (k0_part11 ordM (Memref.isWhole_whole _) xM (Memref.isWhole_whole _) wM (Memref.isWhole_whole _) outM (Memref.isWhole_whole _)
      xbfM (Memref.isWhole_whole _) rcvM (Memref.isWhole_whole _) ringM (Memref.isWhole_whole _) cc0_scratch3 cc0_scratch4 cc0_scratch5 (Dev.word (ord c 2)) (chkW _) (Dev.word (ord c 2)) (chkRecv _)) Q := by
  simp only [k0_part11_eq_skeleton]; unfold k0_part11_skel
  simp only [semSignalWord, semWaitWord, smemLoad, smemLoadElt, Prog.lift, Prog.bind_op, Prog.bind_ret, Prog.pure_eq_ret, Prog.bind_assoc, WP, wp_deviceId]
  refine step_recv D K c 2 (by decide) (by decide) _ (offSem _) _ (offSlab _) _ (offSlabI _) ?_
  refine step_mac D K c 2 (by decide) (by decide) (by decide) _ rfl _ rfl _ (acc D c 2) rfl ?_
  refine step_word D K c 5 _ rfl ?_
  refine step_assume c (chkW _) ?_
  refine step_wload D K c 5 (by decide) (by decide) _ (offRow _) _ rfl ?_
  exact step_ret c h

/-- Place 3. -/
theorem part12  {Q : (Σ' (v334 : Elt F .i32), k0_chk25 v334) → sProp (MT nD τ sig Unit (Elt F) ℕ UU ℕ)}
    (h : St D K c (MS D c 16 1 4 4 6 (acc D c 3)) ⊢ Q ⟨Dev.word (ord c 6), chkW _⟩) :
    St D K c (MS D c 16 1 3 3 6 (acc D c 2)) ⊢ WP c (k0_part12 ordM (Memref.isWhole_whole _) xM (Memref.isWhole_whole _) wM (Memref.isWhole_whole _) outM (Memref.isWhole_whole _)
      xbfM (Memref.isWhole_whole _) rcvM (Memref.isWhole_whole _) ringM (Memref.isWhole_whole _) cc0_scratch3 cc0_scratch4 cc0_scratch5 (Scalar.remsi (Scalar.divsi (Dev.word c) 1#32) 16#32) (Dev.word (ord c 3)) (chkW _)) Q := by
  simp only [k0_part12_eq_skeleton]; unfold k0_part12_skel
  simp only [semSignalWord, semWaitWord, smemLoad, smemLoadElt, Prog.lift, Prog.bind_op, Prog.bind_ret, Prog.pure_eq_ret, Prog.bind_assoc, WP, wp_deviceId]
  refine step_word D K c 3 _ rfl ?_
  refine step_assume c (chkRecv _) ?_
  refine step_recv D K c 3 (by decide) (by decide) _ (offSem _) _ (offSlab _) _ (offSlabI _) ?_
  refine step_mac D K c 3 (by decide) (by decide) (by decide) _ rfl _ rfl _ (acc D c 3) rfl ?_
  refine step_word D K c 6 _ rfl ?_
  refine step_assume c (chkW _) ?_
  exact step_ret c h

/-- Place 4. -/
theorem part13  {Q : (Σ' (v365 : Elt F .i32), k0_chk27 v365) → sProp (MT nD τ sig Unit (Elt F) ℕ UU ℕ)}
    (h : St D K c (MS D c 16 1 5 5 7 (acc D c 4)) ⊢ Q ⟨Dev.word (ord c 7), chkW _⟩) :
    St D K c (MS D c 16 1 4 4 6 (acc D c 3)) ⊢ WP c (k0_part13 ordM (Memref.isWhole_whole _) xM (Memref.isWhole_whole _) wM (Memref.isWhole_whole _) outM (Memref.isWhole_whole _)
      xbfM (Memref.isWhole_whole _) rcvM (Memref.isWhole_whole _) ringM (Memref.isWhole_whole _) cc0_scratch3 cc0_scratch4 cc0_scratch5 (Scalar.remsi (Scalar.divsi (Dev.word c) 1#32) 16#32) (Dev.word (ord c 4)) (chkW _) (Dev.word (ord c 6)) (chkW _)) Q := by
  simp only [k0_part13_eq_skeleton]; unfold k0_part13_skel
  simp only [semSignalWord, semWaitWord, smemLoad, smemLoadElt, Prog.lift, Prog.bind_op, Prog.bind_ret, Prog.pure_eq_ret, Prog.bind_assoc, WP, wp_deviceId]
  refine step_wload D K c 6 (by decide) (by decide) _ (offRow _) _ rfl ?_
  refine step_word D K c 4 _ rfl ?_
  refine step_assume c (chkRecv _) ?_
  refine step_recv D K c 4 (by decide) (by decide) _ (offSem _) _ (offSlab _) _ (offSlabI _) ?_
  refine step_mac D K c 4 (by decide) (by decide) (by decide) _ rfl _ rfl _ (acc D c 4) rfl ?_
  refine step_word D K c 7 _ rfl ?_
  refine step_assume c (chkW _) ?_
  exact step_ret c h

/-- Place 5, up to its store. -/
theorem part14  {Q : (FVec F S256x8192 .f32) → sProp (MT nD τ sig Unit (Elt F) ℕ UU ℕ)}
    (h : St D K c (MS D c 16 1 6 6 8 (acc D c 4)) ⊢ Q (acc D c 5)) :
    St D K c (MS D c 16 1 5 5 7 (acc D c 4)) ⊢ WP c (k0_part14 ordM (Memref.isWhole_whole _) xM (Memref.isWhole_whole _) wM (Memref.isWhole_whole _) outM (Memref.isWhole_whole _)
      xbfM (Memref.isWhole_whole _) rcvM (Memref.isWhole_whole _) ringM (Memref.isWhole_whole _) cc0_scratch3 cc0_scratch4 cc0_scratch5 (Scalar.remsi (Scalar.divsi (Dev.word c) 1#32) 16#32) (Dev.word (ord c 5)) (chkW _) (Dev.word (ord c 7)) (chkW _)) Q := by
  simp only [k0_part14_eq_skeleton]; unfold k0_part14_skel
  simp only [semSignalWord, semWaitWord, smemLoad, smemLoadElt, Prog.lift, Prog.bind_op, Prog.bind_ret, Prog.pure_eq_ret, Prog.bind_assoc, WP, wp_deviceId]
  refine step_wload D K c 7 (by decide) (by decide) _ (offRow _) _ rfl ?_
  refine step_word D K c 5 _ rfl ?_
  refine step_assume c (chkRecv _) ?_
  refine step_recv D K c 5 (by decide) (by decide) _ (offSem _) _ (offSlab _) _ (offSlabI _) ?_
  refine step_wwait D K c 5 (by decide) (by decide) (by decide) _ rfl ?_
  refine step_ldw D K c 5 (by decide) _ rfl _ rfl ?_
  refine step_ldout D K c ?_
  exact step_ret c h

/-- The store of place 5; place 6 up to its reads. -/
theorem part15  {Q : (Σ' (v396 : Elt F .i32) (k0_hw29 : k0_chk29 v396) (v419 : FVec F S256x256 .f32), FVec F S256x8192 .f32) → sProp (MT nD τ sig Unit (Elt F) ℕ UU ℕ)}
    (h : St D K c (MS D c 16 1 7 7 9 (acc D c 5)) ⊢ Q ⟨Dev.word (ord c 8), chkW _, k0_pay8 (aRcv D c 6), k0_pay9 (wRd D c 6)⟩) :
    St D K c (MS D c 16 1 6 6 8 (acc D c 4)) ⊢ WP c (k0_part15 ordM (Memref.isWhole_whole _) xM (Memref.isWhole_whole _) wM (Memref.isWhole_whole _) outM (Memref.isWhole_whole _)
      xbfM (Memref.isWhole_whole _) rcvM (Memref.isWhole_whole _) ringM (Memref.isWhole_whole _) cc0_scratch3 cc0_scratch4 cc0_scratch5 (Scalar.remsi (Scalar.divsi (Dev.word c) 1#32) 16#32) (Dev.word (ord c 6)) (chkW _) (acc D c 5)) Q := by
  simp only [k0_part15_eq_skeleton]; unfold k0_part15_skel
  simp only [semSignalWord, semWaitWord, smemLoad, smemLoadElt, Prog.lift, Prog.bind_op, Prog.bind_ret, Prog.pure_eq_ret, Prog.bind_assoc, WP, wp_deviceId]
  refine step_ldout D K c ?_
  refine step_stout D K c (acc D c 5) _ rfl ?_
  refine step_word D K c 8 _ rfl ?_
  refine step_assume c (chkW _) ?_
  refine step_wload D K c 8 (by decide) (by decide) _ (offRow _) _ rfl ?_
  refine step_word D K c 6 _ rfl ?_
  refine step_assume c (chkRecv _) ?_
  refine step_recv D K c 6 (by decide) (by decide) _ (offSem _) _ (offSlab _) _ (offSlabI _) ?_
  refine step_wwait D K c 6 (by decide) (by decide) (by decide) _ rfl ?_
  refine step_ldw D K c 6 (by decide) _ rfl _ rfl ?_
  exact step_ret c h

/-- The store of place 6; place 7's block received. -/
theorem part16  {Q : (Σ' (v427 : Elt F .i32) (k0_hw31 : k0_chk31 v427), FVec F S256x256 .bf16) → sProp (MT nD τ sig Unit (Elt F) ℕ UU ℕ)}
    (h : St D K c (MS D c 16 1 8 7 10 (acc D c 6)) ⊢ Q ⟨Dev.word (ord c 9), chkW _, k0_pay11 (aRcv D c 7)⟩) :
    St D K c (MS D c 16 1 7 7 9 (acc D c 5)) ⊢ WP c (k0_part16 ordM (Memref.isWhole_whole _) xM (Memref.isWhole_whole _) wM (Memref.isWhole_whole _) outM (Memref.isWhole_whole _)
      xbfM (Memref.isWhole_whole _) rcvM (Memref.isWhole_whole _) ringM (Memref.isWhole_whole _) cc0_scratch3 cc0_scratch4 cc0_scratch5 (Scalar.remsi (Scalar.divsi (Dev.word c) 1#32) 16#32) (Dev.word (ord c 7)) (chkW _) (k0_pay8 (aRcv D c 6)) (k0_pay9 (wRd D c 6))) Q := by
  simp only [k0_part16_eq_skeleton]; unfold k0_part16_skel
  simp only [semSignalWord, semWaitWord, smemLoad, smemLoadElt, Prog.lift, Prog.bind_op, Prog.bind_ret, Prog.pure_eq_ret, Prog.bind_assoc, WP, wp_deviceId]
  refine step_ldout D K c ?_
  refine step_ldout D K c ?_
  refine step_stout D K c (acc D c 6) _ rfl ?_
  refine step_word D K c 9 _ rfl ?_
  refine step_assume c (chkW _) ?_
  refine step_wload D K c 9 (by decide) (by decide) _ (offRow _) _ rfl ?_
  refine step_word D K c 7 _ rfl ?_
  refine step_assume c (chkRecv _) ?_
  refine step_recv D K c 7 (by decide) (by decide) _ (offSem _) _ (offSlab _) _ (offSlabI _) ?_
  exact step_ret c h

/-- Place 7; place 8's block received. -/
theorem part17  {Q : (Σ' (v458 : Elt F .i32) (k0_hw33 : k0_chk33 v458), FVec F S256x256 .bf16) → sProp (MT nD τ sig Unit (Elt F) ℕ UU ℕ)}
    (h : St D K c (MS D c 16 1 9 8 11 (acc D c 7)) ⊢ Q ⟨Dev.word (ord c 10), chkW _, k0_pay13 (aRcv D c 8)⟩) :
    St D K c (MS D c 16 1 8 7 10 (acc D c 6)) ⊢ WP c (k0_part17 ordM (Memref.isWhole_whole _) xM (Memref.isWhole_whole _) wM (Memref.isWhole_whole _) outM (Memref.isWhole_whole _)
      xbfM (Memref.isWhole_whole _) rcvM (Memref.isWhole_whole _) ringM (Memref.isWhole_whole _) cc0_scratch3 cc0_scratch4 cc0_scratch5 (Scalar.remsi (Scalar.divsi (Dev.word c) 1#32) 16#32) (Dev.word (ord c 7)) (chkW _) (k0_pay11 (aRcv D c 7))) Q := by
  simp only [k0_part17_eq_skeleton]; unfold k0_part17_skel
  simp only [semSignalWord, semWaitWord, smemLoad, smemLoadElt, Prog.lift, Prog.bind_op, Prog.bind_ret, Prog.pure_eq_ret, Prog.bind_assoc, WP, wp_deviceId]
  refine step_mac D K c 7 (by decide) (by decide) (by decide) _ rfl _ rfl _ (acc D c 7) rfl ?_
  refine step_word D K c 10 _ rfl ?_
  refine step_assume c (chkW _) ?_
  refine step_wload D K c 10 (by decide) (by decide) _ (offRow _) _ rfl ?_
  refine step_word D K c 8 _ rfl ?_
  refine step_assume c (chkRecv _) ?_
  refine step_recv D K c 8 (by decide) (by decide) _ (offSem _) _ (offSlab _) _ (offSlabI _) ?_
  exact step_ret c h

/-- Place 8; the wait for place 9's block. -/
theorem part18  {Q : (Σ' (v489 : Elt F .i32) (k0_hw35 : k0_chk35 v489) (v496 : Elt F .i32), k0_chk36 v496) → sProp (MT nD τ sig Unit (Elt F) ℕ UU ℕ)}
    (h : St D K c (MS D c 16 1 10 9 12 (acc D c 8)) ⊢ Q ⟨Dev.word (ord c 11), chkW _, Dev.word (ord c 9), chkRecv _⟩) :
    St D K c (MS D c 16 1 9 8 11 (acc D c 7)) ⊢ WP c (k0_part18 ordM (Memref.isWhole_whole _) xM (Memref.isWhole_whole _) wM (Memref.isWhole_whole _) outM (Memref.isWhole_whole _)
      xbfM (Memref.isWhole_whole _) rcvM (Memref.isWhole_whole _) ringM (Memref.isWhole_whole _) cc0_scratch3 cc0_scratch4 cc0_scratch5 (Scalar.remsi (Scalar.divsi (Dev.word c) 1#32) 16#32) (Dev.word (ord c 8)) (chkW _) (k0_pay13 (aRcv D c 8))) Q := by
  simp only [k0_part18_eq_skeleton]; unfold k0_part18_skel
  simp only [semSignalWord, semWaitWord, smemLoad, smemLoadElt, Prog.lift, Prog.bind_op, Prog.bind_ret, Prog.pure_eq_ret, Prog.bind_assoc, WP, wp_deviceId]
  refine step_mac D K c 8 (by decide) (by decide) (by decide) _ rfl _ rfl _ (acc D c 8) rfl ?_
  refine step_word D K c 11 _ rfl ?_
  refine step_assume c (chkW _) ?_
  refine step_wload D K c 11 (by decide) (by decide) _ (offRow _) _ rfl ?_
  refine step_word D K c 9 _ rfl ?_
  refine step_assume c (chkRecv _) ?_
  refine step_rwait D K c 9 (by decide) (by decide) _ (offSem _) _ (offSlab _) ?_
  exact step_ret c h

/-- Place 9. -/
theorem part19  {Q : (Σ' (v520 : Elt F .i32) (k0_hw37 : k0_chk37 v520) (v527 : Elt F .i32), k0_chk38 v527) → sProp (MT nD τ sig Unit (Elt F) ℕ UU ℕ)}
    (h : St D K c (MS D c 16 1 10 10 13 (acc D c 9)) ⊢ Q ⟨Dev.word (ord c 12), chkW _, Dev.word (ord c 10), chkRecv _⟩) :
    St D K c (MS D c 16 1 10 9 12 (acc D c 8)) ⊢ WP c (k0_part19 ordM (Memref.isWhole_whole _) xM (Memref.isWhole_whole _) wM (Memref.isWhole_whole _) outM (Memref.isWhole_whole _)
      xbfM (Memref.isWhole_whole _) rcvM (Memref.isWhole_whole _) ringM (Memref.isWhole_whole _) cc0_scratch3 cc0_scratch4 cc0_scratch5 (Scalar.remsi (Scalar.divsi (Dev.word c) 1#32) 16#32) (Dev.word (ord c 9)) (chkW _) (Dev.word (ord c 9)) (chkRecv _)) Q := by
  simp only [k0_part19_eq_skeleton]; unfold k0_part19_skel
  simp only [semSignalWord, semWaitWord, smemLoad, smemLoadElt, Prog.lift, Prog.bind_op, Prog.bind_ret, Prog.pure_eq_ret, Prog.bind_assoc, WP, wp_deviceId]
  refine step_lda D K c 9 (by decide) _ (offSlabI _) ?_
  refine step_mac D K c 9 (by decide) (by decide) (by decide) _ rfl _ rfl _ (acc D c 9) rfl ?_
  refine step_word D K c 12 _ rfl ?_
  refine step_assume c (chkW _) ?_
  refine step_wload D K c 12 (by decide) (by decide) _ (offRow _) _ rfl ?_
  refine step_word D K c 10 _ rfl ?_
  refine step_assume c (chkRecv _) ?_
  exact step_ret c h

/-- Place 10. -/
theorem part20  {Q : (Σ' (v551 : Elt F .i32) (k0_hw39 : k0_chk39 v551) (v558 : Elt F .i32) (k0_hw40 : k0_chk40 v558), BitVec 32) → sProp (MT nD τ sig Unit (Elt F) ℕ UU ℕ)}
    (h : St D K c (MS D c 16 1 11 11 14 (acc D c 10)) ⊢ Q ⟨Dev.word (ord c 13), chkW _, Dev.word (ord c 11), chkRecv _, 1#32⟩) :
    St D K c (MS D c 16 1 10 10 13 (acc D c 9)) ⊢ WP c (k0_part20 ordM (Memref.isWhole_whole _) xM (Memref.isWhole_whole _) wM (Memref.isWhole_whole _) outM (Memref.isWhole_whole _)
      xbfM (Memref.isWhole_whole _) rcvM (Memref.isWhole_whole _) ringM (Memref.isWhole_whole _) cc0_scratch3 cc0_scratch4 cc0_scratch5 (Dev.word (ord c 10)) (chkW _) (Dev.word (ord c 10)) (chkRecv _)) Q := by
  simp only [k0_part20_eq_skeleton]; unfold k0_part20_skel
  simp only [semSignalWord, semWaitWord, smemLoad, smemLoadElt, Prog.lift, Prog.bind_op, Prog.bind_ret, Prog.pure_eq_ret, Prog.bind_assoc, WP, wp_deviceId]
  refine step_recv D K c 10 (by decide) (by decide) _ (offSem _) _ (offSlab _) _ (offSlabI _) ?_
  refine step_mac D K c 10 (by decide) (by decide) (by decide) _ rfl _ rfl _ (acc D c 10) rfl ?_
  refine step_word D K c 13 _ rfl ?_
  refine step_assume c (chkW _) ?_
  refine step_wload D K c 13 (by decide) (by decide) _ (offRow _) _ rfl ?_
  refine step_word D K c 11 _ rfl ?_
  refine step_assume c (chkRecv _) ?_
  exact step_ret c h

/-- Place 11. -/
theorem part21  {Q : (Σ' (v582 : Elt F .i32), k0_chk41 v582) → sProp (MT nD τ sig Unit (Elt F) ℕ UU ℕ)}
    (h : St D K c (MS D c 16 1 12 12 14 (acc D c 11)) ⊢ Q ⟨Dev.word (ord c 14), chkW _⟩) :
    St D K c (MS D c 16 1 11 11 14 (acc D c 10)) ⊢ WP c (k0_part21 ordM (Memref.isWhole_whole _) xM (Memref.isWhole_whole _) wM (Memref.isWhole_whole _) outM (Memref.isWhole_whole _)
      xbfM (Memref.isWhole_whole _) rcvM (Memref.isWhole_whole _) ringM (Memref.isWhole_whole _) cc0_scratch3 cc0_scratch4 cc0_scratch5 (Scalar.remsi (Scalar.divsi (Dev.word c) 1#32) 16#32) (Dev.word (ord c 11)) (chkW _) (Dev.word (ord c 11)) (chkRecv _) 1#32) Q := by
  simp only [k0_part21_eq_skeleton]; unfold k0_part21_skel
  simp only [semSignalWord, semWaitWord, smemLoad, smemLoadElt, Prog.lift, Prog.bind_op, Prog.bind_ret, Prog.pure_eq_ret, Prog.bind_assoc, WP, wp_deviceId]
  refine step_recv D K c 11 (by decide) (by decide) _ (offSem _) _ (offSlab _) _ (offSlabI _) ?_
  refine step_mac D K c 11 (by decide) (by decide) (by decide) _ rfl _ rfl _ (acc D c 11) rfl ?_
  refine step_word D K c 14 _ rfl ?_
  refine step_assume c (chkW _) ?_
  exact step_ret c h

/-- Place 12. -/
theorem part22  {Q : (Σ' (v613 : Elt F .i32), k0_chk43 v613) → sProp (MT nD τ sig Unit (Elt F) ℕ UU ℕ)}
    (h : St D K c (MS D c 16 1 13 13 15 (acc D c 12)) ⊢ Q ⟨Dev.word (ord c 15), chkW _⟩) :
    St D K c (MS D c 16 1 12 12 14 (acc D c 11)) ⊢ WP c (k0_part22 ordM (Memref.isWhole_whole _) xM (Memref.isWhole_whole _) wM (Memref.isWhole_whole _) outM (Memref.isWhole_whole _)
      xbfM (Memref.isWhole_whole _) rcvM (Memref.isWhole_whole _) ringM (Memref.isWhole_whole _) cc0_scratch3 cc0_scratch4 cc0_scratch5 (Scalar.remsi (Scalar.divsi (Dev.word c) 1#32) 16#32) (Dev.word (ord c 12)) (chkW _) (Dev.word (ord c 14)) (chkW _)) Q := by
  simp only [k0_part22_eq_skeleton]; unfold k0_part22_skel
  simp only [semSignalWord, semWaitWord, smemLoad, smemLoadElt, Prog.lift, Prog.bind_op, Prog.bind_ret, Prog.pure_eq_ret, Prog.bind_assoc, WP, wp_deviceId]
  refine step_wload D K c 14 (by decide) (by decide) _ (offRow _) _ rfl ?_
  refine step_word D K c 12 _ rfl ?_
  refine step_assume c (chkRecv _) ?_
  refine step_recv D K c 12 (by decide) (by decide) _ (offSem _) _ (offSlab _) _ (offSlabI _) ?_
  refine step_mac D K c 12 (by decide) (by decide) (by decide) _ rfl _ rfl _ (acc D c 12) rfl ?_
  refine step_word D K c 15 _ rfl ?_
  refine step_assume c (chkW _) ?_
  exact step_ret c h

/-- Place 13. -/
theorem part23  {Q : (PUnit) → sProp (MT nD τ sig Unit (Elt F) ℕ UU ℕ)}
    (h : St D K c (MS D c 16 1 14 14 16 (acc D c 13)) ⊢ Q ⟨⟩) :
    St D K c (MS D c 16 1 13 13 15 (acc D c 12)) ⊢ WP c (k0_part23 ordM (Memref.isWhole_whole _) xM (Memref.isWhole_whole _) wM (Memref.isWhole_whole _) outM (Memref.isWhole_whole _)
      xbfM (Memref.isWhole_whole _) rcvM (Memref.isWhole_whole _) ringM (Memref.isWhole_whole _) cc0_scratch3 cc0_scratch4 cc0_scratch5 (Scalar.remsi (Scalar.divsi (Dev.word c) 1#32) 16#32) (Dev.word (ord c 13)) (chkW _) (Dev.word (ord c 15)) (chkW _)) Q := by
  simp only [k0_part23_eq_skeleton]; unfold k0_part23_skel
  simp only [semSignalWord, semWaitWord, smemLoad, smemLoadElt, Prog.lift, Prog.bind_op, Prog.bind_ret, Prog.pure_eq_ret, Prog.bind_assoc, WP, wp_deviceId]
  refine step_wload D K c 15 (by decide) (by decide) _ (offRow _) _ rfl ?_
  refine step_word D K c 13 _ rfl ?_
  refine step_assume c (chkRecv _) ?_
  refine step_recv D K c 13 (by decide) (by decide) _ (offSem _) _ (offSlab _) _ (offSlabI _) ?_
  refine step_mac D K c 13 (by decide) (by decide) (by decide) _ rfl _ rfl _ (acc D c 13) rfl ?_
  exact step_ret c h

/-- Place 14. -/
theorem part24  {Q : (Σ' (v668 : Elt F .i32), k0_chk46 v668) → sProp (MT nD τ sig Unit (Elt F) ℕ UU ℕ)}
    (h : St D K c (MS D c 16 1 15 15 16 (acc D c 14)) ⊢ Q ⟨Dev.word (ord c 15), chkRecv _⟩) :
    St D K c (MS D c 16 1 14 14 16 (acc D c 13)) ⊢ WP c (k0_part24 ordM (Memref.isWhole_whole _) xM (Memref.isWhole_whole _) wM (Memref.isWhole_whole _) outM (Memref.isWhole_whole _)
      xbfM (Memref.isWhole_whole _) rcvM (Memref.isWhole_whole _) ringM (Memref.isWhole_whole _) cc0_scratch3 cc0_scratch4 cc0_scratch5 (Scalar.remsi (Scalar.divsi (Dev.word c) 1#32) 16#32) (Dev.word (ord c 14)) (chkW _)) Q := by
  simp only [k0_part24_eq_skeleton]; unfold k0_part24_skel
  simp only [semSignalWord, semWaitWord, smemLoad, smemLoadElt, Prog.lift, Prog.bind_op, Prog.bind_ret, Prog.pure_eq_ret, Prog.bind_assoc, WP, wp_deviceId]
  refine step_word D K c 14 _ rfl ?_
  refine step_assume c (chkRecv _) ?_
  refine step_recv D K c 14 (by decide) (by decide) _ (offSem _) _ (offSlab _) _ (offSlabI _) ?_
  refine step_mac D K c 14 (by decide) (by decide) (by decide) _ rfl _ rfl _ (acc D c 14) rfl ?_
  refine step_word D K c 15 _ rfl ?_
  refine step_assume c (chkRecv _) ?_
  exact step_ret c h

/-- Place 15; the wait for the first send. -/
theorem part25  {Q : (Σ' (v699 : Elt F .i32), k0_chk48 v699) → sProp (MT nD τ sig Unit (Elt F) ℕ UU ℕ)}
    (h : St D K c (MS D c 16 2 16 16 16 (acc D c 15)) ⊢ Q ⟨Dev.word (ord c 2), chkSWait _⟩) :
    St D K c (MS D c 16 1 15 15 16 (acc D c 14)) ⊢ WP c (k0_part25 ordM (Memref.isWhole_whole _) xM (Memref.isWhole_whole _) wM (Memref.isWhole_whole _) outM (Memref.isWhole_whole _)
      xbfM (Memref.isWhole_whole _) rcvM (Memref.isWhole_whole _) ringM (Memref.isWhole_whole _) cc0_scratch3 cc0_scratch4 cc0_scratch5 c (Dev.word (ord c 15)) (chkW _) (Dev.word (ord c 15)) (chkRecv _)) Q := by
  simp only [k0_part25_eq_skeleton]; unfold k0_part25_skel
  simp only [semSignalWord, semWaitWord, smemLoad, smemLoadElt, Prog.lift, Prog.bind_op, Prog.bind_ret, Prog.pure_eq_ret, Prog.bind_assoc, WP, wp_deviceId]
  refine step_recv D K c 15 (by decide) (by decide) _ (offSem _) _ (offSlab _) _ (offSlabI _) ?_
  refine step_mac D K c 15 (by decide) (by decide) (by decide) _ rfl _ rfl _ (acc D c 15) rfl ?_
  refine step_word D K c 1 _ rfl ?_
  refine step_assume c (chkSWait _) ?_
  refine step_swait D K c 1 (by decide) (by decide) _ (offSem _) _ (offXbf _) ?_
  refine step_word D K c 2 _ rfl ?_
  refine step_assume c (chkSWait _) ?_
  exact step_ret c h

/-- The waits for the sends to places 2 to 5. -/
theorem part26  {Q : (Σ' (v727 : Elt F .i32), k0_chk52 v727) → sProp (MT nD τ sig Unit (Elt F) ℕ UU ℕ)}
    (h : St D K c (MS D c 16 6 16 16 16 (acc D c 15)) ⊢ Q ⟨Dev.word (ord c 6), chkSWait _⟩) :
    St D K c (MS D c 16 2 16 16 16 (acc D c 15)) ⊢ WP c (k0_part26 ordM (Memref.isWhole_whole _) xM (Memref.isWhole_whole _) wM (Memref.isWhole_whole _) outM (Memref.isWhole_whole _)
      xbfM (Memref.isWhole_whole _) rcvM (Memref.isWhole_whole _) ringM (Memref.isWhole_whole _) cc0_scratch3 cc0_scratch4 cc0_scratch5 c (Dev.word (ord c 2)) (chkSWait _)) Q := by
  simp only [k0_part26_eq_skeleton]; unfold k0_part26_skel
  simp only [semSignalWord, semWaitWord, smemLoad, smemLoadElt, Prog.lift, Prog.bind_op, Prog.bind_ret, Prog.pure_eq_ret, Prog.bind_assoc, WP, wp_deviceId]
  refine step_swait D K c 2 (by decide) (by decide) _ (offSem _) _ (offXbf _) ?_
  refine step_word D K c 3 _ rfl ?_
  refine step_assume c (chkSWait _) ?_
  refine step_swait D K c 3 (by decide) (by decide) _ (offSem _) _ (offXbf _) ?_
  refine step_word D K c 4 _ rfl ?_
  refine step_assume c (chkSWait _) ?_
  refine step_swait D K c 4 (by decide) (by decide) _ (offSem _) _ (offXbf _) ?_
  refine step_word D K c 5 _ rfl ?_
  refine step_assume c (chkSWait _) ?_
  refine step_swait D K c 5 (by decide) (by decide) _ (offSem _) _ (offXbf _) ?_
  refine step_word D K c 6 _ rfl ?_
  refine step_assume c (chkSWait _) ?_
  exact step_ret c h

/-- The waits for the sends to places 6 to 9. -/
theorem part27  {Q : (Σ' (v755 : Elt F .i32), k0_chk56 v755) → sProp (MT nD τ sig Unit (Elt F) ℕ UU ℕ)}
    (h : St D K c (MS D c 16 10 16 16 16 (acc D c 15)) ⊢ Q ⟨Dev.word (ord c 10), chkSWait _⟩) :
    St D K c (MS D c 16 6 16 16 16 (acc D c 15)) ⊢ WP c (k0_part27 ordM (Memref.isWhole_whole _) xM (Memref.isWhole_whole _) wM (Memref.isWhole_whole _) outM (Memref.isWhole_whole _)
      xbfM (Memref.isWhole_whole _) rcvM (Memref.isWhole_whole _) ringM (Memref.isWhole_whole _) cc0_scratch3 cc0_scratch4 cc0_scratch5 c (Dev.word (ord c 6)) (chkSWait _)) Q := by
  simp only [k0_part27_eq_skeleton]; unfold k0_part27_skel
  simp only [semSignalWord, semWaitWord, smemLoad, smemLoadElt, Prog.lift, Prog.bind_op, Prog.bind_ret, Prog.pure_eq_ret, Prog.bind_assoc, WP, wp_deviceId]
  refine step_swait D K c 6 (by decide) (by decide) _ (offSem _) _ (offXbf _) ?_
  refine step_word D K c 7 _ rfl ?_
  refine step_assume c (chkSWait _) ?_
  refine step_swait D K c 7 (by decide) (by decide) _ (offSem _) _ (offXbf _) ?_
  refine step_word D K c 8 _ rfl ?_
  refine step_assume c (chkSWait _) ?_
  refine step_swait D K c 8 (by decide) (by decide) _ (offSem _) _ (offXbf _) ?_
  refine step_word D K c 9 _ rfl ?_
  refine step_assume c (chkSWait _) ?_
  refine step_swait D K c 9 (by decide) (by decide) _ (offSem _) _ (offXbf _) ?_
  refine step_word D K c 10 _ rfl ?_
  refine step_assume c (chkSWait _) ?_
  exact step_ret c h

/-- The waits for the sends to places 10 to 13. -/
theorem part28  {Q : (Σ' (v783 : Elt F .i32), k0_chk60 v783) → sProp (MT nD τ sig Unit (Elt F) ℕ UU ℕ)}
    (h : St D K c (MS D c 16 14 16 16 16 (acc D c 15)) ⊢ Q ⟨Dev.word (ord c 14), chkSWait _⟩) :
    St D K c (MS D c 16 10 16 16 16 (acc D c 15)) ⊢ WP c (k0_part28 ordM (Memref.isWhole_whole _) xM (Memref.isWhole_whole _) wM (Memref.isWhole_whole _) outM (Memref.isWhole_whole _)
      xbfM (Memref.isWhole_whole _) rcvM (Memref.isWhole_whole _) ringM (Memref.isWhole_whole _) cc0_scratch3 cc0_scratch4 cc0_scratch5 c (Dev.word (ord c 10)) (chkSWait _)) Q := by
  simp only [k0_part28_eq_skeleton]; unfold k0_part28_skel
  simp only [semSignalWord, semWaitWord, smemLoad, smemLoadElt, Prog.lift, Prog.bind_op, Prog.bind_ret, Prog.pure_eq_ret, Prog.bind_assoc, WP, wp_deviceId]
  refine step_swait D K c 10 (by decide) (by decide) _ (offSem _) _ (offXbf _) ?_
  refine step_word D K c 11 _ rfl ?_
  refine step_assume c (chkSWait _) ?_
  refine step_swait D K c 11 (by decide) (by decide) _ (offSem _) _ (offXbf _) ?_
  refine step_word D K c 12 _ rfl ?_
  refine step_assume c (chkSWait _) ?_
  refine step_swait D K c 12 (by decide) (by decide) _ (offSem _) _ (offXbf _) ?_
  refine step_word D K c 13 _ rfl ?_
  refine step_assume c (chkSWait _) ?_
  refine step_swait D K c 13 (by decide) (by decide) _ (offSem _) _ (offXbf _) ?_
  refine step_word D K c 14 _ rfl ?_
  refine step_assume c (chkSWait _) ?_
  exact step_ret c h

end Cert.KernelIdeal.AG

end
-- ==== Proof.KernelIdeal.Whole.lean ====
/-
The gather's body as a whole: its parts chained.
-/
module

public import proofs.«01_k».proof.Proof.KernelIdeal.Body

@[expose] public section

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Data F) (K : GSem nD τ sig → ℕ) (c : Dev nD)

theorem whole_body {f g} {Q : PUnit → sProp (MT nD τ sig Unit (Elt F) ℕ UU ℕ)}
    (h : St D K c (MS D c 16 16 16 16 16 (acc D c 15)) ⊢ Q ⟨⟩) :
    St D K c (AS D c 0 f g) ⊢ WP c (cc0_body ordM (Memref.isWhole_whole _) xM (Memref.isWhole_whole _) wM (Memref.isWhole_whole _) outM (Memref.isWhole_whole _)
      xbfM (Memref.isWhole_whole _) rcvM (Memref.isWhole_whole _) ringM (Memref.isWhole_whole _) cc0_scratch3 cc0_scratch4 cc0_scratch5) Q := by
  simp only [cc0_body_eq_skeleton]; unfold cc0_body_skel
  simp only [WP, wp_bind]
  refine part1 D K c ?_
  refine part2 D K c ?_
  refine part3 D K c ?_
  refine part4 D K c ?_
  refine part5 D K c ?_
  refine part6 D K c ?_
  refine part7 D K c ?_
  refine part8 D K c ?_
  refine part9 D K c ?_
  refine part10 D K c ?_
  refine part11 D K c ?_
  refine part12 D K c ?_
  refine part13 D K c ?_
  refine part14 D K c ?_
  refine part15 D K c ?_
  refine part16 D K c ?_
  refine part17 D K c ?_
  refine part18 D K c ?_
  refine part19 D K c ?_
  refine part20 D K c ?_
  refine part21 D K c ?_
  refine part22 D K c ?_
  refine part23 D K c ?_
  refine part24 D K c ?_
  refine part25 D K c ?_
  refine part26 D K c ?_
  refine part27 D K c ?_
  refine part28 D K c ?_
  simp only [← wp_bind, smemLoad, smemLoadElt, Prog.lift, Prog.bind_op, Prog.bind_ret, Prog.pure_eq_ret, Prog.bind_assoc]
  refine step_swait D K c 14 (by decide) (by decide) _ (offSem _) _ (offXbf _) ?_
  refine step_word D K c 15 _ rfl ?_
  refine step_assume c (chkSWait _) ?_
  refine step_swait D K c 15 (by decide) (by decide) _ (offSem _) _ (offXbf _) ?_
  exact step_ret c h

end Cert.KernelIdeal.AG

end
-- ==== Proof.KernelIdeal.Entry.lean ====
/-
How the gather's call begins and ends: its buffers cut into the pieces the devices trade and joined again, and its own
semaphore cells opened at the start and closed at the end.
-/
module

public import proofs.«01_k».proof.Proof.KernelIdeal.Whole

@[expose] public section

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Data F) (K : GSem nD τ sig → ℕ) (c : Dev nD)

/-! ## What a device holds when its call begins -/

abbrev rcvA (c : Dev nD) (f : S16x256x256.Idx → Elt F .bf16) : sProp 𝕄 := (rcvM.view.loc (c : Thread nD τ)) ↦{fullShare} f
abbrev ringA (c : Dev nD) (f : S3x256x8192.Idx → Elt F .f32) : sProp 𝕄 := (ringM.view.loc (c : Thread nD τ)) ↦{fullShare} f
abbrev wA (c : Dev nD) (f : S4096x8192.Idx → Elt F .f32) : sProp 𝕄 := (wM.view.loc (c : Thread nD τ)) ↦{fullShare} f

/-- Its own cells, opened. -/
def own0 (c : Dev nD) : sProp 𝕄 := bigSep Finset.univ fun k : OS =>
  iprop(atPos ER ((c : Thread nD τ), osem k) 0 ∅ 0 ∗ reached ER ((c : Thread nD τ), osem k) 0)
/-- The duties it will pay: a unit to every barrier, one copy to every other device, sixteen loads of the weight. -/
def pay (c : Dev nD) : sProp 𝕄 :=
  iprop(bigSep Finset.univ (fun p : Dev nD => dutyTok ER (barC p) 0 c)
    ∗ bigSep (Finset.Ico 1 16) (fun k => iprop(dutyTok ER (sndC c (ord c k)) 0 0 ∗ dutyTok ER (rcvC (ord c k) c) 0 0))
    ∗ bigSep (Finset.Ico 0 16) (fun i => dutyTok ER (wC c (sl i)) (i / 3) 0))
/-- What it may wait for: sixteen units at its barrier, one copy from every other device. -/
def crd (c : Dev nD) : sProp 𝕄 :=
  iprop(cred (tallyAt (barC c) () 16) ∗ bigSep (Finset.Ico 1 16) fun k => cred (tallyAt (rcvC c (ord c k)) () N))
/-- Its place in its barrier; every barrier's first round reached. -/
def bar0 (c : Dev nD) : sProp 𝕄 := iprop(atPos ER (barC c) 0 ∅ 0 ∗ bigSep Finset.univ fun p : Dev nD => reached ER (barC p) 0)

/-! ## Splitting -/

theorem some_all {I X : Type} (s : Finset I) (Φ : I → X → sProp 𝕄) (f : I → X) :
    bigSep s (fun i => Φ i (f i)) ⊢ (bigSep s (fun i => iprop(∃ x, Φ i x)) : sProp 𝕄) :=
  bigSep_mono fun i _ => (show (Φ i (f i) : sProp 𝕄) ⊢ iprop(∃ x, Φ i x) from by iintro H; iexists f i; iexact H)
theorem assoc_eq (P Q R : sProp 𝕄) : iprop((P ∗ Q) ∗ R) = iprop(P ∗ Q ∗ R) := BI.equiv_iff.mp ⟨BI.sep_assoc, BI.sep_assoc'⟩

theorem univ_sl : (Finset.univ : Finset (Fin 3)) = (Finset.Ico 0 3).image sl := by decide
theorem univ_sl' : (Finset.univ : Finset (Fin 3)) = (Finset.Ico 13 16).image sl := by decide
theorem bigSep_sl (Φ : Fin 3 → sProp 𝕄) : bigSep Finset.univ Φ = bigSep (Finset.Ico 0 3) fun s => Φ (sl s) := by
  rw [univ_sl, bigSep_image_of_injOn (by decide)]
theorem bigSep_sl' (Φ : Fin 3 → sProp 𝕄) : bigSep Finset.univ Φ = bigSep (Finset.Ico 13 16) fun s => Φ (sl s) := by
  rw [univ_sl', bigSep_image_of_injOn (by decide)]
theorem bigSep_OS (Φ : OS → sProp 𝕄) : bigSep Finset.univ Φ
    = iprop(bigSep Finset.univ (fun j : Dev nD => Φ (.inl j)) ∗ bigSep Finset.univ (fun j : Dev nD => Φ (.inr (.inl j)))
      ∗ bigSep Finset.univ (fun s : Fin 3 => Φ (.inr (.inr s)))) := by
  rw [bigSep_univ_sum, bigSep_univ_sum]; rfl
theorem own0_eq (c : Dev nD) : (own0 c : sProp 𝕄)
    = iprop(bigSep Finset.univ (fun j : Dev nD => iprop(atPos ER (sndC c j) 0 ∅ 0 ∗ reached ER (sndC c j) 0))
      ∗ bigSep Finset.univ (fun j : Dev nD => iprop(atPos ER (rcvC c j) 0 ∅ 0 ∗ reached ER (rcvC c j) 0))
      ∗ bigSep Finset.univ (fun s : Fin 3 => iprop(atPos ER (wC c s) 0 ∅ 0 ∗ reached ER (wC c s) 0))) := by
  unfold own0; rw [bigSep_OS]; rfl
theorem vals_eq (c : Dev nD) : (bigSep Finset.univ (fun k : OS => semVal ((c : Thread nD τ), osem k) 0) : sProp 𝕄)
    = iprop(bigSep Finset.univ (fun j : Dev nD => semVal (sndC c j) 0) ∗ bigSep Finset.univ (fun j : Dev nD => semVal (rcvC c j) 0)
      ∗ bigSep Finset.univ (fun s : Fin 3 => semVal (wC c s) 0)) := by
  rw [bigSep_OS]; rfl
theorem bigSep_ord1 (c : Dev nD) (Φ : Dev nD → sProp 𝕄) :
    bigSep Finset.univ Φ = iprop(Φ c ∗ bigSep (Finset.Ico 1 16) fun k => Φ (ord c k)) := by
  rw [bigSep_ord c, show bigSep (Finset.Ico 0 16) (fun k => Φ (ord c k)) = iprop(Φ (ord c 0) ∗ bigSep (Finset.Ico 1 16) fun k => Φ (ord c k)) from
    bigSep_Ico_succ_bot (by decide) _, ord_zero]

theorem rcv_split : iprop(∃ f, rcvA (F := F) c f) ⊢ bigSep Finset.univ (fun j : Dev nD => (iprop(∃ f, rcvP c j f) : sProp 𝕄)) := by
  iintro ⟨%f, H⟩
  ihave H' := (Entails.of_eq (Ring.pointsTo_blocks (ℓ := rcvM.view.loc (c : Thread nD τ)) (q := fullShare) (fun j : Dev nD => (rcvV j).view.set) rcv_disj rcv_cover f)) $$ H
  iapply (some_all Finset.univ (fun (j : Dev nD) f => (rcvP c j f : sProp 𝕄)) fun _ => f)
  iexact H'
theorem rcv_join (f₀ : S16x256x256.Idx → Elt F .bf16) : bigSep Finset.univ (fun j : Dev nD => (iprop(∃ f, rcvP c j f) : sProp 𝕄)) ⊢ iprop(∃ f, rcvA (F := F) c f) :=
  Ring.pointsTo_blocks_join_exists (ℓ := rcvM.view.loc (c : Thread nD τ)) (q := fullShare) (fun j : Dev nD => (rcvV j).view.set) rcv_disj rcv_cover f₀
theorem ring_split : iprop(∃ f, ringA (F := F) c f) ⊢ bigSep (Finset.Ico 0 3) (fun s => (iprop(∃ f, slotP c (sl s) f) : sProp 𝕄)) := by
  iintro ⟨%f, H⟩
  ihave H' := (Entails.of_eq (Ring.pointsTo_blocks (ℓ := ringM.view.loc (c : Thread nD τ)) (q := fullShare) (fun j : Fin 3 => (slotV j).view.set) slot_disj slot_cover f)) $$ H
  ihave H := (Entails.of_eq (bigSep_sl (fun j : Fin 3 => (slotP c j f : sProp 𝕄)))) $$ H'
  iapply (some_all (Finset.Ico 0 3) (fun s f => (slotP c (sl s) f : sProp 𝕄)) fun _ => f)
  iexact H
theorem ring_join (f₀ : S3x256x8192.Idx → Elt F .f32) :
    bigSep (Finset.Ico 13 16) (fun s => (iprop(∃ f, slotP c (sl s) f) : sProp 𝕄)) ⊢ iprop(∃ f, ringA (F := F) c f) := by
  rw [← bigSep_sl' (fun j : Fin 3 => (iprop(∃ f, slotP c j f) : sProp 𝕄))]
  exact Ring.pointsTo_blocks_join_exists (ℓ := ringM.view.loc (c : Thread nD τ)) (q := fullShare) (fun j : Fin 3 => (slotV j).view.set) slot_disj slot_cover f₀
theorem w_split (f : S4096x8192.Idx → Elt F .f32) : wA c f = bigSep (Finset.Ico 0 16) (fun i => wP c (ord c i) f) :=
  (Ring.pointsTo_blocks (ℓ := wM.view.loc (c : Thread nD τ)) (q := fullShare) (fun j : Dev nD => (wV j).view.set) w_disj w_cover f).trans
    (bigSep_ord c (fun j => wP c j f))
theorem xbf_join (f : S4096x256.Idx → Elt F .bf16) :
    iprop(xbfP c c f ∗ bigSep (Finset.Ico 1 16) fun k => xbfP c (ord c k) f) ⊢ (xbfA c f : sProp 𝕄) := by
  rw [xbf_split, bigSep_ord1 c]

theorem ico_self (n : ℕ) (Φ : ℕ → sProp 𝕄) : bigSep (Finset.Ico n n) Φ = (BI.emp : sProp 𝕄) := by
  rw [Finset.Ico_self]; exact bigSep_empty

/-! ## The beginning -/

theorem sends_ready : iprop(bigSep (Finset.Ico 1 16) (fun k => iprop(atPos ER (sndC c (ord c k)) 0 ∅ 0 ∗ reached ER (sndC c (ord c k)) 0))
      ∗ bigSep (Finset.Ico 1 16) (fun k => iprop(dutyTok ER (sndC c (ord c k)) 0 0 ∗ dutyTok ER (rcvC (ord c k) c) 0 0)))
    ⊢ (bigSep (Finset.Ico 1 16) (sndTok c) : sProp 𝕄) := by
  rw [← bigSep_sep']
  exact Entails.of_eq (bigSep_congr fun k _ => by unfold sndTok; exact assoc_eq _ _ _)
theorem receives_ready : iprop(bigSep (Finset.Ico 1 16) (fun k => cred (tallyAt (rcvC c (ord c k)) () N))
      ∗ bigSep (Finset.Ico 1 16) (fun k => atPos ER (rcvC c (ord c k)) 0 ∅ 0)) ⊢ (Rst D c 1 : sProp 𝕄) := by
  unfold Rst
  rw [ico_self, bigSep_sep']
  iintro H
  isplitl [H]; · iexact H
  iempintro
theorem loads_ready : iprop(bigSep (Finset.Ico 0 3) (fun s => iprop(∃ f, slotP c (sl s) f))
      ∗ bigSep Finset.univ (fun s : Fin 3 => iprop(atPos ER (wC c s) 0 ∅ 0 ∗ reached ER (wC c s) 0))
      ∗ bigSep (Finset.Ico 0 16) (fun i => dutyTok ER (wC c (sl i)) (i / 3) 0) ∗ bigSep (Finset.Ico 0 16) (fun i => wP c (ord c i) (D.w c)))
    ⊢ (Wst D c 0 0 : sProp 𝕄) := by
  unfold Wst
  simp only [ico_self, Nat.zero_sub]
  rw [bigSep_sl, show bigSep (Finset.Ico 0 3) (fun s => iprop((∃ f, slotP c (sl s) f) ∗ atPos ER (wC c (sl s)) 0 ∅ 0 ∗ reached ER (wC c (sl s)) 0))
      = (iprop(bigSep (Finset.Ico 0 3) (fun s => iprop(∃ f, slotP c (sl s) f)) ∗ bigSep (Finset.Ico 0 3) (fun s => iprop(atPos ER (wC c (sl s)) 0 ∅ 0 ∗ reached ER (wC c (sl s)) 0))) : sProp 𝕄)
      from bigSep_sep' _ _ _,
    show bigSep (Finset.Ico 0 16) (fun i => iprop(dutyTok ER (wC c (sl i)) (i / 3) 0 ∗ wP c (ord c i) (D.w c)))
      = (iprop(bigSep (Finset.Ico 0 16) (fun i => dutyTok ER (wC c (sl i)) (i / 3) 0) ∗ bigSep (Finset.Ico 0 16) (fun i => wP c (ord c i) (D.w c))) : sProp 𝕄)
      from bigSep_sep' _ _ _]
  iintro ⟨Hs, Hw, HtW, HwA⟩
  isplitl [Hs Hw]
  · isplitl [Hs] <;> iassumption
  isplitr; · iempintro
  isplitr; · iempintro
  isplitl [HtW HwA]
  · isplitl [HtW] <;> iassumption
  iempintro

theorem enter (f : S256x8192.Idx → Elt F .f32) :
    iprop(ordP c ∗ IV D K ∗ (levAts L lv ∗ bar0 c ∗ own0 c ∗ pay c ∗ crd c) ∗ xP D c ∗ outP c f ∗ (∃ g, xbfA c g) ∗ (∃ r, rcvA c r) ∗ (∃ r, ringA c r)
      ∗ wA c (D.w c) ∗ Ow c (O₀ c)) ⊢ (iprop(∃ g, St D K c (AS D c 0 f g)) : sProp 𝕄) := by
  rw [own0_eq, w_split]
  unfold St AS bar0 pay crd
  iintro ⟨Hord, HI, ⟨Hlev, ⟨HatB, HrB⟩, ⟨Hsnd, Hrcv, Hw⟩, ⟨HtB, HtS, HtW⟩, HcB, HcR⟩, Hx, Ho, ⟨%g, Hxb⟩, Hr, Hs, HwA, HO⟩
  iexists g
  ihave Hr := (rcv_split (F := F) c) $$ Hr
  ihave Hs := (ring_split (F := F) c) $$ Hs
  ihave Hrcv' := (Entails.of_eq (bigSep_sep' Finset.univ (fun j : Dev nD => (atPos ER (rcvC c j) 0 ∅ 0 : sProp 𝕄)) (fun j : Dev nD => reached ER (rcvC c j) 0))) $$ Hrcv
  icases Hrcv' with ⟨Hrat, Hrre⟩
  ihave Hsnd' := (Entails.of_eq (bigSep_ord1 c (fun j : Dev nD => iprop(atPos ER (sndC c j) 0 ∅ 0 ∗ reached ER (sndC c j) 0)))) $$ Hsnd
  icases Hsnd' with ⟨⟨HsC, -⟩, Hsnd⟩
  ihave Hrat' := (Entails.of_eq (bigSep_ord1 c (fun j : Dev nD => (atPos ER (rcvC c j) 0 ∅ 0 : sProp 𝕄)))) $$ Hrat
  icases Hrat' with ⟨HrC, Hrat⟩
  isplitl [Hord]; · iexact Hord
  isplitl [HI]; · iexact HI
  isplitl [Hlev HatB HcB HsC HrC]
  · isplitl [Hlev]; · iexact Hlev
    isplitl [HatB]; · iexact HatB
    isplitl [HcB]; · iexact HcB
    isplitl [HsC] <;> iassumption
  isplitl [HtB HrB Hr Hrre]
  · have e : (bigSep (Finset.Ico 0 16) (sigTok (F := F) c) : sProp 𝕄)
        = bigSep Finset.univ (fun p : Dev nD => iprop(dutyTok ER (barC p) 0 c ∗ reached ER (barC p) 0 ∗ (∃ f, rcvP c p f) ∗ reached ER (rcvC c p) 0)) :=
      (bigSep_dv (fun p : Dev nD => iprop(dutyTok ER (barC p) 0 c ∗ reached ER (barC p) 0 ∗ (∃ f, rcvP c p f) ∗ reached ER (rcvC c p) 0))).symm
    rw [e, bigSep_sep', bigSep_sep', bigSep_sep']
    isplitl [HtB]; · iexact HtB
    isplitl [HrB]; · iexact HrB
    isplitl [Hr] <;> iassumption
  isplitl [Hx]; · iexact Hx
  isplitl [Hxb]; · iexact Hxb
  isplitl [Hsnd HtS]
  · iapply (sends_ready (F := F) c)
    isplitl [Hsnd] <;> iassumption
  isplitl [HcR Hrat]
  · iapply (receives_ready D c)
    isplitl [HcR] <;> iassumption
  isplitl [Hs Hw HtW HwA]
  · iapply (loads_ready D c)
    isplitl [Hs]; · iexact Hs
    isplitl [Hw]; · iexact Hw
    isplitl [HtW] <;> iassumption
  isplitl [Ho]; · iexact Ho
  iexact HO

/-! ## Opening and closing the device's own cells -/

theorem open_own : iprop(IV D K ∗ bigSep Finset.univ (fun k : OS => iprop(openTok ER ((c : Thread nD τ), osem k) ∗ semVal ((c : Thread nD τ), osem k) 0)))
    ⊢ (|={Set.univ}=> own0 c : sProp 𝕄) := by
  refine BIBase.Entails.trans ?_ (bigSep_fupd _ _)
  refine bigSep_with_persistent fun k _ => ?_
  iintro ⟨HI, Ho, Hv⟩
  ihave HI := (IV_get D K (own_mem c k)) $$ HI
  iapply (Rounds.cell_open ER (rd D) (g := ((c : Thread nD τ), osem k)) (Set.mem_univ (K ((c : Thread nD τ), osem k))))
  isplitl [HI]; · iexact HI
  isplitl [Ho] <;> iassumption

theorem close_all {I : Type} [DecidableEq I] (s : Finset I) (g : I → GSem nD τ sig) (R : I → ℕ) (hg : ∀ k ∈ s, g k ∈ cells)
    (hR : ∀ k ∈ s, ∀ r, R k ≤ r → (rd D).duties (g k) r = ∅) :
    iprop(IV D K ∗ bigSep s (fun k => atPos ER (g k) (R k) ∅ 0)) ⊢ (|={Set.univ}=> bigSep s (fun k => semVal (g k) 0) : sProp 𝕄) := by
  refine BIBase.Entails.trans ?_ (bigSep_fupd _ _)
  refine bigSep_with_persistent fun k hk => ?_
  iintro ⟨HI, Ha⟩
  ihave HI := (IV_get D K (hg k hk)) $$ HI
  iapply (Rounds.cell_close ER (rd D) (Set.mem_univ (K (g k))) id (R := R k) (hR k hk))
  isplitl [HI] <;> iassumption
theorem close_one (g : GSem nD τ sig) (R : ℕ) (hg : g ∈ cells) (hR : ∀ r, R ≤ r → (rd D).duties g r = ∅) :
    iprop(IV D K ∗ atPos ER g R ∅ 0) ⊢ (|={Set.univ}=> semVal g 0 : sProp 𝕄) := by
  iintro ⟨HI, Ha⟩
  ihave HI := (IV_get D K hg) $$ HI
  iapply (Rounds.cell_close ER (rd D) (Set.mem_univ (K g)) id (R := R) hR)
  isplitl [HI] <;> iassumption

/-! ## The end -/

theorem leave (f : S256x8192.Idx → Elt F .f32) : St D K c (MS D c 16 16 16 16 16 f)
    ⊢ (|={Set.univ}=> iprop(ordP c ∗ xP D c ∗ outP c f ∗ (∃ g, xbfA c g) ∗ (∃ r, rcvA c r) ∗ (∃ r, ringA c r) ∗ wA c (D.w c)
      ∗ bigSep Finset.univ (fun k : OS => semVal ((c : Thread nD τ), osem k) 0) ∗ semVal (barC c) 0 ∗ Ow c 0) : sProp 𝕄) := by
  unfold St MS Wst Keep Sst Rst barPay
  rw [show (16 : ℕ) - 3 = 13 from rfl]
  simp only [ico_self, owR_end, show Finset.Ico 16 3 = (∅ : Finset ℕ) from by decide, bigSep_empty]
  iintro ⟨Hord, #HI, ⟨-, -, Hslot, -, HwA⟩, ⟨HaB, ⟨⟨%f0, Hr0⟩, -⟩, HaS0, HaR0⟩, Hx, Hxb0, ⟨-, -, Hsnd⟩, ⟨-, Hrcv⟩, Ho, HO⟩
  ihave Hsnd' := (Entails.of_eq (bigSep_sep' _ _ _)) $$ Hsnd
  icases Hsnd' with ⟨Hxb, HaS⟩
  ihave Hrcv' := (Entails.of_eq (bigSep_sep' _ _ _)) $$ Hrcv
  icases Hrcv' with ⟨Hr, HaR⟩
  ihave Hslot' := (Entails.of_eq (bigSep_sep' _ _ _)) $$ Hslot
  icases Hslot' with ⟨Hs, Hslot⟩
  ihave Hslot' := (Entails.of_eq (bigSep_sep' _ _ _)) $$ Hslot
  icases Hslot' with ⟨HaW, -⟩
  imod (close_one D K (barC c) 1 (bar_mem c) (duties_bar_later D c)) $$ [HaB] with HvB
  · isplitr; · iexact HI
    iexact HaB
  imod (close_one D K (sndC c c) 0 (own_mem c (.inl c)) (duties_snd_later D c c 0 (.inr rfl))) $$ [HaS0] with HvS0
  · isplitr; · iexact HI
    iexact HaS0
  imod (close_one D K (rcvC c c) 0 (own_mem c (.inr (.inl c))) (duties_rcv_later D c c 0 (.inr rfl))) $$ [HaR0] with HvR0
  · isplitr; · iexact HI
    iexact HaR0
  imod (close_all D K (Finset.Ico 1 16) (fun k => sndC c (ord c k)) (fun _ => 1) (fun k _ => own_mem c (.inl (ord c k)))
    (fun k _ => duties_snd_later D c (ord c k) 1 (.inl le_rfl))) $$ [HaS] with HvS
  · isplitr; · iexact HI
    iexact HaS
  imod (close_all D K (Finset.Ico 1 16) (fun k => rcvC c (ord c k)) (fun _ => 1) (fun k _ => own_mem c (.inr (.inl (ord c k))))
    (fun k _ => duties_rcv_later D c (ord c k) 1 (.inl le_rfl))) $$ [HaR] with HvR
  · isplitr; · iexact HI
    iexact HaR
  imod (close_all D K (Finset.Ico 13 16) (fun i => wC c (sl i)) (fun i => i / 3 + 1) (fun i _ => own_mem c (.inr (.inr (sl i))))
    (fun i hi => duties_w_later D c (sl i) (i / 3 + 1) (by have := (Finset.mem_Ico.mp hi).1; have := sl_div i; omega))) $$ [HaW] with HvW
  · isplitr; · iexact HI
    iexact HaW
  imodintro
  rw [vals_eq, bigSep_ord1 c (fun j => semVal (sndC c j) 0), bigSep_ord1 c (fun j => semVal (rcvC c j) 0),
    bigSep_sl' (fun s : Fin 3 => semVal (wC c s) 0), w_split]
  isplitl [Hord]; · iexact Hord
  isplitl [Hx]; · iexact Hx
  isplitl [Ho]; · iexact Ho
  isplitl [Hxb0 Hxb]
  · iexists D.xb c
    iapply (xbf_join c (D.xb c))
    isplitl [Hxb0] <;> iassumption
  isplitl [Hr0 Hr]
  · iapply (rcv_join c f0)
    rw [bigSep_ord1 c]
    isplitl [Hr0]; · iexists f0; iexact Hr0
    iapply (some_all (Finset.Ico 1 16) (fun k f => (rcvP c (ord c k) f : sProp 𝕄)) fun _ => D.land c)
    iexact Hr
  isplitl [Hs]
  · iapply (ring_join c (D.ring c 0))
    iapply (some_all (Finset.Ico 13 16) (fun i f => (slotP c (sl i) f : sProp 𝕄)) fun i => D.ring c i)
    iexact Hs
  isplitl [HwA]; · iexact HwA
  isplitl [HvS0 HvS HvR0 HvR HvW]
  · isplitl [HvS0 HvS]
    · isplitl [HvS0] <;> iassumption
    isplitl [HvR0 HvR]
    · isplitl [HvR0] <;> iassumption
    iexact HvW
  isplitl [HvB] <;> iassumption

end Cert.KernelIdeal.AG

end
-- ==== Proof.KernelIdeal.Row.lean ====
/-
The order row: the host lines of the entry point leave, on device `c`, row `c` of the table of visiting orders.
-/
module

public import proofs.«01_k».proof.Proof.KernelIdeal.Steps
public import proofs.«01_k».proof.Proof.Gen.KernelIdeal.Regions
public import Idealize.ShloMosaic.Lib.DynamicIndex

@[expose] public section

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The row a device takes of the table: the word of its own number, through the host's index arithmetic. -/
def rowIdx (c : Dev nD) : BitVec 32 :=
  let v : IVec S_ 32 := Host.remui (Host.divui (constantI S_ 32 (Dev.word c)) (constantI S_ 32 1#32)) (constantI S_ 32 16#32)
  select (cmpi .slt v (constantI S_ 32 0#32)) (addi v (constantI S_ 32 16#32)) v (Shape.Idx.first h_S_)
theorem rowIdx_eq : ∀ c : Dev nD, (rowIdx c).toInt = (c.val : Int) := by decide +kernel

/-- The host lines before the table is read. -/
abbrev pre20 (c : Dev nD) : Valuation τ sig (Elt F) := StableHlo.after ((hostOps0 c).take 20) (V0 m c)

theorem v7_eq (c : Dev nD) : (pre20 m c (Proc.devRef .tc main_v7) : S_.Idx → BitVec 32) (Shape.Idx.first h_S_) = rowIdx c := by
  show StableHlo.after (_ :: _) _ _ _ = _
  after_results
  rfl
theorem v10_eq (c : Dev nD) : (pre20 m c (Proc.devRef .tc main_v10) : S_.Idx → BitVec 32) (Shape.Idx.first h_S_) = 0#32 := by
  show StableHlo.after (_ :: _) _ _ _ = _
  after_results
  rfl

theorem row_slices (c : Dev nD) : S16x16.Slices ![c.val, 0] S1x16 := by
  have h : c.val < 16 := c.isLt
  refine ⟨rfl, fun a => ?_⟩
  fin_cases a <;> (simp; try omega)

/-- Place `k` of a row of sixteen. -/
def place (k : Fin 16) : S16.Idx := fun a => Fin.cast (by fin_cases a; rfl) k

/-- Row `c` of the table, flattened, holds at place `k` the table's word. -/
theorem row_word : ∀ (c : Dev nD) (k : Fin 16),
    shapeCast S16 (extractStridedSlice S1x16 ![c.val, 0] (fun i => lit0 (S16x16.rowMajor i)) (row_slices c)) shapeCasts_S1x16_S16
      (place k) = tabWord c k := by decide +kernel

theorem row_eq (c : Dev nD) : V1 m c (Proc.devRef .tc main_v12) = ordRow (F := F) c := by
  unfold V1
  after_results
  rw [Host.dynamicSlice_eq_extractStridedSlice S1x16 _ _ ![c.val, 0] _ (row_slices c) (fun a => by
    fin_cases a
    · exact (congrArg BitVec.toInt (v7_eq m c)).trans (rowIdx_eq c)
    · exact congrArg BitVec.toInt (v10_eq m c))]
  funext i
  unfold ordRow
  have hi : i = place (i 0) := funext fun a => by fin_cases a; rfl
  refine Eq.trans ?_ ((row_word c (i 0)).trans ((tabWord_eq c (i 0)).trans (congrArg Dev.word (ord_fin c (i 0)).symm)))
  rw [← hi]
  rfl

end Cert.KernelIdeal.AG

end
-- ==== Proof.KernelIdeal.Region.lean ====
/-
The call as a region of the entry point: its proof data, the obligation of its body, and what it takes and leaves.
-/
module

public import proofs.«01_k».proof.Proof.KernelIdeal.Entry
public import proofs.«01_k».proof.Proof.KernelIdeal.Row
public import proofs.«01_k».proof.Proof.Gen.KernelIdeal.Points
public import Idealize.ShloMosaic.Lib.Pipeline.RegionTalk

@[expose] public section

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
open Idealize.ShloMosaic.Pipeline (Dat Cfg BodyObligation cellOf)

variable (m : (ℓ : Loc nD τ sig) → Buf (Elt F) ℓ)

/-! ## The data and the windows -/

/-- What each device's two arguments hold when the call begins. -/
def dm : Data F where
  x c := V1 m c (Proc.devRef .tc main_arg0)
  w c := V1 m c (Proc.devRef .tc main_arg1)

/-- What the call leaves in the result, on each device. -/
def outs : Outs (F := F) := fun _ r c => if h : r = main_v13 then h ▸ (acc (dm m) c 15) else V1 m c r
theorem outs_eq (c : Dev nD) : outs m 2 main_v13 c = acc (dm m) c 15 := by unfold outs; rw [dif_pos rfl]

/-- The buffers as the call leaves them. -/
abbrev VF (c : Dev nD) : Valuation τ sig (Elt F) := V2 m (outs m) c

/-- A whole array read through its one block is itself. -/
theorem read_whole0 (t : Fin cfg0.N) (A : S16.Idx → Elt F .i32) : (win0_0.blk t).view.read (Elt F) A = A := by
  funext i; refine congrArg A (funext fun a => Fin.ext ?_)
  show 0 * _ + _ = _
  simp
theorem read_whole1 (t : Fin cfg0.N) (A : S4096x256.Idx → Elt F .f32) : (win0_1.blk t).view.read (Elt F) A = A := by
  funext i; refine congrArg A (funext fun a => Fin.ext ?_)
  show 0 * _ + _ = _
  simp
theorem read_whole2 (t : Fin cfg0.N) (A : S256x8192.Idx → Elt F .f32) : (win0_2.blk t).view.read (Elt F) A = A := by
  funext i; refine congrArg A (funext fun a => Fin.ext ?_)
  show 0 * _ + _ = _
  simp

/-! ## The proof data -/

/-- What the call holds before its one point beside its windows. -/
def Xk (c : Dev nD) : sProp 𝕄 := iprop(∃ K, IV (dm m) K ∗ (levAts L lv ∗ bar0 c ∗ own0 c ∗ pay c ∗ crd c))

/-- The scratch buffers at some contents. -/
abbrev scr (c : Dev nD) : sProp 𝕄 := iprop((∃ g, xbfA (F := F) c g) ∗ (∃ r, rcvA (F := F) c r) ∗ (∃ r, ringA (F := F) c r))

def Φ0 (c : Dev nD) : sProp 𝕄 := iprop(Xk m c ∗ scr c ∗ (∃ r, prngReg c r) ∗ wA c ((dm m).w c))
def Φ1 (c : Dev nD) : sProp 𝕄 := iprop(bigSep Finset.univ (fun k : OS => semVal ((c : Thread nD τ), osem k) 0) ∗ semVal (barC c) 0 ∗ scr c ∗ (∃ r, prngReg c r) ∗ wA c ((dm m).w c))

def dat (c : Dev nD) : Dat τ (Elt F) Unit ℕ UU ℕ cfg0 c where
  A w := V1 m c (Proc.devRef .tc (Pipeline.arrRef spec0 w))
  after w := match w with
    | (0 : Fin 3) => fun _ => ordRow (F := F) c
    | (1 : Fin 3) => fun _ => (dm m).x c
    | (2 : Fin 3) => fun _ => acc (dm m) c 15
  Φ t := if t.val = 0 then Φ0 m c else Φ1 m c
  q _ := fullShare
  owed t := if t.val = 0 then O₀ c else 0

theorem owes_intro (c : Dev nD) (t : Fin (cfg0.N + 1)) (O : CellTallies nD τ sig Unit) (h0 : (dat m c).owed t = O) :
    (Ow c O : sProp 𝕄) ⊢ ((dat m c).owesAt () t : sProp 𝕄) := by
  unfold Dat.owesAt Pipeline.owesWithin Dat.bound; rw [h0]
  iintro ⟨%W, HO⟩; iexists W; isplitr; · ipureintro; exact fun _ _ => Or.inl trivial
  iexact HO
theorem owes_elim (c : Dev nD) (t : Fin (cfg0.N + 1)) (O : CellTallies nD τ sig Unit) (h0 : (dat m c).owed t = O) :
    ((dat m c).owesAt () t : sProp 𝕄) ⊢ (Ow c O : sProp 𝕄) := by
  unfold Dat.owesAt Pipeline.owesWithin; rw [h0]
  iintro ⟨%W, -, HO⟩; iexists W; iexact HO

theorem owed_eq (c : Dev nD) (t : Fin (cfg0.N + 1)) : (dat m c).owed t = if t.val = 0 then O₀ c else 0 := rfl
theorem Φ_eq (c : Dev nD) (t : Fin (cfg0.N + 1)) : (dat m c).Φ t = if t.val = 0 then Φ0 m c else Φ1 m c := rfl
theorem owed_first (c : Dev nD) : (dat m c).owed t0_0.castSucc = O₀ c := (owed_eq m c _).trans (if_pos rfl)
theorem owed_zero (c : Dev nD) : (dat m c).owed 0 = O₀ c := (owed_eq m c _).trans (if_pos rfl)
theorem owed_last (c : Dev nD) : (dat m c).owed t0_0.succ = 0 := (owed_eq m c _).trans (if_neg (by decide))
theorem owed_end (c : Dev nD) : (dat m c).owed (Fin.last _) = 0 := (owed_eq m c _).trans (if_neg (by decide))
theorem Φ_first (c : Dev nD) : (dat m c).Φ t0_0.castSucc = Φ0 m c := (Φ_eq m c _).trans (if_pos rfl)
theorem Φ_zero (c : Dev nD) : (dat m c).Φ 0 = Φ0 m c := (Φ_eq m c _).trans (if_pos rfl)
theorem Φ_last (c : Dev nD) : (dat m c).Φ t0_0.succ = Φ1 m c := (Φ_eq m c _).trans (if_neg (by decide))
theorem Φ_end (c : Dev nD) : (dat m c).Φ (Fin.last _) = Φ1 m c := (Φ_eq m c _).trans (if_neg (by decide))

/-- A whole buffer owned is its points-to. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem before0 (c : Dev nD) (d) : (dat m c).before (0 : Fin 3) t0_0 d = ordRow (F := F) c := by
  unfold Dat.before; rw [if_pos (fetch0_0 t0_0)]
  exact (read_whole0 (F := F) t0_0 _).trans (row_eq m c)
theorem before1 (c : Dev nD) (d) : (dat m c).before (1 : Fin 3) t0_0 d = (dm m).x c := by
  unfold Dat.before; rw [if_pos (fetch0_1 t0_0)]
  exact read_whole1 (F := F) t0_0 _

/-! ## The body -/

/-- What the call's body leaves. -/
abbrev Left (c : Dev nD) : sProp 𝕄 := iprop(ordP c ∗ xP (dm m) c ∗ outP c (acc (dm m) c 15) ∗ (∃ g, xbfA c g) ∗ (∃ r, rcvA c r) ∗ (∃ r, ringA c r)
  ∗ wA c ((dm m).w c) ∗ bigSep Finset.univ (fun k : OS => semVal ((c : Thread nD τ), osem k) 0) ∗ semVal (barC c) 0 ∗ Ow c 0)

/-- The body from the call's entry to its exit. -/
theorem body_run (K : GSem nD τ sig → ℕ) (c : Dev nD) (f : S256x8192.Idx → Elt F .f32) :
    iprop(ordP c ∗ IV (dm m) K ∗ (levAts L lv ∗ bar0 c ∗ own0 c ∗ pay c ∗ crd c) ∗ xP (dm m) c ∗ outP c f ∗ (∃ g, xbfA c g) ∗ (∃ r, rcvA c r)
      ∗ (∃ r, ringA c r) ∗ wA c ((dm m).w c) ∗ Ow c (O₀ c))
    ⊢ WP c (cc0_body ordM (Memref.isWhole_whole _) xM (Memref.isWhole_whole _) wM (Memref.isWhole_whole _) outM (Memref.isWhole_whole _)
      xbfM (Memref.isWhole_whole _) rcvM (Memref.isWhole_whole _) ringM (Memref.isWhole_whole _) cc0_scratch3 cc0_scratch4 cc0_scratch5) (fun _ => Left m c) := by
  generalize hD : dm m = D
  unfold Left
  rw [hD]
  refine (enter D K c f).trans ?_
  refine sProp.exists_elim fun g => ?_
  refine BIBase.Entails.trans ?_ (wp_fupd _ _ _ _ _)
  exact whole_body D K c (leave D K c (acc D c 15))

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem at0 (c : Dev nD) : (dat m c).after (0 : Fin 3) t0_0 = ordRow (F := F) c := rfl
theorem at1 (c : Dev nD) : (dat m c).after (1 : Fin 3) t0_0 = (dm m).x c := rfl
theorem at2 (c : Dev nD) : (dat m c).after (2 : Fin 3) t0_0 = acc (dm m) c 15 := rfl
theorem defs_body : (defs₀ (F := F) Proc.tc (0 : Fin 1) (t0_0, cfg0.slots t0_0)) = bodyAt0 (F := F) t0_0 := rfl
theorem theBody : (bodyAt0 (F := F) t0_0) = cc0_body ordM (Memref.isWhole_whole _) xM (Memref.isWhole_whole _) wM (Memref.isWhole_whole _) outM (Memref.isWhole_whole _)
      xbfM (Memref.isWhole_whole _) rcvM (Memref.isWhole_whole _) ringM (Memref.isWhole_whole _) cc0_scratch3 cc0_scratch4 cc0_scratch5 := rfl

set_option maxRecDepth 8000 in
theorem body (c : Dev nD) : BodyObligation (dat m c) defs₀ 𝒱₀ () Set.univ := fun t => by
  obtain rfl := fin_N0 t
  rw [bigSep_W0, bigSep_W0, Φ_first, Φ_last]
  simp only [owns_whole]
  rw [at0, at1, at2]
  rw [defs_body]
  rw [theBody]
  unfold Φ0 Xk Φ1
  iintro ⟨⟨⟨%K, HI, Hg⟩, ⟨Hxb, Hr, Hs⟩, Hreg, Hw⟩, HO, ⟨%d0, %f0, %h0, H0⟩, ⟨%d1, %f1, %h1, H1⟩, ⟨%d2, %f2, -, H2⟩⟩
  obtain rfl := h0.trans (before0 m c d0)
  obtain rfl := h1.trans (before1 m c d1)
  ihave HO := (owes_elim m c _ (O₀ c) (owed_first m c)) $$ HO
  iapply (wp_wand _ _ _) $$ [HI Hg Hxb Hr Hs Hw HO H0 H1 H2]
  · iapply (body_run m K c f2)
    isplitl [H0]; · iexact H0
    isplitl [HI]; · iexact HI
    isplitl [Hg]; · iexact Hg
    isplitl [H1]; · iexact H1
    isplitl [H2]; · iexact H2
    isplitl [Hxb]; · iexact Hxb
    isplitl [Hr]; · iexact Hr
    isplitl [Hs]; · iexact Hs
    isplitl [Hw] <;> iassumption
  iintro %u ⟨H0, H1, H2, Hxb, Hr, Hs, Hw, Hv, Hb, HO⟩
  isplitl [Hv Hb Hxb Hr Hs Hreg Hw]
  · isplitl [Hv]; · iexact Hv
    isplitl [Hb]; · iexact Hb
    isplitl [Hxb Hr Hs]
    · isplitl [Hxb]; · iexact Hxb
      isplitl [Hr] <;> iassumption
    isplitl [Hreg] <;> iassumption
  isplitl [HO]; · iapply (owes_intro m c t0_0.succ 0 (owed_last m c)); iexact HO
  isplitl [H0]
  · iexists (ordRow (F := F) c); isplitr; · ipureintro; rfl
    iexact H0
  isplitl [H1]
  · iexists ((dm m).x c); isplitr; · ipureintro; rfl
    iexact H1
  iexists (acc (dm m) c 15); isplitr; · ipureintro; rfl
  iexact H2

end Cert.KernelIdeal.AG

end
-- ==== Proof.KernelIdeal.Call.lean ====
/-
The record of the gather's call: what a device brings to it, what it takes away, and what its arrays hold.
-/
module

public import proofs.«01_k».proof.Proof.KernelIdeal.Region

@[expose] public section

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
open Idealize.ShloMosaic.Pipeline (Dat Cfg BodyObligation cellOf)

variable (m : (ℓ : Loc nD τ sig) → Buf (Elt F) ℓ) (ρ : Dev nD → PrngReg)

/-! ## The call's record -/

/-- The buffer the body addresses itself: the right factor. -/
def Hs : Finset (DevRef τ sig) := {Proc.devRef .tc main_arg1}
/-- The unscoped buffers that are no window's array. -/
abbrev Sr : Finset (DevRef τ sig) := Pipeline.ucRefs τ sig \ Pipeline.arrRefs (τ := τ) spec0
theorem arg1_mem : (Proc.devRef .tc main_arg1 : DevRef τ sig) ∈ Sr := by
  refine Finset.mem_sdiff.mpr ⟨Finset.mem_filter.mpr ⟨StableHlo.devRef_mem_tcRefs main_arg1, by decide⟩, ?_⟩
  decide
theorem Hs_sub : Hs ⊆ Sr := Finset.singleton_subset_iff.mpr arg1_mem
theorem v13_arr : (Proc.devRef .tc main_v13 : DevRef τ sig) ∈ Pipeline.arrRefs (τ := τ) spec0 := by decide

/-- What a device brings to the call from the launch. -/
def Tk (c : Dev nD) : sProp 𝕄 :=
  iprop((∃ K, IV (dm m) K ∗ (bar0 c ∗ bigSep Finset.univ (fun k : OS => openTok ER ((c : Thread nD τ), osem k)) ∗ pay c)) ∗ crd c)
/-- What it takes away. -/
def Yk (c : Dev nD) : sProp 𝕄 := semVal (barC c) 0

theorem hopen (c : Dev nD) : iprop(Tk m c ∗ Pipeline.ownSems0 osem c ∗ levAts L lv) ⊢ (|={Set.univ}=> Xk m c : sProp 𝕄) := by
  unfold Tk Xk Pipeline.ownSems0
  iintro ⟨⟨⟨%K, #HI, Hb, Ho, Hp⟩, Hc⟩, Hv, Hlev⟩
  ihave Hov := (Entails.of_eq (bigSep_sep' Finset.univ (fun k : OS => (openTok ER ((c : Thread nD τ), osem k) : sProp 𝕄))
    (fun k : OS => semVal ((c : Thread nD τ), osem k) 0)).symm) $$ [Ho Hv]
  · isplitl [Ho]; · iexact Ho
    iexact Hv
  imod (open_own (dm m) K c) $$ [Hov] with Hown
  · isplitr; · iexact HI
    iexact Hov
  imodintro
  iexists K
  isplitr; · iexact HI
  isplitl [Hlev]; · iexact Hlev
  isplitl [Hb]; · iexact Hb
  isplitl [Hown]; · iexact Hown
  isplitl [Hp] <;> iassumption

theorem held_Hs (c : Dev nD) (W : Valuation τ sig (Elt F)) :
    (StableHlo.held (c.tc : Thread nD τ) Hs W : sProp 𝕄) = wA c (W (Proc.devRef .tc main_arg1)) := by
  unfold StableHlo.held Hs; rw [bigSep_singleton]
theorem rest_eq (c : Dev nD) : (Pipeline.scopedRest (Ix := Unit) (Name := ℕ) (U := UU) (Lvl := ℕ) (Val := Elt F) spec0 c : sProp 𝕄) = scr c := by
  rw [scopedRest0_eq]; rfl
theorem VF_arg1 (c : Dev nD) : VF m c (Proc.devRef .tc main_arg1) = V1 m c (Proc.devRef .tc main_arg1) := V2_of m (outs m) c main_arg1 (by decide)

theorem hin (c : Dev nD) : iprop(Pipeline.scopedRest spec0 c ∗ (∃ r, prngReg c r) ∗ StableHlo.held (c.tc : Thread nD τ) Hs (V1 m c) ∗ Xk m c)
    ⊢ ((dat m c).Φ 0 : sProp 𝕄) := by
  rw [Φ_zero, held_Hs, rest_eq]
  unfold Φ0
  iintro ⟨Hs, Hr, Hw, HX⟩
  isplitl [HX]; · iexact HX
  isplitl [Hs]; · iexact Hs
  isplitl [Hr]; · iexact Hr
  iexact Hw
theorem hout (c : Dev nD) : (dat m c).Φ (Fin.last cfg0.N)
    ⊢ (iprop(Pipeline.scopedRest spec0 c ∗ (∃ r, prngReg c r) ∗ StableHlo.held (c.tc : Thread nD τ) Hs (VF m c) ∗ Pipeline.ownSems0 osem c ∗ Yk c) : sProp 𝕄) := by
  rw [Φ_end, held_Hs, rest_eq, VF_arg1]
  unfold Φ1 Pipeline.ownSems0 Yk
  iintro ⟨Hv, Hb, Hs, Hr, Hw⟩
  isplitl [Hs]; · iexact Hs
  isplitl [Hr]; · iexact Hr
  isplitl [Hw]; · iexact Hw
  isplitl [Hv] <;> iassumption

theorem cover2 (i : S256x8192.Idx) : i ∈ (win0_2.blk t0_0).view.set := by
  have e : (win0_2.blk t0_0).view.emb i = i := funext fun a => Fin.ext (by
    show 0 * _ + _ = _
    simp)
  have h := (win0_2.blk t0_0).view.emb_mem_set i
  rwa [e] at h
theorem flushed2 (c : Dev nD) (t : Fin cfg0.N) : (dat m c).flushed (2 : Fin 3) t = acc (dm m) c 15 := rfl
theorem arr_end2 (c : Dev nD) : (dat m c).arrAt (2 : Fin 3) cfg0.N = acc (dm m) c 15 :=
  (dat m c).arrAt_eq_of_cover (2 : Fin 3) (acc (dm m) c 15)
    (fun t _ => (flushed2 m c t).trans (read_whole2 (F := F) t (acc (dm m) c 15)).symm) (fun i => ⟨t0_0, flush0_2 t0_0, cover2 i⟩)

def pdats : (p : Fin 1) → (c : Dev nD) → Dat τ (Elt F) Unit ℕ UU ℕ (cfgs p) c := fun _ c => dat m c

theorem arrs_start (c : Dev nD) (w : Fin 3) : (dat m c).arrAt w 0 = V1 m c (Proc.devRef .tc (Pipeline.arrRef spec0 w)) := rfl
theorem arrs_end (c : Dev nD) (w : Fin 3) : (dat m c).arrAt w cfg0.N = VF m c (Proc.devRef .tc (Pipeline.arrRef spec0 w)) := by
  fin_cases w
  · exact ((dat m c).arrAt_in (0 : Fin 3) rfl _).trans (V2_of m (outs m) c main_v12 (by decide)).symm
  · exact ((dat m c).arrAt_in (1 : Fin 3) rfl _).trans (V2_of m (outs m) c main_arg0 (by decide)).symm
  · refine (arr_end2 m c).trans ?_
    show _ = Function.update (V1 m c) (Proc.devRef .tc main_v13) (outs m 2 main_v13 c) (Proc.devRef .tc main_v13)
    rw [Function.update_self, outs_eq]

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem own_facts : Pipeline.OwnSemFacts spec0 osem := by decide

theorem cut_owed (c : Dev nD) (t : Fin (cfg0.N + 1)) (g : GSem nD τ sig) (i : Unit) (h : 0 < (dat m c).owed t g i) : i ∈ L g ∧ (0 : ℕ) < lv g i := by
  rw [owed_eq] at h
  split at h
  · rcases O₀_pos h with ⟨p, rfl⟩ | ⟨p, rfl⟩
    · exact ⟨by rw [L_tc]; exact Finset.mem_singleton_self _, by rw [lv_rcv]; decide⟩
    · exact ⟨by rw [L_tc]; exact Finset.mem_singleton_self _, by rw [lv_bar]; decide⟩
  · exact absurd h (Nat.lt_irrefl 0)

theorem hrest (c : Dev nD) (b : DevRef τ sig) (hb : b ∈ Sr \ Hs) : VF m c b = V1 m c b :=
  Function.update_of_ne (fun h => by subst h; exact (Finset.mem_sdiff.mp (Finset.mem_sdiff.mp hb).1).2 v13_arr) _ _

theorem lv_stage (c : Dev nD) (q : DmaSem sig) (hq : q.val < 3) : lv ((c : Thread nD τ), .dma q) () ≤ 0 := by
  unfold lv
  rw [show kind (SemLoc.dma q) = .other from by
    show kindDma q = _
    unfold kindDma; rw [dif_neg (by omega), dif_neg (by omega), dif_neg (by omega)]]
theorem stage_lt : ∀ (w : Fin 3) (s : Fin (spec0 w).nbuf), ((spec0 w).sem s).val < 3 := by decide

set_option backward.isDefEq.respectTransparency.types false in
/-- The call's record. -/
def reg0 : Pipeline.RegionSeg (Name := ℕ) (U := UU) (pcfgs (F := F)) adm (pdats m) () defs₀ 𝒱₀ L lv 0 :=
  Pipeline.RegionSeg.ofTalk (pcfgs (F := F)) adm (pdats m) () defs₀ 𝒱₀ L lv 0 osem own_facts
    Hs Sr Hs_sub kitP rfl (fun c => (body m c).loose)
    (fun _ => 0) O₀ (fun c => (owed_zero m c).trans (zero_add _).symm) (fun c => owed_end m c) (fun _ => rfl)
    (fun c w => by unfold Dat.share; split <;> rfl)
    (V1 m) (VF m) (hrest m)
    (Tk m) Yk (Xk m) Yk (hopen m) (hin m) (hout m)
    (fun c => by iintro H; imodintro; iexact H)
    (fun _ => 0)
    ⟨fun c w s => by rw [L_tc]; exact Finset.mem_singleton_self _, fun c w s => lv_stage c _ (stage_lt w s), fun c t g i h => cut_owed m c t g i h⟩
    (fun _ => iprop(emp))
    (arrs_start m) (arrs_end m)

/-- What a device carries up to the call: its buffers after the host operations, what the launch dealt it, its generator register, and what it owes. -/
def Rd (c : Dev nD) : sProp 𝕄 := iprop(Tk m c ∗ (∃ r, prngReg c r) ∗ ∃ W, owes (c : Thread nD τ) (O₀ c) W)

theorem held_split (c : Dev nD) (W : Valuation τ sig (Elt F)) :
    (StableHlo.held (c.tc : Thread nD τ) (Pipeline.ucRefs τ sig) W : sProp 𝕄)
      = iprop(StableHlo.held (c.tc : Thread nD τ) (Pipeline.arrRefs (τ := τ) spec0) W ∗ StableHlo.held (c.tc : Thread nD τ) Sr W) :=
  StableHlo.held_sub_split (c.tc : Thread nD τ) (Pipeline.arrRefs_sub_ucRefs spec0 (by decide)) W

theorem reg0_pre (c : Dev nD) : iprop(StableHlo.held (c : Thread nD τ) (Pipeline.ucRefs τ sig) (V1 m c) ∗ Rd m c) ⊢ (reg0 m).pre c := by
  show _ ⊢ iprop(StableHlo.held (c.tc : Thread nD τ) (Pipeline.arrRefs (τ := τ) spec0) (V1 m c) ∗ (∃ r, prngReg c r)
    ∗ (StableHlo.held (c.tc : Thread nD τ) Sr (V1 m c) ∗ emp) ∗ Tk m c ∗ ∃ Wd, owes (c : Thread nD τ) (0 + O₀ c) Wd)
  rw [held_split, zero_add]
  unfold Rd
  iintro ⟨⟨Ha, Hs⟩, HT, Hp, HO⟩
  isplitl [Ha]; · iexact Ha
  isplitl [Hp]; · iexact Hp
  isplitl [Hs]
  · isplitl [Hs]; · iexact Hs
    iempintro
  isplitl [HT]; · iexact HT
  iexact HO

theorem reg0_post (c : Dev nD) : (reg0 m).post c
    ⊢ iprop((StableHlo.held (c : Thread nD τ) (Pipeline.ucRefs τ sig) (VF m c) ∗ semVal (barC c) 0)
      ∗ ∃ W, owes (c : Thread nD τ) (0 : CellTallies nD τ sig Unit) W) := by
  show iprop(StableHlo.held (c.tc : Thread nD τ) (Pipeline.arrRefs (τ := τ) spec0) (VF m c) ∗ (∃ r, prngReg c r)
    ∗ (StableHlo.held (c.tc : Thread nD τ) Sr (VF m c) ∗ emp) ∗ Yk c ∗ ∃ Wd, owes (c : Thread nD τ) (0 : CellTallies nD τ sig Unit) Wd) ⊢ _
  rw [held_split]
  unfold Yk
  iintro ⟨Ha, -, ⟨Hs, -⟩, Hb, HO⟩
  isplitr [HO]
  · isplitr [Hb]
    · isplitl [Ha] <;> iassumption
    · iexact Hb
  iexact HO

end Cert.KernelIdeal.AG

end
-- ==== Proof.KernelIdeal.Deal.lean ====
/-
What the launch deals out: the credits every device starts with, the cells, and the tokens of the duties each device pays.
-/
module

public import proofs.«01_k».proof.Proof.KernelIdeal.Entry
public import Idealize.ShloMosaic.Lib.SparseCore.Launch

@[expose] public section

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The credits -/

theorem kind_inj {a b : SemLoc sig} (h : kind a ≠ kind b) : a ≠ b := fun e => h (congrArg kind e)
theorem bar_ne_rcv (c d j : Dev nD) : barC c ≠ rcvC d j := fun h => by
  have := congrArg (fun g : GSem nD τ sig => kind g.2) h
  simp only [kind_bar, kind_rcv] at this
  exact absurd this (by simp)
theorem barC_inj {c d : Dev nD} (h : barC c = barC d) : c = d := congrArg (fun g : GSem nD τ sig => g.1.1) h
theorem rcvC_inj {c d i j : Dev nD} (h : rcvC c i = rcvC d j) : c = d ∧ i = j := by
  refine ⟨congrArg (fun g : GSem nD τ sig => g.1.1) h, ?_⟩
  have := congrArg (fun g : GSem nD τ sig => kind g.2) h
  simp only [kind_rcv] at this
  exact Kind.rcv.inj this

theorem sum_at {s : Finset ℕ} {gf : ℕ → GSem nD τ sig} {n : ℕ} (g : GSem nD τ sig) :
    (∑ k ∈ s, tallyAt (gf k) () n : CellTallies nD τ sig Unit) g () = ∑ k ∈ s, if g = gf k then n else 0 := by
  rw [Finset.sum_apply, Finsupp.finsetSum_apply]
  exact Finset.sum_congr rfl fun k _ => by rw [tallyAt_apply]; simp

/-- Every device owes each barrier one unit. -/
theorem owed_bar (d c : Dev nD) : O₀ d (barC c) () = 1 := by
  unfold O₀
  rw [Pi.add_apply, Finsupp.add_apply, owR, owB, sum_at, sum_at]
  rw [Finset.sum_eq_zero (fun k _ => if_neg (bar_ne_rcv _ _ _)), Nat.zero_add,
    Finset.sum_eq_single c.val (fun k hk hne => if_neg fun h => hne ?_) (fun h => absurd (Finset.mem_Ico.mpr ⟨Nat.zero_le _, c.isLt⟩) h),
    if_pos (by rw [dv_val])]
  have := congrArg Fin.val (barC_inj h)
  simp only [dv] at this
  have h16 : k < 16 := (Finset.mem_Ico.mp hk).2
  rw [this, Nat.mod_eq_of_lt h16]

theorem ord_surj (c j : Dev nD) : ∃ k, k < 16 ∧ ord c k = j := by
  obtain ⟨k, hk⟩ := ordF_surj c j
  exact ⟨k.val, k.isLt, (ord_fin c k).trans hk⟩

/-- The device `j` alone owes device `c`'s receive cell `j`, and the block's bytes. -/
theorem owed_rcv (d c j : Dev nD) (hj : j ≠ c) : O₀ d (rcvC c j) () = if d = j then N else 0 := by
  unfold O₀
  rw [Pi.add_apply, Finsupp.add_apply, owR, owB, sum_at, sum_at]
  rw [Finset.sum_eq_zero (s := Finset.Ico 0 16) (fun k _ => if_neg (fun h => bar_ne_rcv _ _ _ h.symm)), Nat.add_zero]
  by_cases h : d = j
  · subst h
    rw [if_pos rfl]
    obtain ⟨k, hk, e⟩ := ord_surj d c
    have hk1 : 1 ≤ k := Nat.one_le_iff_ne_zero.mpr fun h0 => hj (by rw [← e, h0, ord_zero])
    rw [Finset.sum_eq_single k (fun i hi hne => if_neg fun h => hne ?_) (fun h => absurd (Finset.mem_Ico.mpr ⟨hk1, hk⟩) h), if_pos (by rw [e])]
    exact ord_inj d (Finset.mem_Ico.mp hi).2 hk ((rcvC_inj h).1.symm.trans e.symm)
  · rw [if_neg h]
    exact Finset.sum_eq_zero fun k _ => if_neg fun h' => h (rcvC_inj h').2.symm

theorem launch_bar (c : Dev nD) :
    tallyOn (barC c) (launchCredit (Pipeline.owing O₀) 0 (barC c)) = (tallyAt (barC c) () 16 : CellTallies nD τ sig Unit) := by
  unfold tallyAt; refine congrArg _ (Finsupp.ext fun u => ?_); cases u
  rw [Pipeline.launchCredit_owing, Finsupp.single_eq_same, Finset.sum_congr rfl fun d _ => owed_bar d c]
  rfl
theorem launch_rcv (c j : Dev nD) (hj : j ≠ c) :
    tallyOn (rcvC c j) (launchCredit (Pipeline.owing O₀) 0 (rcvC c j)) = (tallyAt (rcvC c j) () N : CellTallies nD τ sig Unit) := by
  unfold tallyAt; refine congrArg _ (Finsupp.ext fun u => ?_); cases u
  rw [Pipeline.launchCredit_owing, Finsupp.single_eq_same, Finset.sum_congr rfl fun d _ => owed_rcv d c j hj,
    Finset.sum_ite_eq' Finset.univ j fun _ => N, if_pos (Finset.mem_univ _)]

/-- A device's credit at launch: its barrier's sixteen units and every block it receives. -/
theorem creds (c : Dev nD) : (Pipeline.launchCred O₀ c : sProp 𝕄) ⊢ crd c := by
  unfold Pipeline.launchCred crd
  rw [bigSep_univ_at _ (SemLoc.reg barS), launch_bar]
  refine sep_mono_right ?_
  have hinj : Set.InjOn (fun k : ℕ => (SemLoc.dma (rcvS (ord c k)) : SemLoc sig)) (Finset.Ico 1 16 : Finset ℕ) := fun a ha b hb h => by
    have ha' := Finset.mem_Ico.mp ha; have hb' := Finset.mem_Ico.mp hb
    exact ord_inj c ha'.2 hb'.2 (Kind.rcv.inj (by rw [← kind_rcv, ← kind_rcv]; exact congrArg kind h))
  refine (bigSep_subset (t := (Finset.Ico 1 16).image fun k : ℕ => (SemLoc.dma (rcvS (ord c k)) : SemLoc sig)) ?_).trans ?_
  · intro g hg
    obtain ⟨k, _, rfl⟩ := Finset.mem_image.mp hg
    exact Finset.mem_erase.mpr ⟨kind_inj (by rw [kind_bar, kind_rcv]; simp), Finset.mem_univ _⟩
  · rw [bigSep_image_of_injOn hinj]
    refine bigSep_mono fun k hk => ?_
    have hk' := Finset.mem_Ico.mp hk
    rw [launch_rcv c (ord c k) (ord_ne c hk'.1 hk'.2)]
    exact BI.Entails.refl _

/-! ## The cells -/

theorem liveCells_exist : ∃ S : Finset (GSem nD τ sig), S = (Finset.univ : Finset (Dev nD)).image barC := ⟨_, rfl⟩
/-- The barrier cells. -/
def live : Finset (GSem nD τ sig) := Classical.choose liveCells_exist
theorem live_eq : live = (Finset.univ : Finset (Dev nD)).image barC := Classical.choose_spec liveCells_exist
theorem ownCells_exist : ∃ S : Finset (GSem nD τ sig), S = (Finset.univ : Finset (Dev nD × OS)).image fun x => ((x.1 : Thread nD τ), osem x.2) := ⟨_, rfl⟩
/-- The calls' own cells. -/
def dorm : Finset (GSem nD τ sig) := Classical.choose ownCells_exist
theorem dorm_eq : dorm = (Finset.univ : Finset (Dev nD × OS)).image fun x => ((x.1 : Thread nD τ), osem x.2) := Classical.choose_spec ownCells_exist
theorem union_eq : live ∪ dorm = cells := by rw [live_eq, dorm_eq, cells_eq]

theorem kind_osem : ∀ k : OS, kind (osem k) = match k with | .inl j => .snd j | .inr (.inl j) => .rcv j | .inr (.inr s) => .w s
  | .inl j => kind_snd j
  | .inr (.inl j) => kind_rcv j
  | .inr (.inr s) => kind_w s
theorem osem_inj : Function.Injective osem := fun a b h => by
  have e := congrArg kind h
  rw [kind_osem, kind_osem] at e
  rcases a with a | a | a <;> rcases b with b | b | b <;> simp_all
theorem osem_ne_bar (k : OS) : osem k ≠ .reg barS := kind_inj (by rw [kind_osem, kind_bar]; rcases k with k | k | k <;> simp)

theorem live_dorm : Disjoint live dorm := by
  rw [live_eq, dorm_eq, Finset.disjoint_left]
  intro g h1 h2
  obtain ⟨c, -, rfl⟩ := Finset.mem_image.mp h1
  obtain ⟨x, -, h⟩ := Finset.mem_image.mp h2
  exact osem_ne_bar x.2 (congrArg Prod.snd h)

theorem bigSep_live (Φ : GSem nD τ sig → sProp 𝕄) : bigSep live Φ = bigSep Finset.univ fun c : Dev nD => Φ (barC c) := by
  rw [live_eq, bigSep_image_of_injOn (fun a _ b _ h => barC_inj h)]
theorem bigSep_dorm (Φ : GSem nD τ sig → sProp 𝕄) :
    bigSep dorm Φ = bigSep Finset.univ fun c : Dev nD => bigSep Finset.univ fun k : OS => Φ ((c : Thread nD τ), osem k) := by
  rw [dorm_eq, bigSep_image_of_injOn (fun a _ b _ h =>
    Prod.ext (congrArg (fun g : GSem nD τ sig => g.1.1) h) (osem_inj (congrArg Prod.snd h))), bigSep_univ_prod]

/-! ## The tokens -/

abbrev Tok : Type := GSem nD τ sig × ℕ × Dev nD

/-- The token of device `x.1`'s signal to device `x.2`; -/
def tkB (x : Dev nD × Dev nD) : Tok := (barC x.2, 0, x.1)
/-- of the sending side of its `x.2`-th send; -/
def tkS (x : Dev nD × ℕ) : Tok := (sndC x.1 (ord x.1 x.2), 0, 0)
/-- of the receiving side; -/
def tkR (x : Dev nD × ℕ) : Tok := (rcvC (ord x.1 x.2) x.1, 0, 0)
/-- of its `x.2`-th load of the right factor. -/
def tkW (x : Dev nD × ℕ) : Tok := (wC x.1 (sl x.2), x.2 / 3, 0)

theorem toks_exist : ∃ TB TS TR TW : Finset Tok, TB = (Finset.univ : Finset (Dev nD × Dev nD)).image tkB
    ∧ TS = ((Finset.univ : Finset (Dev nD)) ×ˢ Finset.Ico 1 16).image tkS
    ∧ TR = ((Finset.univ : Finset (Dev nD)) ×ˢ Finset.Ico 1 16).image tkR
    ∧ TW = ((Finset.univ : Finset (Dev nD)) ×ˢ Finset.Ico 0 16).image tkW := ⟨_, _, _, _, rfl, rfl, rfl, rfl⟩

def TB : Finset Tok := Classical.choose toks_exist
def TS : Finset Tok := Classical.choose (Classical.choose_spec toks_exist)
def TR : Finset Tok := Classical.choose (Classical.choose_spec (Classical.choose_spec toks_exist))
def TW : Finset Tok := Classical.choose (Classical.choose_spec (Classical.choose_spec (Classical.choose_spec toks_exist)))
theorem toks_spec : TB = (Finset.univ : Finset (Dev nD × Dev nD)).image tkB
    ∧ TS = ((Finset.univ : Finset (Dev nD)) ×ˢ Finset.Ico 1 16).image tkS
    ∧ TR = ((Finset.univ : Finset (Dev nD)) ×ˢ Finset.Ico 1 16).image tkR
    ∧ TW = ((Finset.univ : Finset (Dev nD)) ×ˢ Finset.Ico 0 16).image tkW :=
  Classical.choose_spec (Classical.choose_spec (Classical.choose_spec (Classical.choose_spec toks_exist)))
/-- Every duty's token. -/
def toks : Finset Tok := TB ∪ (TS ∪ (TR ∪ TW))

theorem tkB_kind {t : Tok} (h : t ∈ TB) : kind t.1.2 = .bar := by
  rw [toks_spec.1] at h; obtain ⟨x, -, rfl⟩ := Finset.mem_image.mp h; exact kind_bar
theorem tkS_kind {t : Tok} (h : t ∈ TS) : ∃ j, kind t.1.2 = .snd j := by
  rw [toks_spec.2.1] at h; obtain ⟨x, -, rfl⟩ := Finset.mem_image.mp h; exact ⟨_, kind_snd _⟩
theorem tkR_kind {t : Tok} (h : t ∈ TR) : ∃ j, kind t.1.2 = .rcv j := by
  rw [toks_spec.2.2.1] at h; obtain ⟨x, -, rfl⟩ := Finset.mem_image.mp h; exact ⟨_, kind_rcv _⟩
theorem tkW_kind {t : Tok} (h : t ∈ TW) : ∃ j, kind t.1.2 = .w j := by
  rw [toks_spec.2.2.2] at h; obtain ⟨x, -, rfl⟩ := Finset.mem_image.mp h; exact ⟨_, kind_w _⟩

theorem disj_RW : Disjoint TR TW := Finset.disjoint_left.mpr fun t h1 h2 => by
  obtain ⟨j, e1⟩ := tkR_kind h1; obtain ⟨i, e2⟩ := tkW_kind h2
  rw [e1] at e2; simp at e2
theorem disj_S : Disjoint TS (TR ∪ TW) := Finset.disjoint_left.mpr fun t h1 h2 => by
  obtain ⟨j, e1⟩ := tkS_kind h1
  rcases Finset.mem_union.mp h2 with h2 | h2
  · obtain ⟨i, e2⟩ := tkR_kind h2; rw [e1] at e2; simp at e2
  · obtain ⟨i, e2⟩ := tkW_kind h2; rw [e1] at e2; simp at e2
theorem disj_B : Disjoint TB (TS ∪ (TR ∪ TW)) := Finset.disjoint_left.mpr fun t h1 h2 => by
  have e1 := tkB_kind h1
  rcases Finset.mem_union.mp h2 with h2 | h2
  · obtain ⟨i, e2⟩ := tkS_kind h2; rw [e1] at e2; simp at e2
  rcases Finset.mem_union.mp h2 with h2 | h2
  · obtain ⟨i, e2⟩ := tkR_kind h2; rw [e1] at e2; simp at e2
  · obtain ⟨i, e2⟩ := tkW_kind h2; rw [e1] at e2; simp at e2

theorem tkB_inj : Function.Injective tkB := fun a b h =>
  Prod.ext (congrArg (fun t : Tok => t.2.2) h) (barC_inj (congrArg (fun t : Tok => t.1) h))
theorem dev_of {g g' : GSem nD τ sig} (h : g = g') : g.1.1 = g'.1.1 := congrArg (fun t : GSem nD τ sig => t.1.1) h
theorem kind_of {g g' : GSem nD τ sig} (h : g = g') : kind g.2 = kind g'.2 := congrArg (fun t : GSem nD τ sig => kind t.2) h
theorem mem_ico {n : ℕ} {x : Dev nD × ℕ} (h : x ∈ (Finset.univ : Finset (Dev nD)) ×ˢ Finset.Ico n 16) : x.2 < 16 :=
  (Finset.mem_Ico.mp (Finset.mem_product.mp h).2).2
theorem tkS_inj : Set.InjOn tkS ((Finset.univ : Finset (Dev nD)) ×ˢ Finset.Ico 1 16 : Finset (Dev nD × ℕ)) := by
  rintro ⟨c, k⟩ ha ⟨d, l⟩ hb h
  have h1 : sndC c (ord c k) = sndC d (ord d l) := congrArg (fun t : Tok => t.1) h
  obtain rfl : c = d := dev_of h1
  have h2 := kind_of h1
  simp only [kind_snd] at h2
  exact Prod.ext rfl (ord_inj c (mem_ico ha) (mem_ico hb) (Kind.snd.inj h2))
theorem tkR_inj : Set.InjOn tkR ((Finset.univ : Finset (Dev nD)) ×ˢ Finset.Ico 1 16 : Finset (Dev nD × ℕ)) := by
  rintro ⟨c, k⟩ ha ⟨d, l⟩ hb h
  obtain ⟨h1, h2⟩ := rcvC_inj (congrArg (fun t : Tok => t.1) h)
  obtain rfl : c = d := h2
  exact Prod.ext rfl (ord_inj c (mem_ico ha) (mem_ico hb) h1)
theorem tkW_inj : Set.InjOn tkW ((Finset.univ : Finset (Dev nD)) ×ˢ Finset.Ico 0 16 : Finset (Dev nD × ℕ)) := by
  rintro ⟨c, k⟩ ha ⟨d, l⟩ hb h
  have h1 : wC c (sl k) = wC d (sl l) := congrArg (fun t : Tok => t.1) h
  have h3 : k / 3 = l / 3 := congrArg (fun t : Tok => t.2.1) h
  obtain rfl : c = d := dev_of h1
  have h2 := kind_of h1
  simp only [kind_w] at h2
  have h4 : k % 3 = l % 3 := congrArg Fin.val (Kind.w.inj h2)
  exact Prod.ext rfl (by show k = l; omega)

theorem bigSep_toks (Φ : Tok → sProp 𝕄) : bigSep toks Φ
    = bigSep Finset.univ fun c : Dev nD => iprop(bigSep Finset.univ (fun p : Dev nD => Φ (barC p, 0, c))
      ∗ bigSep (Finset.Ico 1 16) (fun k => iprop(Φ (sndC c (ord c k), 0, 0) ∗ Φ (rcvC (ord c k) c, 0, 0)))
      ∗ bigSep (Finset.Ico 0 16) fun i => Φ (wC c (sl i), i / 3, 0)) := by
  unfold toks
  rw [BI.bigSep_union disj_B, BI.bigSep_union disj_S, BI.bigSep_union disj_RW, toks_spec.1, toks_spec.2.1, toks_spec.2.2.1, toks_spec.2.2.2,
    bigSep_image_of_injOn tkB_inj.injOn, bigSep_image_of_injOn tkS_inj, bigSep_image_of_injOn tkR_inj, bigSep_image_of_injOn tkW_inj,
    bigSep_univ_prod, SparseCore.bigSep_product, SparseCore.bigSep_product, SparseCore.bigSep_product]
  simp only [bigSep_sep']
  rw [assoc_eq]
  rfl
theorem toks_eq : bigSep toks (fun x => (dutyTok ER x.1 x.2.1 x.2.2 : sProp 𝕄)) = bigSep Finset.univ fun c : Dev nD => pay c := by
  rw [bigSep_toks]; rfl

end Cert.KernelIdeal.AG

end
-- ==== Proof.KernelIdeal.Launch.lean ====
/-
The launch of the whole program and its run: every device ends with the sum of its block products, its arguments unchanged,
every counter zero.
-/
module

public import proofs.«01_k».proof.Proof.KernelIdeal.Call
public import proofs.«01_k».proof.Proof.KernelIdeal.Deal

@[expose] public section

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg BodyObligation cellOf Seg)

variable (m : (ℓ : Loc nD τ sig) → Buf (Elt F) ℓ) (ρ : Dev nD → PrngReg)

/-! ## The launch -/

/-- The ghost state at launch: the staging cells' part and the protocol's. -/
def u₀ : UU :=
  (initOf (Pipeline.cells (Pipeline.pin (pcfgs (F := F)) adm) cellOf_inj) (Pipeline.launchToks (Pipeline.pin (pcfgs (F := F)) adm) cellOf_inj),
    launchOf live dorm toks)

/-- All of the protocol's ghost state, kept by device 0 until it is dealt out. -/
def G (c : Dev nD) : sProp 𝕄 := if c = 0 then BI.own (ER (launchOf live dorm toks)) else iprop(emp)
theorem bigSep_G : bigSep Finset.univ (G (F := F)) = BI.own (ER (launchOf live dorm toks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- What every device may consult: the invariants, and that every barrier's first round is reached. -/
def records (K : GSem nD τ sig → ℕ) : sProp 𝕄 := iprop(IV (dm m) K ∗ bigSep Finset.univ fun p : Dev nD => reached ER (barC p) 0)
instance records_persistent (K : GSem nD τ sig → ℕ) : BI.Persistent (records m K) := by unfold records; infer_instance

/-- What one device alone gets of the protocol. -/
def share (c : Dev nD) : sProp 𝕄 :=
  iprop(atPos ER (barC c) 0 ∅ 0 ∗ bigSep Finset.univ (fun k : OS => openTok ER ((c : Thread nD τ), osem k)) ∗ pay c)
/-- What a device has at launch beside it. -/
def rest (c : Dev nD) : sProp 𝕄 :=
  iprop(StableHlo.held (c : Thread nD τ) (Pipeline.ucRefs τ sig) (V0 m c) ∗ crd c ∗ (∃ r, prngReg c r) ∗ owes (c : Thread nD τ) (O₀ c) ∅)
/-- A device's state at the start of its program. -/
abbrev T₀ (c : Dev nD) : sProp 𝕄 := iprop(StableHlo.held (c : Thread nD τ) (Pipeline.ucRefs τ sig) (V0 m c) ∗ Rd m c)
/-- A device's state at its end. -/
abbrev Tₙ (c : Dev nD) : sProp 𝕄 := iprop(StableHlo.held (c : Thread nD τ) (Pipeline.ucRefs τ sig) (VF m c) ∗ semVal (barC c) 0)

theorem T₀_intro (K : GSem nD τ sig → ℕ) (c : Dev nD) : iprop(records m K ∗ (share c ∗ rest m c)) ⊢ T₀ m c := by
  unfold records share rest T₀ Rd Tk bar0
  iintro ⟨⟨#HI, #Hr⟩, ⟨Hat, Ho, Hp⟩, Hh, Hc, Hg, HO⟩
  isplitl [Hh]; · iexact Hh
  isplitl [Hat Ho Hp Hc]
  · isplitr [Hc]
    · iexists K
      isplitr; · iexact HI
      isplitl [Hat]
      · isplitl [Hat]; · iexact Hat
        iexact Hr
      isplitl [Ho] <;> iassumption
    · iexact Hc
  isplitl [Hg]; · iexact Hg
  iexists ∅; iexact HO

theorem unscopedSems0_eq (c : Dev nD) : (unscopedSems0 c : sProp 𝕄) = semVal (barC c) 0 := by
  unfold unscopedSems0
  rw [show (Finset.univ.filter fun sm : SemLoc sig => ¬ sm.isScoped .tc) = {SemLoc.reg barS} from by decide, BI.bigSep_singleton]

/-- What a device has at launch, sorted. -/
theorem core (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop((rest m c ∗ semVal (barC c) 0) ∗ G c) : sProp 𝕄) := by
  rw [show unscopedBufs c (fun b => m ((c : Thread nD τ).loc b)) = StableHlo.held (c : Thread nD τ) (Pipeline.ucRefs τ sig) (V0 m c)
      from Pipeline.unscopedBufs_held (Ix := Unit) (Name := ℕ) (U := UU) (Lvl := ℕ) c (V0 m c), unscopedSems0_eq]
  unfold rest
  iintro ⟨Hh, Hv, HO, Hc, Hp, HG⟩
  isplitr [HG]
  · isplitr [Hv]
    · isplitl [Hh]; · iexact Hh
      isplitl [Hc]; · iapply (creds (F := F) c) $$ Hc
      isplitl [Hp]; · iexists (ρ c); iexact Hp
      iexact HO
    · iexact Hv
  iexact HG

theorem core_all : (bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ G c))
    ⊢ (iprop((bigSep Finset.univ (rest m) ∗ bigSep live (fun g => semVal g 0)) ∗ BI.own (ER (launchOf live dorm toks))) : sProp 𝕄) := by
  refine BIBase.Entails.trans (bigSep_mono fun c _ => core m ρ c) (Entails.of_eq ?_)
  rw [bigSep_sep', bigSep_sep', bigSep_live, ← bigSep_G (F := F)]

theorem shares : iprop(bigSep live (fun g => atPos ER g 0 ∅ 0) ∗ bigSep dorm (fun g => openTok ER g)
      ∗ bigSep toks (fun x => dutyTok ER x.1 x.2.1 x.2.2)) ⊢ (bigSep Finset.univ (share (F := F)) : sProp 𝕄) := by
  rw [bigSep_live, bigSep_dorm, toks_eq]
  unfold share
  rw [bigSep_sep', bigSep_sep']

theorem records_intro (K : GSem nD τ sig → ℕ) : iprop(bigSep (live ∪ dorm) (fun g => cellInv ER (rd (dm m)) (K g) g) ∗ bigSep live (fun g => reached ER g 0))
    ⊢ (records m K : sProp 𝕄) := by
  rw [union_eq, bigSep_live]
  exact BI.Entails.refl _

theorem deal (K : GSem nD τ sig → ℕ) : iprop(records m K ∗ bigSep Finset.univ (share (F := F)) ∗ bigSep Finset.univ (rest m)) ⊢ (bigSep Finset.univ (T₀ m) : sProp 𝕄) := by
  refine BIBase.Entails.trans ?_ (bigSep_with_persistent (R := records m K) (Φ := fun c => iprop(share c ∗ rest m c)) fun c _ => T₀_intro m K c)
  rw [bigSep_sep']

/-- The launch: the protocol is set up and dealt out to the devices. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  ihave H' := (core_all m ρ) $$ H
  icases H' with ⟨⟨Hrest, Hv⟩, Hu⟩
  imod (Rounds.fund_launch ER (rd (dm m)) live_dorm (fun g _ h => h) toks) $$ [Hv Hu] with ⟨%K, -, Hinv, Hr, Hat, Ho, Ht⟩
  · isplitl [Hv] <;> iassumption
  imodintro
  iapply (deal m K)
  isplitl [Hinv Hr]
  · iapply (records_intro m K)
    isplitl [Hinv] <;> iassumption
  isplitl [Hat Ho Ht]
  · iapply (shares (F := F))
    isplitl [Hat]; · iexact Hat
    isplitl [Ho] <;> iassumption
  iexact Hrest

/-! ## The run -/

theorem unscoped_eq : ∀ sm : SemLoc sig, sm.isScoped .tc = false → sm = .reg barS := by decide

/-- What a device carries beside its buffers. -/
def E : Fin 2 → Dev nD → sProp 𝕄 := fun _ => Rd m

set_option backward.isDefEq.respectTransparency.types false in
/-- The run: from any memory with zero counters, the program ends on every schedule; every device's result then holds the sum of its sixteen block
    products, its arguments are as they were, and every counter is zero. -/
theorem run_main : θ_run defs (onTc (τ := τ) (main (F := F))) ⟨m, fun _ => 0, ρ⟩
    (fun r => (∀ c : Dev nD, r.2.mem ((c.tc : Thread nD τ).loc main_v13) = acc (dm m) c 15
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  Pipeline.θ_run_regions_kit_dev_sems (pcfgs (F := F)) adm (pdats m) () cellOf_inj EP defs₀ 𝒱₀ L lv m ρ main
    (segs m 𝒱₀ L lv (E m) () (pdats m) (reg0 m))
    (fun c Q => by
      rewrite [main_chain c, Seg.run_eq_chain,
        show (segs m 𝒱₀ L lv (E m) () (pdats m) (reg0 m) c).map Seg.prog = [
          StableHlo.seq (hostOps0 c),
          Prog.lift (.customCall (Pipeline.entry 0) ()) ] from rfl]
      dsimp (config := { failIfUnchanged := false }) only
      exact .rfl)
    (fun c => by simp only [segs, Seg.pipes_host, Seg.pipes_region, Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [bigSep_G]; iexact HX)
    (T₀ := T₀ m) (Tₙ := Tₙ m)
    (hch := fun c => ⟨.rfl, reg0_pre m c, reg0_post m c⟩)
    (hinit := init m ρ)
    (QY := fun c s => (s.mem ((c.tc : Thread nD τ).loc main_v13) = VF m c (Proc.devRef .tc main_v13)
        ∧ s.mem ((c.tc : Thread nD τ).loc main_arg0) = VF m c (Proc.devRef .tc main_arg0)
        ∧ s.mem ((c.tc : Thread nD τ).loc main_arg1) = VF m c (Proc.devRef .tc main_arg1)) ∧ s.sem (barC c) = 0)
    (hfin := fun c s' => by
      dsimp only [Tₙ]; unfold StableHlo.held
      iintro ⟨⟨Hh, Hb0⟩, HSI⟩
      icombine HSI Hb0 gives %hb
      ihave Hr := (pointsTo_read_all (Pipeline.ucRefs τ sig) (fun b => ((c : Thread nD τ).1, b)) (VF m c) s') $$ [Hh HSI]
      · isplitl [Hh] <;> iassumption
      icases Hr with ⟨%h, HSI⟩
      imodintro
      isplitr
      · ipureintro
        exact ⟨⟨h (Proc.devRef .tc main_v13) (Finset.mem_filter.mpr ⟨StableHlo.devRef_mem_tcRefs main_v13, by decide⟩),
          h (Proc.devRef .tc main_arg0) (Finset.mem_filter.mpr ⟨StableHlo.devRef_mem_tcRefs main_arg0, by decide⟩),
          h (Proc.devRef .tc main_arg1) (Finset.mem_filter.mpr ⟨StableHlo.devRef_mem_tcRefs main_arg1, by decide⟩)⟩, by simpa using hb⟩
      iexact HSI)
    (hQ := fun s h hs => ⟨fun c => by
        obtain ⟨⟨h1, h2, h3⟩, -⟩ := h c
        refine ⟨h1.trans ?_, h2.trans (V2_main_arg0 m (outs m) c), h3.trans (V2_main_arg1 m (outs m) c)⟩
        show Function.update (V1 m c) (Proc.devRef .tc main_v13) (outs m 2 main_v13 c) (Proc.devRef .tc main_v13) = _
        rw [Function.update_self, outs_eq],
      sem_eq_zero hs fun c sm hsm => by
        obtain rfl := unscoped_eq sm hsm
        exact (h c).2⟩)

end Cert.KernelIdeal.AG

end
-- ==== Proof.KernelIdeal.Value.lean ====
/-
The value of the gather: over the extended reals, the sum of a device's sixteen block products is that device's block of rows
of the product of the whole arrays.
-/
module

public import proofs.«01_k».proof.Proof.KernelIdeal.Launch
public import proofs.«01_k».proof.Proof.Gen.ReferenceIdeal.Run
public import Idealize.ShloMosaic.Lib.Layout
public import Idealize.ShloMosaic.Lib.Pointwise
public import Idealize.ShloMosaic.PureOps.Ideal.Laws

@[expose] public section

noncomputable section

namespace Cert.KernelIdeal.AG

open Cert.KernelIdeal Cert.KernelIdeal.Gen
open Idealize.ShloMosaic hiding ix2 ix3 eq_ix2
open Idealize.ShloMosaic.TcCoe
open Idealize.ShloMosaic.ValueIdx (ix2 ix3 eq_ix2 eq_ix3 shapeCast_1ab_ab_apply)

/-! ## What the three reads of a step hold -/

section Reads

variable (D : Data Ideal) (c : Dev nD)

/-- The rounded operand is the operand: rounding is the identity on the extended reals. -/
theorem xb_eq (i : S4096x256.Idx) : D.xb c i = D.x c i := by
  show k0_pay1 (D.x c) i = D.x c i
  unfold k0_pay1
  simp only [shapeCast_self]
  rfl

/-- A device's own block: its rows of its own operand. -/
theorem aOwn_apply (p q : Fin 256) : aOwn D c (ix2 p q) = D.x c (ix2 (row c p) q) := by
  show D.xb c ((xbfV c).view.emb (ix2 p q)) = _
  rw [xbf_emb, xb_eq]

/-- The block received at step `k`: the device's rows of the operand of the device whose turn it is. -/
theorem aRcv_apply (k : ℕ) (p q : Fin 256) :
    aRcv D c k (ix3 (0 : Fin 1) p q) = D.x (ord c k) (ix2 (row c p) q) := by
  have e : (Rect.unit (s := S16x256x256) ![(ord c k).val, 0, 0] S1x256x256.size (inbRecv (ord c k))).emb (ix3 (0 : Fin 1) p q)
      = ix3 ⟨(ord c k).val, (ord c k).isLt⟩ p q := by
    funext a; apply Fin.ext; rw [Rect.emb_apply]
    fin_cases a <;> simp [Rect.unit]
  show D.land c ((Rect.unit (s := S16x256x256) ![(ord c k).val, 0, 0] S1x256x256.size (inbRecv (ord c k))).emb (ix3 (0 : Fin 1) p q)) = _
  rw [e]
  exact xb_eq D (ord c k) _

/-- The slot read at step `k`: the weight's rows for the device whose turn it is. -/
theorem wRd_apply (k : ℕ) (p : Fin 256) (q : Fin 8192) :
    wRd D c k (ix3 (0 : Fin 1) p q) = D.w c (ix2 (row (ord c k) p) q) := by
  have e : (Rect.unit (s := S3x256x8192) ![(sl k).val, 0, 0] S1x256x8192.size (inbSlot (sl k))).emb (ix3 (0 : Fin 1) p q)
      = ix3 (sl k) p q := by
    funext a; apply Fin.ext; rw [Rect.emb_apply]
    fin_cases a <;> simp [Rect.unit]
  show D.ring c k ((Rect.unit (s := S3x256x8192) ![(sl k).val, 0, 0] S1x256x8192.size (inbSlot (sl k))).emb (ix3 (0 : Fin 1) p q)) = _
  rw [e]
  rfl

end Reads

/-! ## The two products -/

/-- A block product into zero, at a row and a column. -/
theorem prod_apply (A : FVec Ideal S256x256 .f32) (B : FVec Ideal S256x8192 .f32) (p : Fin 256) (q : Fin 8192) :
    matmul dot_S256x256_S256x8192_S256x8192_1_0_0_1_n_n none A B (constant S256x8192 .f32 0x00000000#32) (ix2 p q)
      = ∑ y : Fin 256, A (ix2 p y) * B (ix2 y q) := by
  refine (Ideal.matmul_constant_zero_apply dot_S256x256_S256x8192_S256x8192_1_0_0_1_n_n none A B (ix2 p q)).trans ?_
  rw [DotDims.sum_contr₁ dot_S256x256_S256x8192_S256x8192_1_0_0_1_n_n (K := 256) rfl rfl]
  refine Finset.sum_congr rfl fun y _ => ?_
  exact congrArg₂ (fun i j => A i * B j) (by funext a; apply Fin.ext; fin_cases a <;> rfl) (by funext a; apply Fin.ext; fin_cases a <;> rfl)

/-- The product of the whole arrays, at a row and a column. -/
theorem whole_apply (X : FVec Ideal Cert.ReferenceIdeal.S4096x4096 .f32) (W : FVec Ideal Cert.ReferenceIdeal.S4096x8192 .f32)
    (i : Cert.ReferenceIdeal.S4096x8192.Idx) :
    Host.dotGeneral (F := Ideal) Cert.ReferenceIdeal.dot_S4096x4096_S4096x8192_S4096x8192_1_0_0_1_n_n none X W i
      = ∑ y : Fin 4096, X (ix2 (i 0) y) * W (ix2 y (i 1)) := by
  refine (Ideal.dotGeneral_apply Cert.ReferenceIdeal.dot_S4096x4096_S4096x8192_S4096x8192_1_0_0_1_n_n none _ X W i).trans ?_
  rw [DotDims.sum_contr₁ Cert.ReferenceIdeal.dot_S4096x4096_S4096x8192_S4096x8192_1_0_0_1_n_n (K := 4096) rfl rfl]
  refine Finset.sum_congr rfl fun y _ => ?_
  exact congrArg₂ (fun i j => X i * W j) (by funext a; apply Fin.ext; fin_cases a <;> rfl) (by funext a; apply Fin.ext; fin_cases a <;> rfl)

/-! ## The accumulated sum -/

section Sum

variable (D : Data Ideal) (c : Dev nD)

/-- Device `j`'s share of device `c`'s result, at a row and a column. -/
def term (j : Dev nD) (p : Fin 256) (q : Fin 8192) : EReal :=
  ∑ y : Fin 256, D.x j (ix2 (row c p) y) * D.w c (ix2 (row j y) q)

/-- The first step's product is the device's own share. -/
theorem first_apply (p : Fin 256) (q : Fin 8192) : k0_pay2 (aOwn D c) (wRd D c 0) (ix2 p q) = term D c c p q := by
  unfold k0_pay2
  refine (prod_apply _ _ p q).trans (Finset.sum_congr rfl fun y _ => ?_)
  rw [shapeCast_1ab_ab_apply, wRd_apply, ord_zero]
  exact congrArg (· * _) (aOwn_apply D c p y)

/-- A later step adds the share of the device whose turn it is. -/
theorem next_apply (k : ℕ) (v : Vec Ideal S256x8192 .f32) (p : Fin 256) (q : Fin 8192) :
    k0_pay3 (aRcv D c k) (wRd D c k) v (ix2 p q) = v (ix2 p q) + term D c (ord c k) p q := by
  unfold k0_pay3
  simp only [shapeCast_self]
  refine congrArg (v (ix2 p q) + ·) ((prod_apply _ _ p q).trans (Finset.sum_congr rfl fun y _ => ?_))
  rw [shapeCast_1ab_ab_apply, wRd_apply]
  refine congrArg (· * _) ?_
  exact (shapeCast_1ab_ab_apply (aRcv D c k) _ p y).trans (aRcv_apply D c k p y)

/-- After step `k` the result holds the shares of the first `k + 1` devices in turn. -/
theorem acc_apply (k : ℕ) (p : Fin 256) (q : Fin 8192) :
    acc D c k (ix2 p q) = ∑ l ∈ Finset.range (k + 1), term D c (ord c l) p q := by
  induction k with
  | zero => rw [Finset.sum_range_one, ord_zero]; exact first_apply D c p q
  | succ k ih => rw [Finset.sum_range_succ, ← ih]; exact next_apply D c (k + 1) (acc D c k) p q

/-- At the end it holds every device's share once. -/
theorem acc_last (p : Fin 256) (q : Fin 8192) : acc D c 15 (ix2 p q) = ∑ j : Fin 16, term D c j p q := by
  rw [acc_apply, Finset.sum_range]
  refine (Finset.sum_congr rfl fun k _ => by rw [ord_fin]).trans ?_
  exact Equiv.sum_comp (Equiv.ofBijective (ordF c) (ordF_bij c)) (fun j => term D c j p q)

end Sum

/-- Sixteen devices holding the column blocks of `X` and each the whole of `W`: device `c` ends with block `c` of the rows of
`X` times `W`. -/
theorem acc_block (D : Data Ideal) (c : Dev nD) (X : FVec Ideal Cert.ReferenceIdeal.S4096x4096 .f32)
    (W : FVec Ideal Cert.ReferenceIdeal.S4096x8192 .f32)
    (hx : ∀ j : Dev nD, D.x j = Layout.block ⟨2, ![4096, 256]⟩ ⟨2, ![4096, 4096]⟩ 1 16 j X) (hw : D.w c = W) :
    acc D c 15 = Layout.block ⟨2, ![256, 8192]⟩ ⟨2, ![4096, 8192]⟩ 0 16 c
      (Host.dotGeneral (F := Ideal) Cert.ReferenceIdeal.dot_S4096x4096_S4096x8192_S4096x8192_1_0_0_1_n_n none X W) := by
  funext i
  obtain ⟨p, q, rfl⟩ : ∃ (p : Fin 256) (q : Fin 8192), i = ix2 p q := ⟨i 0, i 1, eq_ix2 i⟩
  rw [acc_last, Layout.block_apply, whole_apply, Fin.sum_univ_tiles 16 256 rfl]
  refine Finset.sum_congr rfl fun j _ => Finset.sum_congr rfl fun y _ => ?_
  rw [hx j, hw, Layout.block_apply]
  refine congrArg₂ (fun a b => X a * W b) ?_ ?_
  · funext a; apply Fin.ext
    fin_cases a
    · show 256 * c.val + p.val = c.val * 256 + p.val
      omega
    · rfl
  · funext a; apply Fin.ext
    fin_cases a
    · show 256 * j.val + y.val = j.val * 256 + y.val
      omega
    · rfl

/-- The same of the program's launch memory. -/
theorem launch_block (m : (ℓ : Loc nD τ sig) → Buf (Elt Ideal) ℓ) (c : Dev nD) (X : FVec Ideal Cert.ReferenceIdeal.S4096x4096 .f32)
    (W : FVec Ideal Cert.ReferenceIdeal.S4096x8192 .f32)
    (h : ∀ j : Dev nD, m ((j.tc : Thread nD τ).loc main_arg0) = Layout.block ⟨2, ![4096, 256]⟩ ⟨2, ![4096, 4096]⟩ 1 16 j X
      ∧ m ((j.tc : Thread nD τ).loc main_arg1) = W) :
    acc (dm m) c 15 = Layout.block ⟨2, ![256, 8192]⟩ ⟨2, ![4096, 8192]⟩ 0 16 c
      (Host.dotGeneral (F := Ideal) Cert.ReferenceIdeal.dot_S4096x4096_S4096x8192_S4096x8192_1_0_0_1_n_n none X W) :=
  acc_block (dm m) c X W (fun j => (V1_of m j main_arg0 (by decide)).trans (h j).1)
    ((V1_of m c main_arg1 (by decide)).trans (h c).2)

end Cert.KernelIdeal.AG

end
-- ==== Proof.lean ====
/- The claims put together: the frames of the three programs, the idealization, and the value on every device. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.KernelIdeal.Value
public import Idealize.ShloMosaic.Adequacy
public import Idealize.ShloMosaic.Init

@[expose] public section

noncomputable section

namespace Cert.Proof

open Idealize.ShloMosaic Idealize.SL.Sem Cert.Kernel

/-- The printed kernel runs, its arguments end unchanged, every counter is zero. -/
theorem frame_kernel : Cert.quiescent_Kernel := fun m g _ =>
  (θ_run _ _ _).mono (fun _ h => ⟨fun c => (h.1 c).2, h.2⟩) (Cert.Kernel.AG.run_main m g)

/-- So does the idealized kernel. -/
theorem frame_kernelIdeal : Cert.quiescent_KernelIdeal := fun m g _ =>
  (θ_run _ _ _).mono (fun _ h => ⟨fun c => (h.1 c).2, h.2⟩) (Cert.KernelIdeal.AG.run_main m g)

/-- So does the reference. -/
theorem frame_referenceIdeal : Cert.quiescent_ReferenceIdeal := fun m g _ =>
  (θ_run _ _ _).mono (fun _ h => ⟨fun c => (h c).2, sem_eq_zero_of_no_sems rfl _⟩) (Cert.ReferenceIdeal.Value.run m g)

/-- Started from the blocks of the reference's arguments, every device of the idealized kernel ends with its block of the
reference's result. -/
theorem value : Cert.algebraic_KernelIdeal_ReferenceIdeal := fun m g m' g' _ hin =>
  ⟨_, (θ_run _ _ _).mono
      (fun _ h c => ⟨((h.1 c).1).trans (Cert.KernelIdeal.AG.launch_block m c _ _ hin), (h.1 c).2⟩)
      (Cert.KernelIdeal.AG.run_main m g),
    (θ_run _ _ _).mono (fun _ h => h 0) (Cert.ReferenceIdeal.Value.run m' g')⟩

theorem claim : Cert.Claim := ⟨Cert.Kernel.Gen.facts, Cert.KernelIdeal.Gen.facts, Cert.ReferenceIdeal.Gen.facts,
  frame_kernel, frame_kernelIdeal, frame_referenceIdeal, trivial, value⟩

end Cert.Proof

end
